-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_gains_finite [hPre_gains_finite : Cert.Pre_gains_finite.Facts] (m : (ℓ : Loc Cert.AttnIdeal.nD Cert.AttnIdeal.τ Cert.AttnIdeal.sig) → Buf (Elt Ideal) ℓ) : Prop :=
  ∀ c : Dev Cert.AttnIdeal.nD,
    (Cert.Pre_gains_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_gains_finite [hPre_gains_finite : Cert.Pre_gains_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_gains_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenRefIdeal (m : (ℓ : Loc Cert.InEvenRefIdeal.nD Cert.InEvenRefIdeal.τ Cert.InEvenRefIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddRefIdeal (m : (ℓ : Loc Cert.InOddRefIdeal.nD Cert.InOddRefIdeal.τ Cert.InOddRefIdeal.sig) → Buf (Elt Ideal) ℓ) : Prop :=
  True

def Pre_OutPrompt (m : (ℓ : Loc Cert.OutPrompt.nD Cert.OutPrompt.τ Cert.OutPrompt.sig) → Buf (Elt Bits) ℓ) : Prop :=
  True

def Pre_OutPromptIdeal (m : (ℓ : Loc Cert.OutPromptIdeal.nD Cert.OutPromptIdeal.τ Cert.OutPromptIdeal.sig) → Buf (Elt Ideal) ℓ) : Prop :=
  True

def Pre_OutPromptRefIdeal (m : (ℓ : Loc Cert.OutPromptRefIdeal.nD Cert.OutPromptRefIdeal.τ Cert.OutPromptRefIdeal.sig) → Buf (Elt Ideal) ℓ) : Prop :=
  True

def Pre_OutSample (m : (ℓ : Loc Cert.OutSample.nD Cert.OutSample.τ Cert.OutSample.sig) → Buf (Elt Bits) ℓ) : Prop :=
  True

def Pre_OutSampleIdeal (m : (ℓ : Loc Cert.OutSampleIdeal.nD Cert.OutSampleIdeal.τ Cert.OutSampleIdeal.sig) → Buf (Elt Ideal) ℓ) : Prop :=
  True

def Pre_OutSampleRefIdeal (m : (ℓ : Loc Cert.OutSampleRefIdeal.nD Cert.OutSampleRefIdeal.τ Cert.OutSampleRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_NormPrompt (m : (ℓ : Loc Cert.NormPrompt.nD Cert.NormPrompt.τ Cert.NormPrompt.sig) → Buf (Elt Bits) ℓ) : Prop :=
  True

def Pre_NormPromptIdeal (m : (ℓ : Loc Cert.NormPromptIdeal.nD Cert.NormPromptIdeal.τ Cert.NormPromptIdeal.sig) → Buf (Elt Ideal) ℓ) : Prop :=
  True

def Pre_NormPromptRefIdeal (m : (ℓ : Loc Cert.NormPromptRefIdeal.nD Cert.NormPromptRefIdeal.τ Cert.NormPromptRefIdeal.sig) → Buf (Elt Ideal) ℓ) : Prop :=
  True

def Pre_NormSample (m : (ℓ : Loc Cert.NormSample.nD Cert.NormSample.τ Cert.NormSample.sig) → Buf (Elt Bits) ℓ) : Prop :=
  True

def Pre_NormSampleIdeal (m : (ℓ : Loc Cert.NormSampleIdeal.nD Cert.NormSampleIdeal.τ Cert.NormSampleIdeal.sig) → Buf (Elt Ideal) ℓ) : Prop :=
  True

def Pre_NormSampleRefIdeal (m : (ℓ : Loc Cert.NormSampleRefIdeal.nD Cert.NormSampleRefIdeal.τ Cert.NormSampleRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_gains_finite [hAttnIdeal : Cert.AttnIdeal.Facts] [hPre_gains_finite : Cert.Pre_gains_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_gains_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_gains_finite [hAttnRefIdeal : Cert.AttnRefIdeal.Facts] [hPre_gains_finite : Cert.Pre_gains_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_gains_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2)
      ∧ r.2.mem ((c.tc : Thread Cert.InEven.nD Cert.InEven.τ).loc Cert.InEven.main_arg3) = m ((c.tc : Thread Cert.InEven.nD Cert.InEven.τ).loc Cert.InEven.main_arg3))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
      ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3))
      ∧ r.2.sem = fun _ => 0)

def quiescent_InEvenRefIdeal [hInEvenRefIdeal : Cert.InEvenRefIdeal.Facts] : Prop :=
  ∀ (m : (ℓ : Loc Cert.InEvenRefIdeal.nD Cert.InEvenRefIdeal.τ Cert.InEvenRefIdeal.sig) → Buf (Elt Ideal) ℓ) (g : Dev Cert.InEvenRefIdeal.nD → PrngReg), Pre_InEvenRefIdeal m →
    θ_run (Cert.InEvenRefIdeal.defs (F := Ideal)) (onTc (τ := Cert.InEvenRefIdeal.τ) (Cert.InEvenRefIdeal.main (F := Ideal))) ⟨m, fun _ => 0, g⟩ (fun r => (∀ c : Dev Cert.InEvenRefIdeal.nD,
      r.2.mem ((c.tc : Thread Cert.InEvenRefIdeal.nD Cert.InEvenRefIdeal.τ).loc Cert.InEvenRefIdeal.main_arg0) = m ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m ((c.tc : Thread Cert.InEvenRefIdeal.nD Cert.InEvenRefIdeal.τ).loc Cert.InEvenRefIdeal.main_arg1)
      ∧ r.2.mem ((c.tc : Thread Cert.InEvenRefIdeal.nD Cert.InEvenRefIdeal.τ).loc Cert.InEvenRefIdeal.main_arg2) = m ((c.tc : Thread Cert.InEvenRefIdeal.nD Cert.InEvenRefIdeal.τ).loc Cert.InEvenRefIdeal.main_arg2)
      ∧ r.2.mem ((c.tc : Thread Cert.InEvenRefIdeal.nD Cert.InEvenRefIdeal.τ).loc Cert.InEvenRefIdeal.main_arg3) = m ((c.tc : Thread Cert.InEvenRefIdeal.nD Cert.InEvenRefIdeal.τ).loc Cert.InEvenRefIdeal.main_arg3))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2)
      ∧ r.2.mem ((c.tc : Thread Cert.InOdd.nD Cert.InOdd.τ).loc Cert.InOdd.main_arg3) = m ((c.tc : Thread Cert.InOdd.nD Cert.InOdd.τ).loc Cert.InOdd.main_arg3))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
      ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1)
      ∧ r.2.mem ((c.tc : Thread Cert.InOddRefIdeal.nD Cert.InOddRefIdeal.τ).loc Cert.InOddRefIdeal.main_arg2) = m ((c.tc : Thread Cert.InOddRefIdeal.nD Cert.InOddRefIdeal.τ).loc Cert.InOddRefIdeal.main_arg2)
      ∧ r.2.mem ((c.tc : Thread Cert.InOddRefIdeal.nD Cert.InOddRefIdeal.τ).loc Cert.InOddRefIdeal.main_arg3) = m ((c.tc : Thread Cert.InOddRefIdeal.nD Cert.InOddRefIdeal.τ).loc Cert.InOddRefIdeal.main_arg3))
      ∧ r.2.sem = fun _ => 0)

def quiescent_OutPrompt [hOutPrompt : Cert.OutPrompt.Facts] : Prop :=
  ∀ (m : (ℓ : Loc Cert.OutPrompt.nD Cert.OutPrompt.τ Cert.OutPrompt.sig) → Buf (Elt Bits) ℓ) (g : Dev Cert.OutPrompt.nD → PrngReg), Pre_OutPrompt m →
    θ_run (Cert.OutPrompt.defs (F := Bits)) (onTc (τ := Cert.OutPrompt.τ) (Cert.OutPrompt.main (F := Bits))) ⟨m, fun _ => 0, g⟩ (fun r => (∀ c : Dev Cert.OutPrompt.nD,
      r.2.mem ((c.tc : Thread Cert.OutPrompt.nD Cert.OutPrompt.τ).loc Cert.OutPrompt.main_arg0) = m ((c.tc : Thread Cert.OutPrompt.nD Cert.OutPrompt.τ).loc Cert.OutPrompt.main_arg0)
      ∧ r.2.mem ((c.tc : Thread Cert.OutPrompt.nD Cert.OutPrompt.τ).loc Cert.OutPrompt.main_arg1) = m ((c.tc : Thread Cert.OutPrompt.nD Cert.OutPrompt.τ).loc Cert.OutPrompt.main_arg1)
      ∧ r.2.mem ((c.tc : Thread Cert.OutPrompt.nD Cert.OutPrompt.τ).loc Cert.OutPrompt.main_arg2) = m ((c.tc : Thread Cert.OutPrompt.nD Cert.OutPrompt.τ).loc Cert.OutPrompt.main_arg2)
      ∧ r.2.mem ((c.tc : Thread Cert.OutPrompt.nD Cert.OutPrompt.τ).loc Cert.OutPrompt.main_arg3) = m ((c.tc : Thread Cert.OutPrompt.nD Cert.OutPrompt.τ).loc Cert.OutPrompt.main_arg3)
      ∧ r.2.mem ((c.tc : Thread Cert.OutPrompt.nD Cert.OutPrompt.τ).loc Cert.OutPrompt.main_arg4) = m ((c.tc : Thread Cert.OutPrompt.nD Cert.OutPrompt.τ).loc Cert.OutPrompt.main_arg4))
      ∧ r.2.sem = fun _ => 0)

def quiescent_OutPromptIdeal [hOutPromptIdeal : Cert.OutPromptIdeal.Facts] : Prop :=
  ∀ (m : (ℓ : Loc Cert.OutPromptIdeal.nD Cert.OutPromptIdeal.τ Cert.OutPromptIdeal.sig) → Buf (Elt Ideal) ℓ) (g : Dev Cert.OutPromptIdeal.nD → PrngReg), Pre_OutPromptIdeal m →
    θ_run (Cert.OutPromptIdeal.defs (F := Ideal)) (onTc (τ := Cert.OutPromptIdeal.τ) (Cert.OutPromptIdeal.main (F := Ideal))) ⟨m, fun _ => 0, g⟩ (fun r => (∀ c : Dev Cert.OutPromptIdeal.nD,
      r.2.mem ((c.tc : Thread Cert.OutPromptIdeal.nD Cert.OutPromptIdeal.τ).loc Cert.OutPromptIdeal.main_arg0) = m ((c.tc : Thread Cert.OutPromptIdeal.nD Cert.OutPromptIdeal.τ).loc Cert.OutPromptIdeal.main_arg0)
      ∧ r.2.mem ((c.tc : Thread Cert.OutPromptIdeal.nD Cert.OutPromptIdeal.τ).loc Cert.OutPromptIdeal.main_arg1) = m ((c.tc : Thread Cert.OutPromptIdeal.nD Cert.OutPromptIdeal.τ).loc Cert.OutPromptIdeal.main_arg1)
      ∧ r.2.mem ((c.tc : Thread Cert.OutPromptIdeal.nD Cert.OutPromptIdeal.τ).loc Cert.OutPromptIdeal.main_arg2) = m ((c.tc : Thread Cert.OutPromptIdeal.nD Cert.OutPromptIdeal.τ).loc Cert.OutPromptIdeal.main_arg2)
      ∧ r.2.mem ((c.tc : Thread Cert.OutPromptIdeal.nD Cert.OutPromptIdeal.τ).loc Cert.OutPromptIdeal.main_arg3) = m ((c.tc : Thread Cert.OutPromptIdeal.nD Cert.OutPromptIdeal.τ).loc Cert.OutPromptIdeal.main_arg3)
      ∧ r.2.mem ((c.tc : Thread Cert.OutPromptIdeal.nD Cert.OutPromptIdeal.τ).loc Cert.OutPromptIdeal.main_arg4) = m ((c.tc : Thread Cert.OutPromptIdeal.nD Cert.OutPromptIdeal.τ).loc Cert.OutPromptIdeal.main_arg4))
      ∧ r.2.sem = fun _ => 0)

def quiescent_OutPromptRefIdeal [hOutPromptRefIdeal : Cert.OutPromptRefIdeal.Facts] : Prop :=
  ∀ (m : (ℓ : Loc Cert.OutPromptRefIdeal.nD Cert.OutPromptRefIdeal.τ Cert.OutPromptRefIdeal.sig) → Buf (Elt Ideal) ℓ) (g : Dev Cert.OutPromptRefIdeal.nD → PrngReg), Pre_OutPromptRefIdeal m →
    θ_run (Cert.OutPromptRefIdeal.defs (F := Ideal)) (onTc (τ := Cert.OutPromptRefIdeal.τ) (Cert.OutPromptRefIdeal.main (F := Ideal))) ⟨m, fun _ => 0, g⟩ (fun r => (∀ c : Dev Cert.OutPromptRefIdeal.nD,
      r.2.mem ((c.tc : Thread Cert.OutPromptRefIdeal.nD Cert.OutPromptRefIdeal.τ).loc Cert.OutPromptRefIdeal.main_arg0) = m ((c.tc : Thread Cert.OutPromptRefIdeal.nD Cert.OutPromptRefIdeal.τ).loc Cert.OutPromptRefIdeal.main_arg0)
      ∧ r.2.mem ((c.tc : Thread Cert.OutPromptRefIdeal.nD Cert.OutPromptRefIdeal.τ).loc Cert.OutPromptRefIdeal.main_arg1) = m ((c.tc : Thread Cert.OutPromptRefIdeal.nD Cert.OutPromptRefIdeal.τ).loc Cert.OutPromptRefIdeal.main_arg1)
      ∧ r.2.mem ((c.tc : Thread Cert.OutPromptRefIdeal.nD Cert.OutPromptRefIdeal.τ).loc Cert.OutPromptRefIdeal.main_arg2) = m ((c.tc : Thread Cert.OutPromptRefIdeal.nD Cert.OutPromptRefIdeal.τ).loc Cert.OutPromptRefIdeal.main_arg2)
      ∧ r.2.mem ((c.tc : Thread Cert.OutPromptRefIdeal.nD Cert.OutPromptRefIdeal.τ).loc Cert.OutPromptRefIdeal.main_arg3) = m ((c.tc : Thread Cert.OutPromptRefIdeal.nD Cert.OutPromptRefIdeal.τ).loc Cert.OutPromptRefIdeal.main_arg3)
      ∧ r.2.mem ((c.tc : Thread Cert.OutPromptRefIdeal.nD Cert.OutPromptRefIdeal.τ).loc Cert.OutPromptRefIdeal.main_arg4) = m ((c.tc : Thread Cert.OutPromptRefIdeal.nD Cert.OutPromptRefIdeal.τ).loc Cert.OutPromptRefIdeal.main_arg4))
      ∧ r.2.sem = fun _ => 0)

def quiescent_OutSample [hOutSample : Cert.OutSample.Facts] : Prop :=
  ∀ (m : (ℓ : Loc Cert.OutSample.nD Cert.OutSample.τ Cert.OutSample.sig) → Buf (Elt Bits) ℓ) (g : Dev Cert.OutSample.nD → PrngReg), Pre_OutSample m →
    θ_run (Cert.OutSample.defs (F := Bits)) (onTc (τ := Cert.OutSample.τ) (Cert.OutSample.main (F := Bits))) ⟨m, fun _ => 0, g⟩ (fun r => (∀ c : Dev Cert.OutSample.nD,
      r.2.mem ((c.tc : Thread Cert.OutSample.nD Cert.OutSample.τ).loc Cert.OutSample.main_arg0) = m ((c.tc : Thread Cert.OutSample.nD Cert.OutSample.τ).loc Cert.OutSample.main_arg0)
      ∧ r.2.mem ((c.tc : Thread Cert.OutSample.nD Cert.OutSample.τ).loc Cert.OutSample.main_arg1) = m ((c.tc : Thread Cert.OutSample.nD Cert.OutSample.τ).loc Cert.OutSample.main_arg1)
      ∧ r.2.mem ((c.tc : Thread Cert.OutSample.nD Cert.OutSample.τ).loc Cert.OutSample.main_arg2) = m ((c.tc : Thread Cert.OutSample.nD Cert.OutSample.τ).loc Cert.OutSample.main_arg2)
      ∧ r.2.mem ((c.tc : Thread Cert.OutSample.nD Cert.OutSample.τ).loc Cert.OutSample.main_arg3) = m ((c.tc : Thread Cert.OutSample.nD Cert.OutSample.τ).loc Cert.OutSample.main_arg3)
      ∧ r.2.mem ((c.tc : Thread Cert.OutSample.nD Cert.OutSample.τ).loc Cert.OutSample.main_arg4) = m ((c.tc : Thread Cert.OutSample.nD Cert.OutSample.τ).loc Cert.OutSample.main_arg4))
      ∧ r.2.sem = fun _ => 0)

def quiescent_OutSampleIdeal [hOutSampleIdeal : Cert.OutSampleIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg), Pre_OutSampleIdeal m →
    θ_run (Cert.OutSampleIdeal.defs (F := Ideal)) (onTc (τ := Cert.OutSampleIdeal.τ) (Cert.OutSampleIdeal.main (F := Ideal))) ⟨m, fun _ => 0, g⟩ (fun r => (∀ c : Dev Cert.OutSampleIdeal.nD,
      r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
      ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
      ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2)
      ∧ r.2.mem ((c.tc : Thread Cert.OutSampleIdeal.nD Cert.OutSampleIdeal.τ).loc Cert.OutSampleIdeal.main_arg3) = m ((c.tc : Thread Cert.OutSampleIdeal.nD Cert.OutSampleIdeal.τ).loc Cert.OutSampleIdeal.main_arg3)
      ∧ r.2.mem ((c.tc : Thread Cert.OutSampleIdeal.nD Cert.OutSampleIdeal.τ).loc Cert.OutSampleIdeal.main_arg4) = m ((c.tc : Thread Cert.OutSampleIdeal.nD Cert.OutSampleIdeal.τ).loc Cert.OutSampleIdeal.main_arg4))
      ∧ r.2.sem = fun _ => 0)

def quiescent_OutSampleRefIdeal [hOutSampleRefIdeal : Cert.OutSampleRefIdeal.Facts] : Prop :=
  ∀ (m : (ℓ : Loc Cert.OutSampleRefIdeal.nD Cert.OutSampleRefIdeal.τ Cert.OutSampleRefIdeal.sig) → Buf (Elt Ideal) ℓ) (g : Dev Cert.OutSampleRefIdeal.nD → PrngReg), Pre_OutSampleRefIdeal m →
    θ_run (Cert.OutSampleRefIdeal.defs (F := Ideal)) (onTc (τ := Cert.OutSampleRefIdeal.τ) (Cert.OutSampleRefIdeal.main (F := Ideal))) ⟨m, fun _ => 0, g⟩ (fun r => (∀ c : Dev Cert.OutSampleRefIdeal.nD,
      r.2.mem ((c.tc : Thread Cert.OutSampleRefIdeal.nD Cert.OutSampleRefIdeal.τ).loc Cert.OutSampleRefIdeal.main_arg0) = m ((c.tc : Thread Cert.OutSampleRefIdeal.nD Cert.OutSampleRefIdeal.τ).loc Cert.OutSampleRefIdeal.main_arg0)
      ∧ r.2.mem ((c.tc : Thread Cert.OutSampleRefIdeal.nD Cert.OutSampleRefIdeal.τ).loc Cert.OutSampleRefIdeal.main_arg1) = m ((c.tc : Thread Cert.OutSampleRefIdeal.nD Cert.OutSampleRefIdeal.τ).loc Cert.OutSampleRefIdeal.main_arg1)
      ∧ r.2.mem ((c.tc : Thread Cert.OutSampleRefIdeal.nD Cert.OutSampleRefIdeal.τ).loc Cert.OutSampleRefIdeal.main_arg2) = m ((c.tc : Thread Cert.OutSampleRefIdeal.nD Cert.OutSampleRefIdeal.τ).loc Cert.OutSampleRefIdeal.main_arg2)
      ∧ r.2.mem ((c.tc : Thread Cert.OutSampleRefIdeal.nD Cert.OutSampleRefIdeal.τ).loc Cert.OutSampleRefIdeal.main_arg3) = m ((c.tc : Thread Cert.OutSampleRefIdeal.nD Cert.OutSampleRefIdeal.τ).loc Cert.OutSampleRefIdeal.main_arg3)
      ∧ r.2.mem ((c.tc : Thread Cert.OutSampleRefIdeal.nD Cert.OutSampleRefIdeal.τ).loc Cert.OutSampleRefIdeal.main_arg4) = m ((c.tc : Thread Cert.OutSampleRefIdeal.nD Cert.OutSampleRefIdeal.τ).loc Cert.OutSampleRefIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_NormPrompt [hNormPrompt : Cert.NormPrompt.Facts] : Prop :=
  ∀ (m : (ℓ : Loc Cert.NormPrompt.nD Cert.NormPrompt.τ Cert.NormPrompt.sig) → Buf (Elt Bits) ℓ) (g : Dev Cert.NormPrompt.nD → PrngReg), Pre_NormPrompt m →
    θ_run (Cert.NormPrompt.defs (F := Bits)) (onTc (τ := Cert.NormPrompt.τ) (Cert.NormPrompt.main (F := Bits))) ⟨m, fun _ => 0, g⟩ (fun r => (∀ c : Dev Cert.NormPrompt.nD,
      r.2.mem ((c.tc : Thread Cert.NormPrompt.nD Cert.NormPrompt.τ).loc Cert.NormPrompt.main_arg0) = m ((c.tc : Thread Cert.NormPrompt.nD Cert.NormPrompt.τ).loc Cert.NormPrompt.main_arg0)
      ∧ r.2.mem ((c.tc : Thread Cert.NormPrompt.nD Cert.NormPrompt.τ).loc Cert.NormPrompt.main_arg1) = m ((c.tc : Thread Cert.NormPrompt.nD Cert.NormPrompt.τ).loc Cert.NormPrompt.main_arg1)
      ∧ r.2.mem ((c.tc : Thread Cert.NormPrompt.nD Cert.NormPrompt.τ).loc Cert.NormPrompt.main_arg2) = m ((c.tc : Thread Cert.NormPrompt.nD Cert.NormPrompt.τ).loc Cert.NormPrompt.main_arg2))
      ∧ r.2.sem = fun _ => 0)

def quiescent_NormPromptIdeal [hNormPromptIdeal : Cert.NormPromptIdeal.Facts] : Prop :=
  ∀ (m : (ℓ : Loc Cert.NormPromptIdeal.nD Cert.NormPromptIdeal.τ Cert.NormPromptIdeal.sig) → Buf (Elt Ideal) ℓ) (g : Dev Cert.NormPromptIdeal.nD → PrngReg), Pre_NormPromptIdeal m →
    θ_run (Cert.NormPromptIdeal.defs (F := Ideal)) (onTc (τ := Cert.NormPromptIdeal.τ) (Cert.NormPromptIdeal.main (F := Ideal))) ⟨m, fun _ => 0, g⟩ (fun r => (∀ c : Dev Cert.NormPromptIdeal.nD,
      r.2.mem ((c.tc : Thread Cert.NormPromptIdeal.nD Cert.NormPromptIdeal.τ).loc Cert.NormPromptIdeal.main_arg0) = m ((c.tc : Thread Cert.NormPromptIdeal.nD Cert.NormPromptIdeal.τ).loc Cert.NormPromptIdeal.main_arg0)
      ∧ r.2.mem ((c.tc : Thread Cert.NormPromptIdeal.nD Cert.NormPromptIdeal.τ).loc Cert.NormPromptIdeal.main_arg1) = m ((c.tc : Thread Cert.NormPromptIdeal.nD Cert.NormPromptIdeal.τ).loc Cert.NormPromptIdeal.main_arg1)
      ∧ r.2.mem ((c.tc : Thread Cert.NormPromptIdeal.nD Cert.NormPromptIdeal.τ).loc Cert.NormPromptIdeal.main_arg2) = m ((c.tc : Thread Cert.NormPromptIdeal.nD Cert.NormPromptIdeal.τ).loc Cert.NormPromptIdeal.main_arg2))
      ∧ r.2.sem = fun _ => 0)

def quiescent_NormPromptRefIdeal [hNormPromptRefIdeal : Cert.NormPromptRefIdeal.Facts] : Prop :=
  ∀ (m : (ℓ : Loc Cert.NormPromptRefIdeal.nD Cert.NormPromptRefIdeal.τ Cert.NormPromptRefIdeal.sig) → Buf (Elt Ideal) ℓ) (g : Dev Cert.NormPromptRefIdeal.nD → PrngReg), Pre_NormPromptRefIdeal m →
    θ_run (Cert.NormPromptRefIdeal.defs (F := Ideal)) (onTc (τ := Cert.NormPromptRefIdeal.τ) (Cert.NormPromptRefIdeal.main (F := Ideal))) ⟨m, fun _ => 0, g⟩ (fun r => (∀ c : Dev Cert.NormPromptRefIdeal.nD,
      r.2.mem ((c.tc : Thread Cert.NormPromptRefIdeal.nD Cert.NormPromptRefIdeal.τ).loc Cert.NormPromptRefIdeal.main_arg0) = m ((c.tc : Thread Cert.NormPromptRefIdeal.nD Cert.NormPromptRefIdeal.τ).loc Cert.NormPromptRefIdeal.main_arg0)
      ∧ r.2.mem ((c.tc : Thread Cert.NormPromptRefIdeal.nD Cert.NormPromptRefIdeal.τ).loc Cert.NormPromptRefIdeal.main_arg1) = m ((c.tc : Thread Cert.NormPromptRefIdeal.nD Cert.NormPromptRefIdeal.τ).loc Cert.NormPromptRefIdeal.main_arg1)
      ∧ r.2.mem ((c.tc : Thread Cert.NormPromptRefIdeal.nD Cert.NormPromptRefIdeal.τ).loc Cert.NormPromptRefIdeal.main_arg2) = m ((c.tc : Thread Cert.NormPromptRefIdeal.nD Cert.NormPromptRefIdeal.τ).loc Cert.NormPromptRefIdeal.main_arg2))
      ∧ r.2.sem = fun _ => 0)

def quiescent_NormSample [hNormSample : Cert.NormSample.Facts] : Prop :=
  ∀ (m : (ℓ : Loc Cert.NormSample.nD Cert.NormSample.τ Cert.NormSample.sig) → Buf (Elt Bits) ℓ) (g : Dev Cert.NormSample.nD → PrngReg), Pre_NormSample m →
    θ_run (Cert.NormSample.defs (F := Bits)) (onTc (τ := Cert.NormSample.τ) (Cert.NormSample.main (F := Bits))) ⟨m, fun _ => 0, g⟩ (fun r => (∀ c : Dev Cert.NormSample.nD,
      r.2.mem ((c.tc : Thread Cert.NormSample.nD Cert.NormSample.τ).loc Cert.NormSample.main_arg0) = m ((c.tc : Thread Cert.NormSample.nD Cert.NormSample.τ).loc Cert.NormSample.main_arg0)
      ∧ r.2.mem ((c.tc : Thread Cert.NormSample.nD Cert.NormSample.τ).loc Cert.NormSample.main_arg1) = m ((c.tc : Thread Cert.NormSample.nD Cert.NormSample.τ).loc Cert.NormSample.main_arg1)
      ∧ r.2.mem ((c.tc : Thread Cert.NormSample.nD Cert.NormSample.τ).loc Cert.NormSample.main_arg2) = m ((c.tc : Thread Cert.NormSample.nD Cert.NormSample.τ).loc Cert.NormSample.main_arg2))
      ∧ r.2.sem = fun _ => 0)

def quiescent_NormSampleIdeal [hNormSampleIdeal : Cert.NormSampleIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg), Pre_NormSampleIdeal m →
    θ_run (Cert.NormSampleIdeal.defs (F := Ideal)) (onTc (τ := Cert.NormSampleIdeal.τ) (Cert.NormSampleIdeal.main (F := Ideal))) ⟨m, fun _ => 0, g⟩ (fun r => (∀ c : Dev Cert.NormSampleIdeal.nD,
      r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
      ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1)
      ∧ r.2.mem ((c.tc : Thread Cert.NormSampleIdeal.nD Cert.NormSampleIdeal.τ).loc Cert.NormSampleIdeal.main_arg2) = m ((c.tc : Thread Cert.NormSampleIdeal.nD Cert.NormSampleIdeal.τ).loc Cert.NormSampleIdeal.main_arg2))
      ∧ r.2.sem = fun _ => 0)

def quiescent_NormSampleRefIdeal [hNormSampleRefIdeal : Cert.NormSampleRefIdeal.Facts] : Prop :=
  ∀ (m : (ℓ : Loc Cert.NormSampleRefIdeal.nD Cert.NormSampleRefIdeal.τ Cert.NormSampleRefIdeal.sig) → Buf (Elt Ideal) ℓ) (g : Dev Cert.NormSampleRefIdeal.nD → PrngReg), Pre_NormSampleRefIdeal m →
    θ_run (Cert.NormSampleRefIdeal.defs (F := Ideal)) (onTc (τ := Cert.NormSampleRefIdeal.τ) (Cert.NormSampleRefIdeal.main (F := Ideal))) ⟨m, fun _ => 0, g⟩ (fun r => (∀ c : Dev Cert.NormSampleRefIdeal.nD,
      r.2.mem ((c.tc : Thread Cert.NormSampleRefIdeal.nD Cert.NormSampleRefIdeal.τ).loc Cert.NormSampleRefIdeal.main_arg0) = m ((c.tc : Thread Cert.NormSampleRefIdeal.nD Cert.NormSampleRefIdeal.τ).loc Cert.NormSampleRefIdeal.main_arg0)
      ∧ r.2.mem ((c.tc : Thread Cert.NormSampleRefIdeal.nD Cert.NormSampleRefIdeal.τ).loc Cert.NormSampleRefIdeal.main_arg1) = m ((c.tc : Thread Cert.NormSampleRefIdeal.nD Cert.NormSampleRefIdeal.τ).loc Cert.NormSampleRefIdeal.main_arg1)
      ∧ r.2.mem ((c.tc : Thread Cert.NormSampleRefIdeal.nD Cert.NormSampleRefIdeal.τ).loc Cert.NormSampleRefIdeal.main_arg2) = m ((c.tc : Thread Cert.NormSampleRefIdeal.nD Cert.NormSampleRefIdeal.τ).loc Cert.NormSampleRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def preserves_Attn_AttnIdeal : Prop :=
  IdealRules.named_const.Statement Cert.AttnIdeal.κ "q_scale" .f32 0x3E0293EE#32 (((11863283 * 134217728⁻¹) * (Real.log 2)⁻¹ : ℝ) : EReal)

def algebraic_AttnIdeal_AttnRefIdeal_pre_gains_finite [hAttnIdeal : Cert.AttnIdeal.Facts] [hAttnRefIdeal : Cert.AttnRefIdeal.Facts] [hPre_gains_finite : Cert.Pre_gains_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_gains_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v4_0)) (v1 : (c : Dev Cert.AttnIdeal.nD) → Buf (Elt Ideal) ((c.tc : Thread Cert.AttnIdeal.nD Cert.AttnIdeal.τ).loc Cert.AttnIdeal.main_v4_1)) (v2 : (c : Dev Cert.AttnIdeal.nD) → Buf (Elt Ideal) ((c.tc : Thread Cert.AttnIdeal.nD Cert.AttnIdeal.τ).loc Cert.AttnIdeal.main_v4_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v4_0) = v0 c
          ∧ r.2.mem ((c.tc : Thread Cert.AttnIdeal.nD Cert.AttnIdeal.τ).loc Cert.AttnIdeal.main_v4_1) = v1 c
          ∧ r.2.mem ((c.tc : Thread Cert.AttnIdeal.nD Cert.AttnIdeal.τ).loc Cert.AttnIdeal.main_v4_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v62) = v0 c
          ∧ r.2.mem ((c.tc : Thread Cert.AttnRefIdeal.nD Cert.AttnRefIdeal.τ).loc Cert.AttnRefIdeal.main_v63) = v1 c
          ∧ r.2.mem ((c.tc : Thread Cert.AttnRefIdeal.nD Cert.AttnRefIdeal.τ).loc Cert.AttnRefIdeal.main_v64) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_InEven_InEvenIdeal : Prop :=
  True

def algebraic_InEvenIdeal_InEvenRefIdeal [hInEvenIdeal : Cert.InEvenIdeal.Facts] [hInEvenRefIdeal : Cert.InEvenRefIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenRefIdeal.nD Cert.InEvenRefIdeal.τ Cert.InEvenRefIdeal.sig) → Buf (Elt Ideal) ℓ) (g' : Dev Cert.InEvenRefIdeal.nD → PrngReg), Pre_InEvenIdeal m →
    (∀ c : Dev Cert.InEvenIdeal.nD,
      m' ((c.tc : Thread Cert.InEvenRefIdeal.nD Cert.InEvenRefIdeal.τ).loc Cert.InEvenRefIdeal.main_arg0) = m ((c.tc : Thread Cert.InEvenIdeal.nD Cert.InEvenIdeal.τ).loc Cert.InEvenIdeal.main_arg0)
      ∧ m' ((c.tc : Thread Cert.InEvenRefIdeal.nD Cert.InEvenRefIdeal.τ).loc Cert.InEvenRefIdeal.main_arg1) = m ((c.tc : Thread Cert.InEvenIdeal.nD Cert.InEvenIdeal.τ).loc Cert.InEvenIdeal.main_arg1)
      ∧ m' ((c.tc : Thread Cert.InEvenRefIdeal.nD Cert.InEvenRefIdeal.τ).loc Cert.InEvenRefIdeal.main_arg2) = m ((c.tc : Thread Cert.InEvenIdeal.nD Cert.InEvenIdeal.τ).loc Cert.InEvenIdeal.main_arg2)
      ∧ m' ((c.tc : Thread Cert.InEvenRefIdeal.nD Cert.InEvenRefIdeal.τ).loc Cert.InEvenRefIdeal.main_arg3) = m ((c.tc : Thread Cert.InEvenIdeal.nD Cert.InEvenIdeal.τ).loc Cert.InEvenIdeal.main_arg3)) →
    ∃ (v0 : (c : Dev Cert.InEvenIdeal.nD) → Buf (Elt Ideal) ((c.tc : Thread Cert.InEvenIdeal.nD Cert.InEvenIdeal.τ).loc Cert.InEvenIdeal.main_v4_0)) (v1 : (c : Dev Cert.InEvenIdeal.nD) → Buf (Elt Ideal) ((c.tc : Thread Cert.InEvenIdeal.nD Cert.InEvenIdeal.τ).loc Cert.InEvenIdeal.main_v4_1)) (v2 : (c : Dev Cert.InEvenIdeal.nD) → Buf (Elt Ideal) ((c.tc : Thread Cert.InEvenIdeal.nD Cert.InEvenIdeal.τ).loc Cert.InEvenIdeal.main_v4_2)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v4_0) = v0 c
          ∧ r.2.mem ((c.tc : Thread Cert.InEvenIdeal.nD Cert.InEvenIdeal.τ).loc Cert.InEvenIdeal.main_v4_1) = v1 c
          ∧ r.2.mem ((c.tc : Thread Cert.InEvenIdeal.nD Cert.InEvenIdeal.τ).loc Cert.InEvenIdeal.main_v4_2) = v2 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
          ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3))
      ∧ θ_run (Cert.InEvenRefIdeal.defs (F := Ideal)) (onTc (τ := Cert.InEvenRefIdeal.τ) (Cert.InEvenRefIdeal.main (F := Ideal))) ⟨m', fun _ => 0, g'⟩ (fun r => ∀ c : Dev Cert.InEvenRefIdeal.nD,
          r.2.mem ((c.tc : Thread Cert.InEvenRefIdeal.nD Cert.InEvenRefIdeal.τ).loc Cert.InEvenRefIdeal.main_v3) = v0 c
          ∧ r.2.mem ((c.tc : Thread Cert.InEvenRefIdeal.nD Cert.InEvenRefIdeal.τ).loc Cert.InEvenRefIdeal.main_v5) = v1 c
          ∧ r.2.mem ((c.tc : Thread Cert.InEvenRefIdeal.nD Cert.InEvenRefIdeal.τ).loc Cert.InEvenRefIdeal.main_v7) = v2 c
          ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
          ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1)
          ∧ r.2.mem ((c.tc : Thread Cert.InEvenRefIdeal.nD Cert.InEvenRefIdeal.τ).loc Cert.InEvenRefIdeal.main_arg2) = m' ((c.tc : Thread Cert.InEvenRefIdeal.nD Cert.InEvenRefIdeal.τ).loc Cert.InEvenRefIdeal.main_arg2)
          ∧ r.2.mem ((c.tc : Thread Cert.InEvenRefIdeal.nD Cert.InEvenRefIdeal.τ).loc Cert.InEvenRefIdeal.main_arg3) = m' ((c.tc : Thread Cert.InEvenRefIdeal.nD Cert.InEvenRefIdeal.τ).loc Cert.InEvenRefIdeal.main_arg3))

def preserves_InOdd_InOddIdeal : Prop :=
  True

def algebraic_InOddIdeal_InOddRefIdeal [hInOddIdeal : Cert.InOddIdeal.Facts] [hInOddRefIdeal : Cert.InOddRefIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)
      ∧ m' ((c.tc : Thread Cert.InOddRefIdeal.nD Cert.InOddRefIdeal.τ).loc Cert.InOddRefIdeal.main_arg2) = m ((c.tc : Thread Cert.InOddIdeal.nD Cert.InOddIdeal.τ).loc Cert.InOddIdeal.main_arg2)
      ∧ m' ((c.tc : Thread Cert.InOddRefIdeal.nD Cert.InOddRefIdeal.τ).loc Cert.InOddRefIdeal.main_arg3) = m ((c.tc : Thread Cert.InOddIdeal.nD Cert.InOddIdeal.τ).loc Cert.InOddIdeal.main_arg3)) →
    ∃ (v0 : (c : Dev Cert.InOddIdeal.nD) → Buf (Elt Ideal) ((c.tc : Thread Cert.InOddIdeal.nD Cert.InOddIdeal.τ).loc Cert.InOddIdeal.main_v2_0)) (v1 : (c : Dev Cert.InOddIdeal.nD) → Buf (Elt Ideal) ((c.tc : Thread Cert.InOddIdeal.nD Cert.InOddIdeal.τ).loc Cert.InOddIdeal.main_v2_1)) (v2 : (c : Dev Cert.InOddIdeal.nD) → Buf (Elt Ideal) ((c.tc : Thread Cert.InOddIdeal.nD Cert.InOddIdeal.τ).loc Cert.InOddIdeal.main_v2_2)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v2_0) = v0 c
          ∧ r.2.mem ((c.tc : Thread Cert.InOddIdeal.nD Cert.InOddIdeal.τ).loc Cert.InOddIdeal.main_v2_1) = v1 c
          ∧ r.2.mem ((c.tc : Thread Cert.InOddIdeal.nD Cert.InOddIdeal.τ).loc Cert.InOddIdeal.main_v2_2) = v2 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
          ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v3) = v0 c
          ∧ r.2.mem ((c.tc : Thread Cert.InOddRefIdeal.nD Cert.InOddRefIdeal.τ).loc Cert.InOddRefIdeal.main_v5) = v1 c
          ∧ r.2.mem ((c.tc : Thread Cert.InOddRefIdeal.nD Cert.InOddRefIdeal.τ).loc Cert.InOddRefIdeal.main_v7) = v2 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1)
          ∧ r.2.mem ((c.tc : Thread Cert.InOddRefIdeal.nD Cert.InOddRefIdeal.τ).loc Cert.InOddRefIdeal.main_arg2) = m' ((c.tc : Thread Cert.InOddRefIdeal.nD Cert.InOddRefIdeal.τ).loc Cert.InOddRefIdeal.main_arg2)
          ∧ r.2.mem ((c.tc : Thread Cert.InOddRefIdeal.nD Cert.InOddRefIdeal.τ).loc Cert.InOddRefIdeal.main_arg3) = m' ((c.tc : Thread Cert.InOddRefIdeal.nD Cert.InOddRefIdeal.τ).loc Cert.InOddRefIdeal.main_arg3))

def preserves_OutPrompt_OutPromptIdeal : Prop :=
  True

def algebraic_OutPromptIdeal_OutPromptRefIdeal [hOutPromptIdeal : Cert.OutPromptIdeal.Facts] [hOutPromptRefIdeal : Cert.OutPromptRefIdeal.Facts] : Prop :=
  ∀ (m : (ℓ : Loc Cert.OutPromptIdeal.nD Cert.OutPromptIdeal.τ Cert.OutPromptIdeal.sig) → Buf (Elt Ideal) ℓ) (g : Dev Cert.OutPromptIdeal.nD → PrngReg)
    (m' : (ℓ : Loc Cert.OutPromptRefIdeal.nD Cert.OutPromptRefIdeal.τ Cert.OutPromptRefIdeal.sig) → Buf (Elt Ideal) ℓ) (g' : Dev Cert.OutPromptRefIdeal.nD → PrngReg), Pre_OutPromptIdeal m →
    (∀ c : Dev Cert.OutPromptIdeal.nD,
      m' ((c.tc : Thread Cert.OutPromptRefIdeal.nD Cert.OutPromptRefIdeal.τ).loc Cert.OutPromptRefIdeal.main_arg0) = m ((c.tc : Thread Cert.OutPromptIdeal.nD Cert.OutPromptIdeal.τ).loc Cert.OutPromptIdeal.main_arg0)
      ∧ m' ((c.tc : Thread Cert.OutPromptRefIdeal.nD Cert.OutPromptRefIdeal.τ).loc Cert.OutPromptRefIdeal.main_arg1) = m ((c.tc : Thread Cert.OutPromptIdeal.nD Cert.OutPromptIdeal.τ).loc Cert.OutPromptIdeal.main_arg1)
      ∧ m' ((c.tc : Thread Cert.OutPromptRefIdeal.nD Cert.OutPromptRefIdeal.τ).loc Cert.OutPromptRefIdeal.main_arg2) = m ((c.tc : Thread Cert.OutPromptIdeal.nD Cert.OutPromptIdeal.τ).loc Cert.OutPromptIdeal.main_arg2)
      ∧ m' ((c.tc : Thread Cert.OutPromptRefIdeal.nD Cert.OutPromptRefIdeal.τ).loc Cert.OutPromptRefIdeal.main_arg3) = m ((c.tc : Thread Cert.OutPromptIdeal.nD Cert.OutPromptIdeal.τ).loc Cert.OutPromptIdeal.main_arg3)
      ∧ m' ((c.tc : Thread Cert.OutPromptRefIdeal.nD Cert.OutPromptRefIdeal.τ).loc Cert.OutPromptRefIdeal.main_arg4) = m ((c.tc : Thread Cert.OutPromptIdeal.nD Cert.OutPromptIdeal.τ).loc Cert.OutPromptIdeal.main_arg4)) →
    ∃ (v0 : (c : Dev Cert.OutPromptIdeal.nD) → Buf (Elt Ideal) ((c.tc : Thread Cert.OutPromptIdeal.nD Cert.OutPromptIdeal.τ).loc Cert.OutPromptIdeal.main_v2)),
      θ_run (Cert.OutPromptIdeal.defs (F := Ideal)) (onTc (τ := Cert.OutPromptIdeal.τ) (Cert.OutPromptIdeal.main (F := Ideal))) ⟨m, fun _ => 0, g⟩ (fun r => ∀ c : Dev Cert.OutPromptIdeal.nD,
          r.2.mem ((c.tc : Thread Cert.OutPromptIdeal.nD Cert.OutPromptIdeal.τ).loc Cert.OutPromptIdeal.main_v2) = v0 c
          ∧ r.2.mem ((c.tc : Thread Cert.OutPromptIdeal.nD Cert.OutPromptIdeal.τ).loc Cert.OutPromptIdeal.main_arg0) = m ((c.tc : Thread Cert.OutPromptIdeal.nD Cert.OutPromptIdeal.τ).loc Cert.OutPromptIdeal.main_arg0)
          ∧ r.2.mem ((c.tc : Thread Cert.OutPromptIdeal.nD Cert.OutPromptIdeal.τ).loc Cert.OutPromptIdeal.main_arg1) = m ((c.tc : Thread Cert.OutPromptIdeal.nD Cert.OutPromptIdeal.τ).loc Cert.OutPromptIdeal.main_arg1)
          ∧ r.2.mem ((c.tc : Thread Cert.OutPromptIdeal.nD Cert.OutPromptIdeal.τ).loc Cert.OutPromptIdeal.main_arg2) = m ((c.tc : Thread Cert.OutPromptIdeal.nD Cert.OutPromptIdeal.τ).loc Cert.OutPromptIdeal.main_arg2)
          ∧ r.2.mem ((c.tc : Thread Cert.OutPromptIdeal.nD Cert.OutPromptIdeal.τ).loc Cert.OutPromptIdeal.main_arg3) = m ((c.tc : Thread Cert.OutPromptIdeal.nD Cert.OutPromptIdeal.τ).loc Cert.OutPromptIdeal.main_arg3)
          ∧ r.2.mem ((c.tc : Thread Cert.OutPromptIdeal.nD Cert.OutPromptIdeal.τ).loc Cert.OutPromptIdeal.main_arg4) = m ((c.tc : Thread Cert.OutPromptIdeal.nD Cert.OutPromptIdeal.τ).loc Cert.OutPromptIdeal.main_arg4))
      ∧ θ_run (Cert.OutPromptRefIdeal.defs (F := Ideal)) (onTc (τ := Cert.OutPromptRefIdeal.τ) (Cert.OutPromptRefIdeal.main (F := Ideal))) ⟨m', fun _ => 0, g'⟩ (fun r => ∀ c : Dev Cert.OutPromptRefIdeal.nD,
          r.2.mem ((c.tc : Thread Cert.OutPromptRefIdeal.nD Cert.OutPromptRefIdeal.τ).loc Cert.OutPromptRefIdeal.main_v14) = v0 c
          ∧ r.2.mem ((c.tc : Thread Cert.OutPromptRefIdeal.nD Cert.OutPromptRefIdeal.τ).loc Cert.OutPromptRefIdeal.main_arg0) = m' ((c.tc : Thread Cert.OutPromptRefIdeal.nD Cert.OutPromptRefIdeal.τ).loc Cert.OutPromptRefIdeal.main_arg0)
          ∧ r.2.mem ((c.tc : Thread Cert.OutPromptRefIdeal.nD Cert.OutPromptRefIdeal.τ).loc Cert.OutPromptRefIdeal.main_arg1) = m' ((c.tc : Thread Cert.OutPromptRefIdeal.nD Cert.OutPromptRefIdeal.τ).loc Cert.OutPromptRefIdeal.main_arg1)
          ∧ r.2.mem ((c.tc : Thread Cert.OutPromptRefIdeal.nD Cert.OutPromptRefIdeal.τ).loc Cert.OutPromptRefIdeal.main_arg2) = m' ((c.tc : Thread Cert.OutPromptRefIdeal.nD Cert.OutPromptRefIdeal.τ).loc Cert.OutPromptRefIdeal.main_arg2)
          ∧ r.2.mem ((c.tc : Thread Cert.OutPromptRefIdeal.nD Cert.OutPromptRefIdeal.τ).loc Cert.OutPromptRefIdeal.main_arg3) = m' ((c.tc : Thread Cert.OutPromptRefIdeal.nD Cert.OutPromptRefIdeal.τ).loc Cert.OutPromptRefIdeal.main_arg3)
          ∧ r.2.mem ((c.tc : Thread Cert.OutPromptRefIdeal.nD Cert.OutPromptRefIdeal.τ).loc Cert.OutPromptRefIdeal.main_arg4) = m' ((c.tc : Thread Cert.OutPromptRefIdeal.nD Cert.OutPromptRefIdeal.τ).loc Cert.OutPromptRefIdeal.main_arg4))

def preserves_OutSample_OutSampleIdeal : Prop :=
  True

def algebraic_OutSampleIdeal_OutSampleRefIdeal [hOutSampleIdeal : Cert.OutSampleIdeal.Facts] [hOutSampleRefIdeal : Cert.OutSampleRefIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg)
    (m' : (ℓ : Loc Cert.OutSampleRefIdeal.nD Cert.OutSampleRefIdeal.τ Cert.OutSampleRefIdeal.sig) → Buf (Elt Ideal) ℓ) (g' : Dev Cert.OutSampleRefIdeal.nD → PrngReg), Pre_OutSampleIdeal m →
    (∀ c : Dev Cert.OutSampleIdeal.nD,
      m' ((c.tc : Thread Cert.OutSampleRefIdeal.nD Cert.OutSampleRefIdeal.τ).loc Cert.OutSampleRefIdeal.main_arg0) = m ((c.tc : Thread Cert.OutSampleIdeal.nD Cert.OutSampleIdeal.τ).loc Cert.OutSampleIdeal.main_arg0)
      ∧ m' ((c.tc : Thread Cert.OutSampleRefIdeal.nD Cert.OutSampleRefIdeal.τ).loc Cert.OutSampleRefIdeal.main_arg1) = m ((c.tc : Thread Cert.OutSampleIdeal.nD Cert.OutSampleIdeal.τ).loc Cert.OutSampleIdeal.main_arg1)
      ∧ m' ((c.tc : Thread Cert.OutSampleRefIdeal.nD Cert.OutSampleRefIdeal.τ).loc Cert.OutSampleRefIdeal.main_arg2) = m ((c.tc : Thread Cert.OutSampleIdeal.nD Cert.OutSampleIdeal.τ).loc Cert.OutSampleIdeal.main_arg2)
      ∧ m' ((c.tc : Thread Cert.OutSampleRefIdeal.nD Cert.OutSampleRefIdeal.τ).loc Cert.OutSampleRefIdeal.main_arg3) = m ((c.tc : Thread Cert.OutSampleIdeal.nD Cert.OutSampleIdeal.τ).loc Cert.OutSampleIdeal.main_arg3)
      ∧ m' ((c.tc : Thread Cert.OutSampleRefIdeal.nD Cert.OutSampleRefIdeal.τ).loc Cert.OutSampleRefIdeal.main_arg4) = m ((c.tc : Thread Cert.OutSampleIdeal.nD Cert.OutSampleIdeal.τ).loc Cert.OutSampleIdeal.main_arg4)) →
    ∃ (v0 : (c : Dev Cert.OutSampleIdeal.nD) → Buf (Elt Ideal) ((c.tc : Thread Cert.OutSampleIdeal.nD Cert.OutSampleIdeal.τ).loc Cert.OutSampleIdeal.main_v2)),
      θ_run (Cert.OutSampleIdeal.defs (F := Ideal)) (onTc (τ := Cert.OutSampleIdeal.τ) (Cert.OutSampleIdeal.main (F := Ideal))) ⟨m, fun _ => 0, g⟩ (fun r => ∀ c : Dev Cert.OutSampleIdeal.nD,
          r.2.mem ((c.tc : Thread Cert.OutSampleIdeal.nD Cert.OutSampleIdeal.τ).loc Cert.OutSampleIdeal.main_v2) = v0 c
          ∧ r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
          ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
          ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2)
          ∧ r.2.mem ((c.tc : Thread Cert.OutSampleIdeal.nD Cert.OutSampleIdeal.τ).loc Cert.OutSampleIdeal.main_arg3) = m ((c.tc : Thread Cert.OutSampleIdeal.nD Cert.OutSampleIdeal.τ).loc Cert.OutSampleIdeal.main_arg3)
          ∧ r.2.mem ((c.tc : Thread Cert.OutSampleIdeal.nD Cert.OutSampleIdeal.τ).loc Cert.OutSampleIdeal.main_arg4) = m ((c.tc : Thread Cert.OutSampleIdeal.nD Cert.OutSampleIdeal.τ).loc Cert.OutSampleIdeal.main_arg4))
      ∧ θ_run (Cert.OutSampleRefIdeal.defs (F := Ideal)) (onTc (τ := Cert.OutSampleRefIdeal.τ) (Cert.OutSampleRefIdeal.main (F := Ideal))) ⟨m', fun _ => 0, g'⟩ (fun r => ∀ c : Dev Cert.OutSampleRefIdeal.nD,
          r.2.mem ((c.tc : Thread Cert.OutSampleRefIdeal.nD Cert.OutSampleRefIdeal.τ).loc Cert.OutSampleRefIdeal.main_v14) = v0 c
          ∧ r.2.mem ((c.tc : Thread Cert.OutSampleRefIdeal.nD Cert.OutSampleRefIdeal.τ).loc Cert.OutSampleRefIdeal.main_arg0) = m' ((c.tc : Thread Cert.OutSampleRefIdeal.nD Cert.OutSampleRefIdeal.τ).loc Cert.OutSampleRefIdeal.main_arg0)
          ∧ r.2.mem ((c.tc : Thread Cert.OutSampleRefIdeal.nD Cert.OutSampleRefIdeal.τ).loc Cert.OutSampleRefIdeal.main_arg1) = m' ((c.tc : Thread Cert.OutSampleRefIdeal.nD Cert.OutSampleRefIdeal.τ).loc Cert.OutSampleRefIdeal.main_arg1)
          ∧ r.2.mem ((c.tc : Thread Cert.OutSampleRefIdeal.nD Cert.OutSampleRefIdeal.τ).loc Cert.OutSampleRefIdeal.main_arg2) = m' ((c.tc : Thread Cert.OutSampleRefIdeal.nD Cert.OutSampleRefIdeal.τ).loc Cert.OutSampleRefIdeal.main_arg2)
          ∧ r.2.mem ((c.tc : Thread Cert.OutSampleRefIdeal.nD Cert.OutSampleRefIdeal.τ).loc Cert.OutSampleRefIdeal.main_arg3) = m' ((c.tc : Thread Cert.OutSampleRefIdeal.nD Cert.OutSampleRefIdeal.τ).loc Cert.OutSampleRefIdeal.main_arg3)
          ∧ r.2.mem ((c.tc : Thread Cert.OutSampleRefIdeal.nD Cert.OutSampleRefIdeal.τ).loc Cert.OutSampleRefIdeal.main_arg4) = m' ((c.tc : Thread Cert.OutSampleRefIdeal.nD Cert.OutSampleRefIdeal.τ).loc Cert.OutSampleRefIdeal.main_arg4))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v23) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_NormPrompt_NormPromptIdeal : Prop :=
  True

def algebraic_NormPromptIdeal_NormPromptRefIdeal [hNormPromptIdeal : Cert.NormPromptIdeal.Facts] [hNormPromptRefIdeal : Cert.NormPromptRefIdeal.Facts] : Prop :=
  ∀ (m : (ℓ : Loc Cert.NormPromptIdeal.nD Cert.NormPromptIdeal.τ Cert.NormPromptIdeal.sig) → Buf (Elt Ideal) ℓ) (g : Dev Cert.NormPromptIdeal.nD → PrngReg)
    (m' : (ℓ : Loc Cert.NormPromptRefIdeal.nD Cert.NormPromptRefIdeal.τ Cert.NormPromptRefIdeal.sig) → Buf (Elt Ideal) ℓ) (g' : Dev Cert.NormPromptRefIdeal.nD → PrngReg), Pre_NormPromptIdeal m →
    (∀ c : Dev Cert.NormPromptIdeal.nD,
      m' ((c.tc : Thread Cert.NormPromptRefIdeal.nD Cert.NormPromptRefIdeal.τ).loc Cert.NormPromptRefIdeal.main_arg0) = m ((c.tc : Thread Cert.NormPromptIdeal.nD Cert.NormPromptIdeal.τ).loc Cert.NormPromptIdeal.main_arg0)
      ∧ m' ((c.tc : Thread Cert.NormPromptRefIdeal.nD Cert.NormPromptRefIdeal.τ).loc Cert.NormPromptRefIdeal.main_arg1) = m ((c.tc : Thread Cert.NormPromptIdeal.nD Cert.NormPromptIdeal.τ).loc Cert.NormPromptIdeal.main_arg1)
      ∧ m' ((c.tc : Thread Cert.NormPromptRefIdeal.nD Cert.NormPromptRefIdeal.τ).loc Cert.NormPromptRefIdeal.main_arg2) = m ((c.tc : Thread Cert.NormPromptIdeal.nD Cert.NormPromptIdeal.τ).loc Cert.NormPromptIdeal.main_arg2)) →
    ∃ (v0 : (c : Dev Cert.NormPromptIdeal.nD) → Buf (Elt Ideal) ((c.tc : Thread Cert.NormPromptIdeal.nD Cert.NormPromptIdeal.τ).loc Cert.NormPromptIdeal.main_v3)),
      θ_run (Cert.NormPromptIdeal.defs (F := Ideal)) (onTc (τ := Cert.NormPromptIdeal.τ) (Cert.NormPromptIdeal.main (F := Ideal))) ⟨m, fun _ => 0, g⟩ (fun r => ∀ c : Dev Cert.NormPromptIdeal.nD,
          r.2.mem ((c.tc : Thread Cert.NormPromptIdeal.nD Cert.NormPromptIdeal.τ).loc Cert.NormPromptIdeal.main_v3) = v0 c
          ∧ r.2.mem ((c.tc : Thread Cert.NormPromptIdeal.nD Cert.NormPromptIdeal.τ).loc Cert.NormPromptIdeal.main_arg0) = m ((c.tc : Thread Cert.NormPromptIdeal.nD Cert.NormPromptIdeal.τ).loc Cert.NormPromptIdeal.main_arg0)
          ∧ r.2.mem ((c.tc : Thread Cert.NormPromptIdeal.nD Cert.NormPromptIdeal.τ).loc Cert.NormPromptIdeal.main_arg1) = m ((c.tc : Thread Cert.NormPromptIdeal.nD Cert.NormPromptIdeal.τ).loc Cert.NormPromptIdeal.main_arg1)
          ∧ r.2.mem ((c.tc : Thread Cert.NormPromptIdeal.nD Cert.NormPromptIdeal.τ).loc Cert.NormPromptIdeal.main_arg2) = m ((c.tc : Thread Cert.NormPromptIdeal.nD Cert.NormPromptIdeal.τ).loc Cert.NormPromptIdeal.main_arg2))
      ∧ θ_run (Cert.NormPromptRefIdeal.defs (F := Ideal)) (onTc (τ := Cert.NormPromptRefIdeal.τ) (Cert.NormPromptRefIdeal.main (F := Ideal))) ⟨m', fun _ => 0, g'⟩ (fun r => ∀ c : Dev Cert.NormPromptRefIdeal.nD,
          r.2.mem ((c.tc : Thread Cert.NormPromptRefIdeal.nD Cert.NormPromptRefIdeal.τ).loc Cert.NormPromptRefIdeal.main_v25) = v0 c
          ∧ r.2.mem ((c.tc : Thread Cert.NormPromptRefIdeal.nD Cert.NormPromptRefIdeal.τ).loc Cert.NormPromptRefIdeal.main_arg0) = m' ((c.tc : Thread Cert.NormPromptRefIdeal.nD Cert.NormPromptRefIdeal.τ).loc Cert.NormPromptRefIdeal.main_arg0)
          ∧ r.2.mem ((c.tc : Thread Cert.NormPromptRefIdeal.nD Cert.NormPromptRefIdeal.τ).loc Cert.NormPromptRefIdeal.main_arg1) = m' ((c.tc : Thread Cert.NormPromptRefIdeal.nD Cert.NormPromptRefIdeal.τ).loc Cert.NormPromptRefIdeal.main_arg1)
          ∧ r.2.mem ((c.tc : Thread Cert.NormPromptRefIdeal.nD Cert.NormPromptRefIdeal.τ).loc Cert.NormPromptRefIdeal.main_arg2) = m' ((c.tc : Thread Cert.NormPromptRefIdeal.nD Cert.NormPromptRefIdeal.τ).loc Cert.NormPromptRefIdeal.main_arg2))

def preserves_NormSample_NormSampleIdeal : Prop :=
  True

def algebraic_NormSampleIdeal_NormSampleRefIdeal [hNormSampleIdeal : Cert.NormSampleIdeal.Facts] [hNormSampleRefIdeal : Cert.NormSampleRefIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg)
    (m' : (ℓ : Loc Cert.NormSampleRefIdeal.nD Cert.NormSampleRefIdeal.τ Cert.NormSampleRefIdeal.sig) → Buf (Elt Ideal) ℓ) (g' : Dev Cert.NormSampleRefIdeal.nD → PrngReg), Pre_NormSampleIdeal m →
    (∀ c : Dev Cert.NormSampleIdeal.nD,
      m' ((c.tc : Thread Cert.NormSampleRefIdeal.nD Cert.NormSampleRefIdeal.τ).loc Cert.NormSampleRefIdeal.main_arg0) = m ((c.tc : Thread Cert.NormSampleIdeal.nD Cert.NormSampleIdeal.τ).loc Cert.NormSampleIdeal.main_arg0)
      ∧ m' ((c.tc : Thread Cert.NormSampleRefIdeal.nD Cert.NormSampleRefIdeal.τ).loc Cert.NormSampleRefIdeal.main_arg1) = m ((c.tc : Thread Cert.NormSampleIdeal.nD Cert.NormSampleIdeal.τ).loc Cert.NormSampleIdeal.main_arg1)
      ∧ m' ((c.tc : Thread Cert.NormSampleRefIdeal.nD Cert.NormSampleRefIdeal.τ).loc Cert.NormSampleRefIdeal.main_arg2) = m ((c.tc : Thread Cert.NormSampleIdeal.nD Cert.NormSampleIdeal.τ).loc Cert.NormSampleIdeal.main_arg2)) →
    ∃ (v0 : (c : Dev Cert.NormSampleIdeal.nD) → Buf (Elt Ideal) ((c.tc : Thread Cert.NormSampleIdeal.nD Cert.NormSampleIdeal.τ).loc Cert.NormSampleIdeal.main_v3)),
      θ_run (Cert.NormSampleIdeal.defs (F := Ideal)) (onTc (τ := Cert.NormSampleIdeal.τ) (Cert.NormSampleIdeal.main (F := Ideal))) ⟨m, fun _ => 0, g⟩ (fun r => ∀ c : Dev Cert.NormSampleIdeal.nD,
          r.2.mem ((c.tc : Thread Cert.NormSampleIdeal.nD Cert.NormSampleIdeal.τ).loc Cert.NormSampleIdeal.main_v3) = v0 c
          ∧ r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
          ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1)
          ∧ r.2.mem ((c.tc : Thread Cert.NormSampleIdeal.nD Cert.NormSampleIdeal.τ).loc Cert.NormSampleIdeal.main_arg2) = m ((c.tc : Thread Cert.NormSampleIdeal.nD Cert.NormSampleIdeal.τ).loc Cert.NormSampleIdeal.main_arg2))
      ∧ θ_run (Cert.NormSampleRefIdeal.defs (F := Ideal)) (onTc (τ := Cert.NormSampleRefIdeal.τ) (Cert.NormSampleRefIdeal.main (F := Ideal))) ⟨m', fun _ => 0, g'⟩ (fun r => ∀ c : Dev Cert.NormSampleRefIdeal.nD,
          r.2.mem ((c.tc : Thread Cert.NormSampleRefIdeal.nD Cert.NormSampleRefIdeal.τ).loc Cert.NormSampleRefIdeal.main_v25) = v0 c
          ∧ r.2.mem ((c.tc : Thread Cert.NormSampleRefIdeal.nD Cert.NormSampleRefIdeal.τ).loc Cert.NormSampleRefIdeal.main_arg0) = m' ((c.tc : Thread Cert.NormSampleRefIdeal.nD Cert.NormSampleRefIdeal.τ).loc Cert.NormSampleRefIdeal.main_arg0)
          ∧ r.2.mem ((c.tc : Thread Cert.NormSampleRefIdeal.nD Cert.NormSampleRefIdeal.τ).loc Cert.NormSampleRefIdeal.main_arg1) = m' ((c.tc : Thread Cert.NormSampleRefIdeal.nD Cert.NormSampleRefIdeal.τ).loc Cert.NormSampleRefIdeal.main_arg1)
          ∧ r.2.mem ((c.tc : Thread Cert.NormSampleRefIdeal.nD Cert.NormSampleRefIdeal.τ).loc Cert.NormSampleRefIdeal.main_arg2) = m' ((c.tc : Thread Cert.NormSampleRefIdeal.nD Cert.NormSampleRefIdeal.τ).loc Cert.NormSampleRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v10)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v10) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v270) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def Claim : Prop :=
  ∃ (hAttn : Cert.Attn.Facts) (hAttnIdeal : Cert.AttnIdeal.Facts) (hAttnRefIdeal : Cert.AttnRefIdeal.Facts) (hInEven : Cert.InEven.Facts) (hInEvenIdeal : Cert.InEvenIdeal.Facts) (hInEvenRefIdeal : Cert.InEvenRefIdeal.Facts) (hInOdd : Cert.InOdd.Facts) (hInOddIdeal : Cert.InOddIdeal.Facts) (hInOddRefIdeal : Cert.InOddRefIdeal.Facts) (hOutPrompt : Cert.OutPrompt.Facts) (hOutPromptIdeal : Cert.OutPromptIdeal.Facts) (hOutPromptRefIdeal : Cert.OutPromptRefIdeal.Facts) (hOutSample : Cert.OutSample.Facts) (hOutSampleIdeal : Cert.OutSampleIdeal.Facts) (hOutSampleRefIdeal : Cert.OutSampleRefIdeal.Facts) (hAda : Cert.Ada.Facts) (hAdaIdeal : Cert.AdaIdeal.Facts) (hAdaRefIdeal : Cert.AdaRefIdeal.Facts) (hNormPrompt : Cert.NormPrompt.Facts) (hNormPromptIdeal : Cert.NormPromptIdeal.Facts) (hNormPromptRefIdeal : Cert.NormPromptRefIdeal.Facts) (hNormSample : Cert.NormSample.Facts) (hNormSampleIdeal : Cert.NormSampleIdeal.Facts) (hNormSampleRefIdeal : Cert.NormSampleRefIdeal.Facts) (hConv : Cert.Conv.Facts) (hConvIdeal : Cert.ConvIdeal.Facts) (hConvRefIdeal : Cert.ConvRefIdeal.Facts) (hPre_gains_finite : Cert.Pre_gains_finite.Facts),
    quiescent_Attn (hAttn := hAttn)
    ∧ quiescent_AttnIdeal (hAttnIdeal := hAttnIdeal)
    ∧ quiescent_AttnIdeal_pre_gains_finite (hAttnIdeal := hAttnIdeal) (hPre_gains_finite := hPre_gains_finite)
    ∧ quiescent_AttnRefIdeal (hAttnRefIdeal := hAttnRefIdeal)
    ∧ quiescent_AttnRefIdeal_pre_gains_finite (hAttnRefIdeal := hAttnRefIdeal) (hPre_gains_finite := hPre_gains_finite)
    ∧ quiescent_InEven (hInEven := hInEven)
    ∧ quiescent_InEvenIdeal (hInEvenIdeal := hInEvenIdeal)
    ∧ quiescent_InEvenRefIdeal (hInEvenRefIdeal := hInEvenRefIdeal)
    ∧ quiescent_InOdd (hInOdd := hInOdd)
    ∧ quiescent_InOddIdeal (hInOddIdeal := hInOddIdeal)
    ∧ quiescent_InOddRefIdeal (hInOddRefIdeal := hInOddRefIdeal)
    ∧ quiescent_OutPrompt (hOutPrompt := hOutPrompt)
    ∧ quiescent_OutPromptIdeal (hOutPromptIdeal := hOutPromptIdeal)
    ∧ quiescent_OutPromptRefIdeal (hOutPromptRefIdeal := hOutPromptRefIdeal)
    ∧ quiescent_OutSample (hOutSample := hOutSample)
    ∧ quiescent_OutSampleIdeal (hOutSampleIdeal := hOutSampleIdeal)
    ∧ quiescent_OutSampleRefIdeal (hOutSampleRefIdeal := hOutSampleRefIdeal)
    ∧ quiescent_Ada (hAda := hAda)
    ∧ quiescent_AdaIdeal (hAdaIdeal := hAdaIdeal)
    ∧ quiescent_AdaRefIdeal (hAdaRefIdeal := hAdaRefIdeal)
    ∧ quiescent_NormPrompt (hNormPrompt := hNormPrompt)
    ∧ quiescent_NormPromptIdeal (hNormPromptIdeal := hNormPromptIdeal)
    ∧ quiescent_NormPromptRefIdeal (hNormPromptRefIdeal := hNormPromptRefIdeal)
    ∧ quiescent_NormSample (hNormSample := hNormSample)
    ∧ quiescent_NormSampleIdeal (hNormSampleIdeal := hNormSampleIdeal)
    ∧ quiescent_NormSampleRefIdeal (hNormSampleRefIdeal := hNormSampleRefIdeal)
    ∧ quiescent_Conv (hConv := hConv)
    ∧ quiescent_ConvIdeal (hConvIdeal := hConvIdeal)
    ∧ quiescent_ConvRefIdeal (hConvRefIdeal := hConvRefIdeal)
    ∧ preserves_Attn_AttnIdeal
    ∧ algebraic_AttnIdeal_AttnRefIdeal_pre_gains_finite (hAttnIdeal := hAttnIdeal) (hAttnRefIdeal := hAttnRefIdeal) (hPre_gains_finite := hPre_gains_finite)
    ∧ preserves_InEven_InEvenIdeal
    ∧ algebraic_InEvenIdeal_InEvenRefIdeal (hInEvenIdeal := hInEvenIdeal) (hInEvenRefIdeal := hInEvenRefIdeal)
    ∧ preserves_InOdd_InOddIdeal
    ∧ algebraic_InOddIdeal_InOddRefIdeal (hInOddIdeal := hInOddIdeal) (hInOddRefIdeal := hInOddRefIdeal)
    ∧ preserves_OutPrompt_OutPromptIdeal
    ∧ algebraic_OutPromptIdeal_OutPromptRefIdeal (hOutPromptIdeal := hOutPromptIdeal) (hOutPromptRefIdeal := hOutPromptRefIdeal)
    ∧ preserves_OutSample_OutSampleIdeal
    ∧ algebraic_OutSampleIdeal_OutSampleRefIdeal (hOutSampleIdeal := hOutSampleIdeal) (hOutSampleRefIdeal := hOutSampleRefIdeal)
    ∧ preserves_Ada_AdaIdeal
    ∧ algebraic_AdaIdeal_AdaRefIdeal (hAdaIdeal := hAdaIdeal) (hAdaRefIdeal := hAdaRefIdeal)
    ∧ preserves_NormPrompt_NormPromptIdeal
    ∧ algebraic_NormPromptIdeal_NormPromptRefIdeal (hNormPromptIdeal := hNormPromptIdeal) (hNormPromptRefIdeal := hNormPromptRefIdeal)
    ∧ preserves_NormSample_NormSampleIdeal
    ∧ algebraic_NormSampleIdeal_NormSampleRefIdeal (hNormSampleIdeal := hNormSampleIdeal) (hNormSampleRefIdeal := hNormSampleRefIdeal)
    ∧ preserves_Conv_ConvIdeal
    ∧ algebraic_ConvIdeal_ConvRefIdeal (hConvIdeal := hConvIdeal) (hConvRefIdeal := hConvRefIdeal)
-- ==== Pre_gains_finite.lean ====
abbrev S8192x14336 : Shape := ⟨2, ![8192, 14336]⟩
abbrev S1x128 : Shape := ⟨2, ![1, 128]⟩
abbrev S_ : Shape := ⟨0, ![]⟩

class Facts : Prop where
  bcast_S_S1x128 : S_.BroadcastsInDim S1x128 (![] : Fin 0 → Fin S1x128.rank)

variable [Facts]

def fn {F : FTy → Type} [FloatOps F] (main_arg0 : FVec F S8192x14336 .bf16) (main_arg1 : FVec F S1x128 .f32) (main_arg2 : FVec F S1x128 .f32) : IVec S1x128 1 :=
  let main_v0 : FVec F S1x128 .f32 := Host.absf main_arg1
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_v3 : FVec F S1x128 .f32 := Host.absf main_arg2
  let main_cst_0 : FVec F S_ .f32 := constant S_ .f32 0x7F800000#32
  let main_v4 : FVec F S1x128 .f32 := broadcastInDim S1x128 ![] bcast_S_S1x128 main_cst_0
  let main_v5 : IVec S1x128 1 := cmpf .olt main_v3 main_v4
  let main_v6 : IVec S1x128 1 := andi main_v2 main_v5
  main_v6
-- ==== Attn.lean ====
abbrev S8192x14336 : Shape := ⟨2, ![8192, 14336]⟩
abbrev S1x128 : Shape := ⟨2, ![1, 128]⟩
abbrev S128 : Shape := ⟨1, ![128]⟩
abbrev S8192x2048 : Shape := ⟨2, ![8192, 2048]⟩
abbrev S32x1x16x256x128 : Shape := ⟨5, ![32, 1, 16, 256, 128]⟩
abbrev S256x2048 : Shape := ⟨2, ![256, 2048]⟩
abbrev S1x1x16x256x128 : Shape := ⟨5, ![1, 1, 16, 256, 128]⟩
abbrev S256x128 : Shape := ⟨2, ![256, 128]⟩
abbrev S256 : Shape := ⟨1, ![256]⟩
abbrev S256x1 : Shape := ⟨2, ![256, 1]⟩
abbrev S1x1x1x256x128 : Shape := ⟨5, ![1, 1, 1, 256, 128]⟩
abbrev S256x256 : Shape := ⟨2, ![256, 256]⟩

abbrev nBuf : Space → Nat
  | .hbm => 10
  | .vmem => 16
  | .smem => 0
  | _ => 0

abbrev bufTy : (tb : Table) → Fin (tcTables nBuf tb) → BufTy
  | .hbm, ⟨0, _⟩ => ⟨S8192x14336, .bf16⟩
  | .hbm, ⟨1, _⟩ => ⟨S1x128, .f32⟩
  | .hbm, ⟨2, _⟩ => ⟨S1x128, .f32⟩
  | .hbm, ⟨3, _⟩ => ⟨S128, .f32⟩
  | .hbm, ⟨4, _⟩ => ⟨S128, .f32⟩
  | .hbm, ⟨5, _⟩ => ⟨S1x128, .f32⟩
  | .hbm, ⟨6, _⟩ => ⟨S1x128, .f32⟩
  | .hbm, ⟨7, _⟩ => ⟨S8192x2048, .bf16⟩
  | .hbm, ⟨8, _⟩ => ⟨S32x1x16x256x128, .f32⟩
  | .hbm, ⟨9, _⟩ => ⟨S32x1x16x256x128, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1x128, .f32⟩
  | .local _ .vmem, ⟨9, _⟩ => ⟨S1x128, .f32⟩
  | .local _ .vmem, ⟨10, _⟩ => ⟨S256x2048, .bf16⟩
  | .local _ .vmem, ⟨11, _⟩ => ⟨S256x2048, .bf16⟩
  | .local _ .vmem, ⟨12, _⟩ => ⟨S1x1x16x256x128, .f32⟩
  | .local _ .vmem, ⟨13, _⟩ => ⟨S1x1x16x256x128, .f32⟩
  | .local _ .vmem, ⟨14, _⟩ => ⟨S1x1x16x256x128, .f32⟩
  | .local _ .vmem, ⟨15, _⟩ => ⟨S1x1x16x256x128, .f32⟩
  | _, _ => ⟨S8192x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x16x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x16x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnIdeal.lean ====
variable {F : FTy → Type} [FloatOps F] [Named F]
def κ : String → Option EReal := fun
  | "q_scale" => some (((11863283 * 134217728⁻¹) * (Real.log 2)⁻¹ : ℝ) : EReal)
  | _ => none
-- ==== AttnRefIdeal.lean ====
abbrev S8192x14336 : Shape := ⟨2, ![8192, 14336]⟩
abbrev S1x128 : Shape := ⟨2, ![1, 128]⟩
abbrev S32x256x14336 : Shape := ⟨3, ![32, 256, 14336]⟩
abbrev S32x256x2048 : Shape := ⟨3, ![32, 256, 2048]⟩
abbrev S32x256x4096 : Shape := ⟨3, ![32, 256, 4096]⟩
abbrev S32x256x16x128 : Shape := ⟨4, ![32, 256, 16, 128]⟩
abbrev S32x16x256x128 : Shape := ⟨4, ![32, 16, 256, 128]⟩
abbrev S128 : Shape := ⟨1, ![128]⟩
abbrev S_ : Shape := ⟨0, ![]⟩
abbrev S32x16x256 : Shape := ⟨3, ![32, 16, 256]⟩
abbrev S32x16x256x1 : Shape := ⟨4, ![32, 16, 256, 1]⟩
abbrev S1x1x1x128 : Shape := ⟨4, ![1, 1, 1, 128]⟩
abbrev S32x16x256x256 : Shape := ⟨4, ![32, 16, 256, 256]⟩
abbrev S8192x2048 : Shape := ⟨2, ![8192, 2048]⟩
abbrev S32x1x16x256x128 : Shape := ⟨5, ![32, 1, 16, 256, 128]⟩

abbrev nBuf : Space → Nat
  | .hbm => 86
  | .vmem => 0
  | .smem => 0
  | _ => 0

abbrev bufTy : (tb : Table) → Fin (tcTables nBuf tb) → BufTy
  | .hbm, ⟨0, _⟩ => ⟨S8192x14336, .bf16⟩
  | .hbm, ⟨1, _⟩ => ⟨S1x128, .f32⟩
  | .hbm, ⟨2, _⟩ => ⟨S1x128, .f32⟩
  | .hbm, ⟨3, _⟩ => ⟨S8192x14336, .f32⟩
  | .hbm, ⟨4, _⟩ => ⟨S32x256x14336, .f32⟩
  | .hbm, ⟨5, _⟩ => ⟨S32x256x2048, .f32⟩
  | .hbm, ⟨6, _⟩ => ⟨S32x256x2048, .f32⟩
  | .hbm, ⟨7, _⟩ => ⟨S32x256x2048, .f32⟩
  | .hbm, ⟨8, _⟩ => ⟨S32x256x4096, .f32⟩
  | .hbm, ⟨9, _⟩ => ⟨S32x256x4096, .f32⟩
  | .hbm, ⟨10, _⟩ => ⟨S32x256x16x128, .f32⟩
  | .hbm, ⟨11, _⟩ => ⟨S32x16x256x128, .f32⟩
  | .hbm, ⟨12, _⟩ => ⟨S128, .f32⟩
  | .hbm, ⟨13, _⟩ => ⟨S32x16x256x128, .f32⟩
  | .hbm, ⟨14, _⟩ => ⟨S_, .f32⟩
  | .hbm, ⟨15, _⟩ => ⟨S32x16x256, .f32⟩
  | .hbm, ⟨16, _⟩ => ⟨S32x16x256x1, .f32⟩
  | .hbm, ⟨17, _⟩ => ⟨S_, .f32⟩
  | .hbm, ⟨18, _⟩ => ⟨S32x16x256x1, .f32⟩
  | .hbm, ⟨19, _⟩ => ⟨S32x16x256x1, .f32⟩
  | .hbm, ⟨20, _⟩ => ⟨S_, .f32⟩
  | .hbm, ⟨21, _⟩ => ⟨S32x16x256x1, .f32⟩
  | .hbm, ⟨22, _⟩ => ⟨S32x16x256x1, .f32⟩
  | .hbm, ⟨23, _⟩ => ⟨S32x16x256x1, .f32⟩
  | .hbm, ⟨24, _⟩ => ⟨S32x16x256x128, .f32⟩
  | .hbm, ⟨25, _⟩ => ⟨S32x16x256x128, .f32⟩
  | .hbm, ⟨26, _⟩ => ⟨S1x1x1x128, .f32⟩
  | .hbm, ⟨27, _⟩ => ⟨S32x16x256x128, .f32⟩
  | .hbm, ⟨28, _⟩ => ⟨S32x16x256x128, .f32⟩
  | .hbm, ⟨29, _⟩ => ⟨S32x256x16x128, .f32⟩
  | .hbm, ⟨30, _⟩ => ⟨S32x16x256x128, .f32⟩
  | .hbm, ⟨31, _⟩ => ⟨S128, .f32⟩
  | .hbm, ⟨32, _⟩ => ⟨S32x16x256x128, .f32⟩
  | .hbm, ⟨33, _⟩ => ⟨S_, .f32⟩
  | .hbm, ⟨34, _⟩ => ⟨S32x16x256, .f32⟩
  | .hbm, ⟨35, _⟩ => ⟨S32x16x256x1, .f32⟩
  | .hbm, ⟨36, _⟩ => ⟨S_, .f32⟩
  | .hbm, ⟨37, _⟩ => ⟨S32x16x256x1, .f32⟩
  | .hbm, ⟨38, _⟩ => ⟨S32x16x256x1, .f32⟩
  | .hbm, ⟨39, _⟩ => ⟨S_, .f32⟩
  | .hbm, ⟨40, _⟩ => ⟨S32x16x256x1, .f32⟩
  | .hbm, ⟨41, _⟩ => ⟨S32x16x256x1, .f32⟩
  | .hbm, ⟨42, _⟩ => ⟨S32x16x256x1, .f32⟩
  | .hbm, ⟨43, _⟩ => ⟨S32x16x256x128, .f32⟩
  | .hbm, ⟨44, _⟩ => ⟨S32x16x256x128, .f32⟩
  | .hbm, ⟨45, _⟩ => ⟨S1x1x1x128, .f32⟩
  | .hbm, ⟨46, _⟩ => ⟨S32x16x256x128, .f32⟩
  | .hbm, ⟨47, _⟩ => ⟨S32x16x256x128, .f32⟩
  | .hbm, ⟨48, _⟩ => ⟨S32x256x16x128, .f32⟩
  | .hbm, ⟨49, _⟩ => ⟨S32x16x256x128, .f32⟩
  | .hbm, ⟨50, _⟩ => ⟨S32x16x256x256, .f32⟩
  | .hbm, ⟨51, _⟩ => ⟨S_, .f32⟩
  | .hbm, ⟨52, _⟩ => ⟨S32x16x256x256, .f32⟩
  | .hbm, ⟨53, _⟩ => ⟨S32x16x256x256, .f32⟩
  | .hbm, ⟨54, _⟩ => ⟨S_, .f32⟩
  | .hbm, ⟨55, _⟩ => ⟨S32x16x256, .f32⟩
  | .hbm, ⟨56, _⟩ => ⟨S_, .f32⟩
  | .hbm, ⟨57, _⟩ => ⟨S32x16x256, .f32⟩
  | .hbm, ⟨58, _⟩ => ⟨S32x16x256, .f32⟩
  | .hbm, ⟨59, _⟩ => ⟨S32x16x256x1, .f32⟩
  | .hbm, ⟨60, _⟩ => ⟨S32x16x256x256, .f32⟩
  | .hbm, ⟨61, _⟩ => ⟨S32x16x256x256, .f32⟩
  | .hbm, ⟨62, _⟩ => ⟨S32x16x256x256, .f32⟩
  | .hbm, ⟨63, _⟩ => ⟨S_, .f32⟩
  | .hbm, ⟨64, _⟩ => ⟨S32x16x256, .f32⟩
  | .hbm, ⟨65, _⟩ => ⟨S32x16x256x1, .f32⟩
  | .hbm, ⟨66, _⟩ => ⟨S32x16x256x256, .f32⟩
  | .hbm, ⟨67, _⟩ => ⟨S32x16x256x256, .f32⟩
  | .hbm, ⟨68, _⟩ => ⟨S32x16x256x128, .f32⟩
  | .hbm, ⟨69, _⟩ => ⟨S32x256x16x128, .f32⟩
  | .hbm, ⟨70, _⟩ => ⟨S32x256x2048, .f32⟩
  | .hbm, ⟨71, _⟩ => ⟨S32x256x2048, .f32⟩
  | .hbm, ⟨72, _⟩ => ⟨S32x256x2048, .f32⟩
  | .hbm, ⟨73, _⟩ => ⟨S32x256x2048, .f32⟩
  | .hbm, ⟨74, _⟩ => ⟨S_, .f32⟩
  | .hbm, ⟨75, _⟩ => ⟨S32x256x2048, .f32⟩
  | .hbm, ⟨76, _⟩ => ⟨S32x256x2048, .f32⟩
  | .hbm, ⟨77, _⟩ => ⟨S_, .f32⟩
  | .hbm, ⟨78, _⟩ => ⟨S32x256x2048, .f32⟩
  | .hbm, ⟨79, _⟩ => ⟨S32x256x2048, .f32⟩
  | .hbm, ⟨80, _⟩ => ⟨S32x256x2048, .f32⟩
  | .hbm, ⟨81, _⟩ => ⟨S32x256x2048, .f32⟩
  | .hbm, ⟨82, _⟩ => ⟨S8192x2048, .f32⟩
  | .hbm, ⟨83, _⟩ => ⟨S8192x2048, .bf16⟩
  | .hbm, ⟨84, _⟩ => ⟨S32x1x16x256x128, .f32⟩
  | .hbm, ⟨85, _⟩ => ⟨S32x1x16x256x128, .f32⟩
  | _, _ => ⟨S8192x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== InEven.lean ====
abbrev S8192x4096 : Shape := ⟨2, ![8192, 4096]⟩
abbrev S1x4096x8192 : Shape := ⟨3, ![1, 4096, 8192]⟩
abbrev S1x4096x4096 : Shape := ⟨3, ![1, 4096, 4096]⟩
abbrev S1x4096x14336 : Shape := ⟨3, ![1, 4096, 14336]⟩
abbrev S4096x8192 : Shape := ⟨2, ![4096, 8192]⟩
abbrev S4096x4096 : Shape := ⟨2, ![4096, 4096]⟩
abbrev S4096x14336 : Shape := ⟨2, ![4096, 14336]⟩
abbrev S8192x8192 : Shape := ⟨2, ![8192, 8192]⟩
abbrev S1024x4096 : Shape := ⟨2, ![1024, 4096]⟩
abbrev S4096x1024 : Shape := ⟨2, ![4096, 1024]⟩
abbrev S64x4096 : Shape := ⟨2, ![64, 4096]⟩
abbrev S64x14336 : Shape := ⟨2, ![64, 14336]⟩
abbrev S1024x1024 : Shape := ⟨2, ![1024, 1024]⟩

abbrev nBuf : Space → Nat
  | .hbm => 11
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S1x4096x8192, .f32⟩
  | .hbm, ⟨2, _⟩ => ⟨S1x4096x4096, .f32⟩
  | .hbm, ⟨3, _⟩ => ⟨S1x4096x14336, .f32⟩
  | .hbm, ⟨4, _⟩ => ⟨S4096x8192, .f32⟩
  | .hbm, ⟨5, _⟩ => ⟨S4096x8192, .bf16⟩
  | .hbm, ⟨6, _⟩ => ⟨S4096x4096, .f32⟩
  | .hbm, ⟨7, _⟩ => ⟨S4096x14336, .f32⟩
  | .hbm, ⟨8, _⟩ => ⟨S8192x8192, .bf16⟩
  | .hbm, ⟨9, _⟩ => ⟨S4096x4096, .bf16⟩
  | .hbm, ⟨10, _⟩ => ⟨S4096x14336, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S64x4096, .f32⟩
  | .local _ .vmem, ⟨5, _⟩ => ⟨S64x4096, .f32⟩
  | .local _ .vmem, ⟨6, _⟩ => ⟨S64x14336, .f32⟩
  | .local _ .vmem, ⟨7, _⟩ => ⟨S64x14336, .f32⟩
  | .local _ .vmem, ⟨8, _⟩ => ⟨S1024x1024, .bf16⟩
  | .local _ .vmem, ⟨9, _⟩ => ⟨S1024x1024, .bf16⟩
  | .local _ .vmem, ⟨10, _⟩ => ⟨S64x4096, .bf16⟩
  | .local _ .vmem, ⟨11, _⟩ => ⟨S64x4096, .bf16⟩
  | .local _ .vmem, ⟨12, _⟩ => ⟨S64x14336, .bf16⟩
  | .local _ .vmem, ⟨13, _⟩ => ⟨S64x14336, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x14336 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x14336 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InEvenRefIdeal.lean ====
abbrev S8192x4096 : Shape := ⟨2, ![8192, 4096]⟩
abbrev S1x4096x8192 : Shape := ⟨3, ![1, 4096, 8192]⟩
abbrev S1x4096x4096 : Shape := ⟨3, ![1, 4096, 4096]⟩
abbrev S1x4096x14336 : Shape := ⟨3, ![1, 4096, 14336]⟩
abbrev S4096x8192 : Shape := ⟨2, ![4096, 8192]⟩
abbrev S8192x8192 : Shape := ⟨2, ![8192, 8192]⟩
abbrev S4096x4096 : Shape := ⟨2, ![4096, 4096]⟩
abbrev S4096x14336 : Shape := ⟨2, ![4096, 14336]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x8192, .f32⟩
  | .hbm, ⟨2, _⟩ => ⟨S1x4096x4096, .f32⟩
  | .hbm, ⟨3, _⟩ => ⟨S1x4096x14336, .f32⟩
  | .hbm, ⟨4, _⟩ => ⟨S8192x4096, .f32⟩
  | .hbm, ⟨5, _⟩ => ⟨S4096x8192, .f32⟩
  | .hbm, ⟨6, _⟩ => ⟨S8192x8192, .f32⟩
  | .hbm, ⟨7, _⟩ => ⟨S8192x8192, .bf16⟩
  | .hbm, ⟨8, _⟩ => ⟨S4096x4096, .f32⟩
  | .hbm, ⟨9, _⟩ => ⟨S4096x4096, .bf16⟩
  | .hbm, ⟨10, _⟩ => ⟨S4096x14336, .f32⟩
  | .hbm, ⟨11, _⟩ => ⟨S4096x14336, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== InOdd.lean ====
abbrev S8192x4096 : Shape := ⟨2, ![8192, 4096]⟩
abbrev S4096x14336 : Shape := ⟨2, ![4096, 14336]⟩
abbrev S1x4096x4096 : Shape := ⟨3, ![1, 4096, 4096]⟩
abbrev S1x2048x2048 : Shape := ⟨3, ![1, 2048, 2048]⟩
abbrev S4096x4096 : Shape := ⟨2, ![4096, 4096]⟩
abbrev S2048x2048 : Shape := ⟨2, ![2048, 2048]⟩
abbrev S8192x14336 : Shape := ⟨2, ![8192, 14336]⟩
abbrev S1024x4096 : Shape := ⟨2, ![1024, 4096]⟩
abbrev S4096x1024 : Shape := ⟨2, ![4096, 1024]⟩
abbrev S64x4096 : Shape := ⟨2, ![64, 4096]⟩
abbrev S32x2048 : Shape := ⟨2, ![32, 2048]⟩
abbrev S1024x1024 : Shape := ⟨2, ![1024, 1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S4096x14336, .bf16⟩
  | .hbm, ⟨2, _⟩ => ⟨S1x4096x4096, .f32⟩
  | .hbm, ⟨3, _⟩ => ⟨S1x2048x2048, .f32⟩
  | .hbm, ⟨4, _⟩ => ⟨S4096x4096, .f32⟩
  | .hbm, ⟨5, _⟩ => ⟨S2048x2048, .f32⟩
  | .hbm, ⟨6, _⟩ => ⟨S8192x14336, .bf16⟩
  | .hbm, ⟨7, _⟩ => ⟨S4096x4096, .bf16⟩
  | .hbm, ⟨8, _⟩ => ⟨S2048x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S64x4096, .f32⟩
  | .local _ .vmem, ⟨5, _⟩ => ⟨S64x4096, .f32⟩
  | .local _ .vmem, ⟨6, _⟩ => ⟨S32x2048, .f32⟩
  | .local _ .vmem, ⟨7, _⟩ => ⟨S32x2048, .f32⟩
  | .local _ .vmem, ⟨8, _⟩ => ⟨S1024x1024, .bf16⟩
  | .local _ .vmem, ⟨9, _⟩ => ⟨S1024x1024, .bf16⟩
  | .local _ .vmem, ⟨10, _⟩ => ⟨S64x4096, .bf16⟩
  | .local _ .vmem, ⟨11, _⟩ => ⟨S64x4096, .bf16⟩
  | .local _ .vmem, ⟨12, _⟩ => ⟨S32x2048, .bf16⟩
  | .local _ .vmem, ⟨13, _⟩ => ⟨S32x2048, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.muli arg0 c14_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.muli arg0 c14_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.muli arg0 c14_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.muli arg0 c14_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InOddRefIdeal.lean ====
abbrev S8192x4096 : Shape := ⟨2, ![8192, 4096]⟩
abbrev S4096x14336 : Shape := ⟨2, ![4096, 14336]⟩
abbrev S1x4096x4096 : Shape := ⟨3, ![1, 4096, 4096]⟩
abbrev S1x2048x2048 : Shape := ⟨3, ![1, 2048, 2048]⟩
abbrev S8192x14336 : Shape := ⟨2, ![8192, 14336]⟩
abbrev S4096x4096 : Shape := ⟨2, ![4096, 4096]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x14336, .bf16⟩
  | .hbm, ⟨2, _⟩ => ⟨S1x4096x4096, .f32⟩
  | .hbm, ⟨3, _⟩ => ⟨S1x2048x2048, .f32⟩
  | .hbm, ⟨4, _⟩ => ⟨S8192x4096, .f32⟩
  | .hbm, ⟨5, _⟩ => ⟨S4096x14336, .f32⟩
  | .hbm, ⟨6, _⟩ => ⟨S8192x14336, .f32⟩
  | .hbm, ⟨7, _⟩ => ⟨S8192x14336, .bf16⟩
  | .hbm, ⟨8, _⟩ => ⟨S4096x4096, .f32⟩
  | .hbm, ⟨9, _⟩ => ⟨S4096x4096, .bf16⟩
  | .hbm, ⟨10, _⟩ => ⟨S2048x2048, .f32⟩
  | .hbm, ⟨11, _⟩ => ⟨S2048x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== OutPrompt.lean ====
abbrev S8192x2048 : Shape := ⟨2, ![8192, 2048]⟩
abbrev S4096x4096 : Shape := ⟨2, ![4096, 4096]⟩
abbrev S32x256x4096 : Shape := ⟨3, ![32, 256, 4096]⟩
abbrev S8x12288 : Shape := ⟨2, ![8, 12288]⟩
abbrev S8192x4096 : Shape := ⟨2, ![8192, 4096]⟩
abbrev S8x1x12288 : Shape := ⟨3, ![8, 1, 12288]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .bf16⟩
  | .hbm, ⟨3, _⟩ => ⟨S32x256x4096, .f32⟩
  | .hbm, ⟨4, _⟩ => ⟨S8x12288, .f32⟩
  | .hbm, ⟨5, _⟩ => ⟨S8192x4096, .f32⟩
  | .hbm, ⟨6, _⟩ => ⟨S8x1x12288, .f32⟩
  | .hbm, ⟨7, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .f32⟩
  | .local _ .vmem, ⟨13, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8_i32 : BitVec 32 := 8#32
  let v1 : BitVec 32 := Scalar.addi c8_i32 arg1
  let c0_i32 : BitVec 32 := 0#32
  let c0_i32_0 : BitVec 32 := 0#32
  let c0_i32_1 : BitVec 32 := 0#32
  ![c0_i32.toNat, c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutPromptRefIdeal.lean ====
abbrev S8192x2048 : Shape := ⟨2, ![8192, 2048]⟩
abbrev S4096x4096 : Shape := ⟨2, ![4096, 4096]⟩
abbrev S32x256x4096 : Shape := ⟨3, ![32, 256, 4096]⟩
abbrev S8x12288 : Shape := ⟨2, ![8, 12288]⟩
abbrev S1x12288 : Shape := ⟨2, ![1, 12288]⟩
abbrev S1x1x12288 : Shape := ⟨3, ![1, 1, 12288]⟩
abbrev S1x1x4096 : Shape := ⟨3, ![1, 1, 4096]⟩
abbrev S32x256x2048 : Shape := ⟨3, ![32, 256, 2048]⟩
abbrev S8192x4096 : Shape := ⟨2, ![8192, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .bf16⟩
  | .hbm, ⟨3, _⟩ => ⟨S32x256x4096, .f32⟩
  | .hbm, ⟨4, _⟩ => ⟨S8x12288, .f32⟩
  | .hbm, ⟨5, _⟩ => ⟨S1x12288, .f32⟩
  | .hbm, ⟨6, _⟩ => ⟨S1x1x12288, .f32⟩
  | .hbm, ⟨7, _⟩ => ⟨S1x1x4096, .f32⟩
  | .hbm, ⟨8, _⟩ => ⟨S1x1x4096, .f32⟩
  | .hbm, ⟨9, _⟩ => ⟨S1x1x4096, .f32⟩
  | .hbm, ⟨10, _⟩ => ⟨S32x256x2048, .bf16⟩
  | .hbm, ⟨11, _⟩ => ⟨S32x256x2048, .bf16⟩
  | .hbm, ⟨12, _⟩ => ⟨S32x256x4096, .bf16⟩
  | .hbm, ⟨13, _⟩ => ⟨S32x256x4096, .f32⟩
  | .hbm, ⟨14, _⟩ => ⟨S4096x4096, .f32⟩
  | .hbm, ⟨15, _⟩ => ⟨S32x256x4096, .f32⟩
  | .hbm, ⟨16, _⟩ => ⟨S32x256x4096, .f32⟩
  | .hbm, ⟨17, _⟩ => ⟨S32x256x4096, .f32⟩
  | .hbm, ⟨18, _⟩ => ⟨S32x256x4096, .f32⟩
  | .hbm, ⟨19, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== OutSample.lean ====
abbrev S8192x2048 : Shape := ⟨2, ![8192, 2048]⟩
abbrev S4096x4096 : Shape := ⟨2, ![4096, 4096]⟩
abbrev S4x2048x4096 : Shape := ⟨3, ![4, 2048, 4096]⟩
abbrev S8x12288 : Shape := ⟨2, ![8, 12288]⟩
abbrev S8192x4096 : Shape := ⟨2, ![8192, 4096]⟩
abbrev S8x1x12288 : Shape := ⟨3, ![8, 1, 12288]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .bf16⟩
  | .hbm, ⟨3, _⟩ => ⟨S4x2048x4096, .f32⟩
  | .hbm, ⟨4, _⟩ => ⟨S8x12288, .f32⟩
  | .hbm, ⟨5, _⟩ => ⟨S8192x4096, .f32⟩
  | .hbm, ⟨6, _⟩ => ⟨S8x1x12288, .f32⟩
  | .hbm, ⟨7, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .f32⟩
  | .local _ .vmem, ⟨13, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c8_i32 : BitVec 32 := 8#32
  let v19 : BitVec 32 := Scalar.addi c8_i32 arg1
  let c0_i32_5 : BitVec 32 := 0#32
  let c0_i32_6 : BitVec 32 := 0#32
  ![v18.toNat, c0_i32_5.toNat, v19.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutSampleRefIdeal.lean ====
abbrev S8192x2048 : Shape := ⟨2, ![8192, 2048]⟩
abbrev S4096x4096 : Shape := ⟨2, ![4096, 4096]⟩
abbrev S4x2048x4096 : Shape := ⟨3, ![4, 2048, 4096]⟩
abbrev S8x12288 : Shape := ⟨2, ![8, 12288]⟩
abbrev S4x12288 : Shape := ⟨2, ![4, 12288]⟩
abbrev S4x1x12288 : Shape := ⟨3, ![4, 1, 12288]⟩
abbrev S4x1x4096 : Shape := ⟨3, ![4, 1, 4096]⟩
abbrev S4x2048x2048 : Shape := ⟨3, ![4, 2048, 2048]⟩
abbrev S8192x4096 : Shape := ⟨2, ![8192, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .bf16⟩
  | .hbm, ⟨3, _⟩ => ⟨S4x2048x4096, .f32⟩
  | .hbm, ⟨4, _⟩ => ⟨S8x12288, .f32⟩
  | .hbm, ⟨5, _⟩ => ⟨S4x12288, .f32⟩
  | .hbm, ⟨6, _⟩ => ⟨S4x1x12288, .f32⟩
  | .hbm, ⟨7, _⟩ => ⟨S4x1x4096, .f32⟩
  | .hbm, ⟨8, _⟩ => ⟨S4x1x4096, .f32⟩
  | .hbm, ⟨9, _⟩ => ⟨S4x1x4096, .f32⟩
  | .hbm, ⟨10, _⟩ => ⟨S4x2048x2048, .bf16⟩
  | .hbm, ⟨11, _⟩ => ⟨S4x2048x2048, .bf16⟩
  | .hbm, ⟨12, _⟩ => ⟨S4x2048x4096, .bf16⟩
  | .hbm, ⟨13, _⟩ => ⟨S4x2048x4096, .f32⟩
  | .hbm, ⟨14, _⟩ => ⟨S4096x4096, .f32⟩
  | .hbm, ⟨15, _⟩ => ⟨S4x2048x4096, .f32⟩
  | .hbm, ⟨16, _⟩ => ⟨S4x2048x4096, .f32⟩
  | .hbm, ⟨17, _⟩ => ⟨S4x2048x4096, .f32⟩
  | .hbm, ⟨18, _⟩ => ⟨S4x2048x4096, .f32⟩
  | .hbm, ⟨19, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Ada.lean ====
abbrev S4x4096 : Shape := ⟨2, ![4, 4096]⟩
abbrev S4096 : Shape := ⟨1, ![4096]⟩
abbrev S2x4096x12288 : Shape := ⟨3, ![2, 4096, 12288]⟩
abbrev S2x12288 : Shape := ⟨2, ![2, 12288]⟩
abbrev S1x4096 : Shape := ⟨2, ![1, 4096]⟩
abbrev S_ : Shape := ⟨0, ![]⟩
abbrev S3x4096 : Shape := ⟨2, ![3, 4096]⟩
abbrev S8x4096 : Shape := ⟨2, ![8, 4096]⟩
abbrev S2x1x12288 : Shape := ⟨3, ![2, 1, 12288]⟩
abbrev S2x8x12288 : Shape := ⟨3, ![2, 8, 12288]⟩
abbrev S1x4096x1024 : Shape := ⟨3, ![1, 4096, 1024]⟩
abbrev S1x1x1024 : Shape := ⟨3, ![1, 1, 1024]⟩
abbrev S1x8x1024 : Shape := ⟨3, ![1, 8, 1024]⟩
abbrev S4096x1024 : Shape := ⟨2, ![4096, 1024]⟩
abbrev S8x1024 : Shape := ⟨2, ![8, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x4096, .f32⟩
  | .hbm, ⟨1, _⟩ => ⟨S4096, .f32⟩
  | .hbm, ⟨2, _⟩ => ⟨S2x4096x12288, .f32⟩
  | .hbm, ⟨3, _⟩ => ⟨S2x12288, .f32⟩
  | .hbm, ⟨4, _⟩ => ⟨S1x4096, .f32⟩
  | .hbm, ⟨5, _⟩ => ⟨S_, .f32⟩
  | .hbm, ⟨6, _⟩ => ⟨S3x4096, .f32⟩
  | .hbm, ⟨7, _⟩ => ⟨S8x4096, .f32⟩
  | .hbm, ⟨8, _⟩ => ⟨S2x1x12288, .f32⟩
  | .hbm, ⟨9, _⟩ => ⟨S2x8x12288, .f32⟩
  | .local _ .vmem, ⟨0, _⟩ => ⟨S8x4096, .f32⟩
  | .local _ .vmem, ⟨1, _⟩ => ⟨S1x4096x1024, .f32⟩
  | .local _ .vmem, ⟨2, _⟩ => ⟨S1x4096x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S4x4096 : Shape := ⟨2, ![4, 4096]⟩
abbrev S4096 : Shape := ⟨1, ![4096]⟩
abbrev S2x4096x12288 : Shape := ⟨3, ![2, 4096, 12288]⟩
abbrev S2x12288 : Shape := ⟨2, ![2, 12288]⟩
abbrev S1x4096 : Shape := ⟨2, ![1, 4096]⟩
abbrev S_ : Shape := ⟨0, ![]⟩
abbrev S3x4096 : Shape := ⟨2, ![3, 4096]⟩
abbrev S8x4096 : Shape := ⟨2, ![8, 4096]⟩
abbrev S1x4096x12288 : Shape := ⟨3, ![1, 4096, 12288]⟩
abbrev S4096x12288 : Shape := ⟨2, ![4096, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S2x8x12288 : Shape := ⟨3, ![2, 8, 12288]⟩

abbrev nBuf : Space → Nat
  | .hbm => 45
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S4096, .f32⟩
  | .hbm, ⟨2, _⟩ => ⟨S2x4096x12288, .f32⟩
  | .hbm, ⟨3, _⟩ => ⟨S2x12288, .f32⟩
  | .hbm, ⟨4, _⟩ => ⟨S1x4096, .f32⟩
  | .hbm, ⟨5, _⟩ => ⟨S_, .f32⟩
  | .hbm, ⟨6, _⟩ => ⟨S3x4096, .f32⟩
  | .hbm, ⟨7, _⟩ => ⟨S8x4096, .f32⟩
  | .hbm, ⟨8, _⟩ => ⟨S8x4096, .f32⟩
  | .hbm, ⟨9, _⟩ => ⟨S8x4096, .f32⟩
  | .hbm, ⟨10, _⟩ => ⟨S_, .f32⟩
  | .hbm, ⟨11, _⟩ => ⟨S8x4096, .f32⟩
  | .hbm, ⟨12, _⟩ => ⟨S8x4096, .f32⟩
  | .hbm, ⟨13, _⟩ => ⟨S_, .f32⟩
  | .hbm, ⟨14, _⟩ => ⟨S8x4096, .f32⟩
  | .hbm, ⟨15, _⟩ => ⟨S8x4096, .f32⟩
  | .hbm, ⟨16, _⟩ => ⟨S8x4096, .f32⟩
  | .hbm, ⟨17, _⟩ => ⟨S1x4096x12288, .f32⟩
  | .hbm, ⟨18, _⟩ => ⟨S4096x12288, .f32⟩
  | .hbm, ⟨19, _⟩ => ⟨S8x12288, .f32⟩
  | .hbm, ⟨20, _⟩ => ⟨S1x12288, .f32⟩
  | .hbm, ⟨21, _⟩ => ⟨S12288, .f32⟩
  | .hbm, ⟨22, _⟩ => ⟨S1x12288, .f32⟩
  | .hbm, ⟨23, _⟩ => ⟨S8x12288, .f32⟩
  | .hbm, ⟨24, _⟩ => ⟨S8x12288, .f32⟩
  | .hbm, ⟨25, _⟩ => ⟨S8x4096, .f32⟩
  | .hbm, ⟨26, _⟩ => ⟨S8x4096, .f32⟩
  | .hbm, ⟨27, _⟩ => ⟨S_, .f32⟩
  | .hbm, ⟨28, _⟩ => ⟨S8x4096, .f32⟩
  | .hbm, ⟨29, _⟩ => ⟨S8x4096, .f32⟩
  | .hbm, ⟨30, _⟩ => ⟨S_, .f32⟩
  | .hbm, ⟨31, _⟩ => ⟨S8x4096, .f32⟩
  | .hbm, ⟨32, _⟩ => ⟨S8x4096, .f32⟩
  | .hbm, ⟨33, _⟩ => ⟨S8x4096, .f32⟩
  | .hbm, ⟨34, _⟩ => ⟨S1x4096x12288, .f32⟩
  | .hbm, ⟨35, _⟩ => ⟨S4096x12288, .f32⟩
  | .hbm, ⟨36, _⟩ => ⟨S8x12288, .f32⟩
  | .hbm, ⟨37, _⟩ => ⟨S1x12288, .f32⟩
  | .hbm, ⟨38, _⟩ => ⟨S12288, .f32⟩
  | .hbm, ⟨39, _⟩ => ⟨S1x12288, .f32⟩
  | .hbm, ⟨40, _⟩ => ⟨S8x12288, .f32⟩
  | .hbm, ⟨41, _⟩ => ⟨S8x12288, .f32⟩
  | .hbm, ⟨42, _⟩ => ⟨S1x8x12288, .f32⟩
  | .hbm, ⟨43, _⟩ => ⟨S1x8x12288, .f32⟩
  | .hbm, ⟨44, _⟩ => ⟨S2x8x12288, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== NormPrompt.lean ====
abbrev S32x256x4096 : Shape := ⟨3, ![32, 256, 4096]⟩
abbrev S4096 : Shape := ⟨1, ![4096]⟩
abbrev S8x12288 : Shape := ⟨2, ![8, 12288]⟩
abbrev S8192x4096 : Shape := ⟨2, ![8192, 4096]⟩
abbrev S8x1x12288 : Shape := ⟨3, ![8, 1, 12288]⟩
abbrev S1x4096 : Shape := ⟨2, ![1, 4096]⟩
abbrev S512x4096 : Shape := ⟨2, ![512, 4096]⟩
abbrev S1x1x4096 : Shape := ⟨3, ![1, 1, 4096]⟩
abbrev S16x4096 : Shape := ⟨2, ![16, 4096]⟩
abbrev S16 : Shape := ⟨1, ![16]⟩
abbrev S16x1 : Shape := ⟨2, ![16, 1]⟩

abbrev nBuf : Space → Nat
  | .hbm => 7
  | .vmem => 9
  | .smem => 0
  | _ => 0

abbrev bufTy : (tb : Table) → Fin (tcTables nBuf tb) → BufTy
  | .hbm, ⟨0, _⟩ => ⟨S32x256x4096, .f32⟩
  | .hbm, ⟨1, _⟩ => ⟨S4096, .f32⟩
  | .hbm, ⟨2, _⟩ => ⟨S8x12288, .f32⟩
  | .hbm, ⟨3, _⟩ => ⟨S8192x4096, .f32⟩
  | .hbm, ⟨4, _⟩ => ⟨S8x1x12288, .f32⟩
  | .hbm, ⟨5, _⟩ => ⟨S1x4096, .f32⟩
  | .hbm, ⟨6, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S512x4096, .bf16⟩
  | .local _ .vmem, ⟨6, _⟩ => ⟨S512x4096, .bf16⟩
  | .local _ .vmem, ⟨7, _⟩ => ⟨S16x4096, .f32⟩
  | .local _ .vmem, ⟨8, _⟩ => ⟨S16x4096, .f32⟩
  | _, _ => ⟨S32x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v19 : BitVec 32 := Scalar.addi c0_i32 c32_i32
  let c1_i32 : BitVec 32 := 1#32
  ⟨c0_i32, v19, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c16_i32 : BitVec 32 := 16#32
  let v20 : BitVec 32 := Scalar.muli arg8 c16_i32
  v20
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c16_i32 : BitVec 32 := 16#32
  let v20 : BitVec 32 := Scalar.muli arg8 c16_i32
  let v21 : BitVec 32 := v20
  let v22 : Index := Scalar.indexCast v21
  let c0_12 : Index := 0#32
  ![v22.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormPromptRefIdeal.lean ====
abbrev S32x256x4096 : Shape := ⟨3, ![32, 256, 4096]⟩
abbrev S4096 : Shape := ⟨1, ![4096]⟩
abbrev S8x12288 : Shape := ⟨2, ![8, 12288]⟩
abbrev S1x12288 : Shape := ⟨2, ![1, 12288]⟩
abbrev S1x1x12288 : Shape := ⟨3, ![1, 1, 12288]⟩
abbrev S1x1x4096 : Shape := ⟨3, ![1, 1, 4096]⟩
abbrev S_ : Shape := ⟨0, ![]⟩
abbrev S32x256 : Shape := ⟨2, ![32, 256]⟩
abbrev S32x256x1 : Shape := ⟨3, ![32, 256, 1]⟩
abbrev S8192x4096 : Shape := ⟨2, ![8192, 4096]⟩

abbrev nBuf : Space → Nat
  | .hbm => 33
  | .vmem => 0
  | .smem => 0
  | _ => 0

abbrev bufTy : (tb : Table) → Fin (tcTables nBuf tb) → BufTy
  | .hbm, ⟨0, _⟩ => ⟨S32x256x4096, .f32⟩
  | .hbm, ⟨1, _⟩ => ⟨S4096, .f32⟩
  | .hbm, ⟨2, _⟩ => ⟨S8x12288, .f32⟩
  | .hbm, ⟨3, _⟩ => ⟨S1x12288, .f32⟩
  | .hbm, ⟨4, _⟩ => ⟨S1x1x12288, .f32⟩
  | .hbm, ⟨5, _⟩ => ⟨S1x1x4096, .f32⟩
  | .hbm, ⟨6, _⟩ => ⟨S1x1x4096, .f32⟩
  | .hbm, ⟨7, _⟩ => ⟨S1x1x4096, .f32⟩
  | .hbm, ⟨8, _⟩ => ⟨S32x256x4096, .f32⟩
  | .hbm, ⟨9, _⟩ => ⟨S_, .f32⟩
  | .hbm, ⟨10, _⟩ => ⟨S32x256, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S_, .f32⟩
  | .hbm, ⟨16, _⟩ => ⟨S32x256x1, .f32⟩
  | .hbm, ⟨17, _⟩ => ⟨S32x256x1, .f32⟩
  | .hbm, ⟨18, _⟩ => ⟨S32x256x1, .f32⟩
  | .hbm, ⟨19, _⟩ => ⟨S32x256x4096, .f32⟩
  | .hbm, ⟨20, _⟩ => ⟨S32x256x4096, .f32⟩
  | .hbm, ⟨21, _⟩ => ⟨S1x1x4096, .f32⟩
  | .hbm, ⟨22, _⟩ => ⟨S32x256x4096, .f32⟩
  | .hbm, ⟨23, _⟩ => ⟨S32x256x4096, .f32⟩
  | .hbm, ⟨24, _⟩ => ⟨S_, .f32⟩
  | .hbm, ⟨25, _⟩ => ⟨S1x1x4096, .f32⟩
  | .hbm, ⟨26, _⟩ => ⟨S1x1x4096, .f32⟩
  | .hbm, ⟨27, _⟩ => ⟨S32x256x4096, .f32⟩
  | .hbm, ⟨28, _⟩ => ⟨S32x256x4096, .f32⟩
  | .hbm, ⟨29, _⟩ => ⟨S32x256x4096, .f32⟩
  | .hbm, ⟨30, _⟩ => ⟨S32x256x4096, .f32⟩
  | .hbm, ⟨31, _⟩ => ⟨S8192x4096, .f32⟩
  | .hbm, ⟨32, _⟩ => ⟨S8192x4096, .bf16⟩
  | _, _ => ⟨S32x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== NormSample.lean ====
abbrev S4x2048x4096 : Shape := ⟨3, ![4, 2048, 4096]⟩
abbrev S4096 : Shape := ⟨1, ![4096]⟩
abbrev S8x12288 : Shape := ⟨2, ![8, 12288]⟩
abbrev S8192x4096 : Shape := ⟨2, ![8192, 4096]⟩
abbrev S8x1x12288 : Shape := ⟨3, ![8, 1, 12288]⟩
abbrev S1x4096 : Shape := ⟨2, ![1, 4096]⟩
abbrev S512x4096 : Shape := ⟨2, ![512, 4096]⟩
abbrev S1x1x4096 : Shape := ⟨3, ![1, 1, 4096]⟩
abbrev S16x4096 : Shape := ⟨2, ![16, 4096]⟩
abbrev S16 : Shape := ⟨1, ![16]⟩
abbrev S16x1 : Shape := ⟨2, ![16, 1]⟩

abbrev nBuf : Space → Nat
  | .hbm => 7
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S8x12288, .f32⟩
  | .hbm, ⟨3, _⟩ => ⟨S8192x4096, .f32⟩
  | .hbm, ⟨4, _⟩ => ⟨S8x1x12288, .f32⟩
  | .hbm, ⟨5, _⟩ => ⟨S1x4096, .f32⟩
  | .hbm, ⟨6, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S512x4096, .bf16⟩
  | .local _ .vmem, ⟨8, _⟩ => ⟨S512x4096, .bf16⟩
  | .local _ .vmem, ⟨9, _⟩ => ⟨S16x4096, .f32⟩
  | .local _ .vmem, ⟨10, _⟩ => ⟨S16x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v19 : BitVec 32 := Scalar.addi c0_i32 c32_i32
  let c1_i32 : BitVec 32 := 1#32
  ⟨c0_i32, v19, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c16_i32 : BitVec 32 := 16#32
  let v20 : BitVec 32 := Scalar.muli arg8 c16_i32
  v20
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c16_i32 : BitVec 32 := 16#32
  let v20 : BitVec 32 := Scalar.muli arg8 c16_i32
  let v21 : BitVec 32 := v20
  let v22 : Index := Scalar.indexCast v21
  let c0_12 : Index := 0#32
  ![v22.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c1_i32_6 : BitVec 32 := 1#32
  let c0_i32_7 : BitVec 32 := 0#32
  ![v18.toNat, c0_i32_5.toNat, c1_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormSampleRefIdeal.lean ====
abbrev S4x2048x4096 : Shape := ⟨3, ![4, 2048, 4096]⟩
abbrev S4096 : Shape := ⟨1, ![4096]⟩
abbrev S8x12288 : Shape := ⟨2, ![8, 12288]⟩
abbrev S4x12288 : Shape := ⟨2, ![4, 12288]⟩
abbrev S4x1x12288 : Shape := ⟨3, ![4, 1, 12288]⟩
abbrev S4x1x4096 : Shape := ⟨3, ![4, 1, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S8x12288, .f32⟩
  | .hbm, ⟨3, _⟩ => ⟨S4x12288, .f32⟩
  | .hbm, ⟨4, _⟩ => ⟨S4x1x12288, .f32⟩
  | .hbm, ⟨5, _⟩ => ⟨S4x1x4096, .f32⟩
  | .hbm, ⟨6, _⟩ => ⟨S4x1x4096, .f32⟩
  | .hbm, ⟨7, _⟩ => ⟨S4x1x4096, .f32⟩
  | .hbm, ⟨8, _⟩ => ⟨S4x2048x4096, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x4096, .f32⟩
  | .hbm, ⟨20, _⟩ => ⟨S4x2048x4096, .f32⟩
  | .hbm, ⟨21, _⟩ => ⟨S1x1x4096, .f32⟩
  | .hbm, ⟨22, _⟩ => ⟨S4x2048x4096, .f32⟩
  | .hbm, ⟨23, _⟩ => ⟨S4x2048x4096, .f32⟩
  | .hbm, ⟨24, _⟩ => ⟨S_, .f32⟩
  | .hbm, ⟨25, _⟩ => ⟨S4x1x4096, .f32⟩
  | .hbm, ⟨26, _⟩ => ⟨S4x1x4096, .f32⟩
  | .hbm, ⟨27, _⟩ => ⟨S4x2048x4096, .f32⟩
  | .hbm, ⟨28, _⟩ => ⟨S4x2048x4096, .f32⟩
  | .hbm, ⟨29, _⟩ => ⟨S4x2048x4096, .f32⟩
  | .hbm, ⟨30, _⟩ => ⟨S4x2048x4096, .f32⟩
  | .hbm, ⟨31, _⟩ => ⟨S8192x4096, .f32⟩
  | .hbm, ⟨32, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Conv.lean ====
abbrev S8192x14336 : Shape := ⟨2, ![8192, 14336]⟩
abbrev S1x31x2048 : Shape := ⟨3, ![1, 31, 2048]⟩
abbrev S1x2048 : Shape := ⟨2, ![1, 2048]⟩
abbrev S2048x2048 : Shape := ⟨2, ![2048, 2048]⟩
abbrev S31x2048 : Shape := ⟨2, ![31, 2048]⟩
abbrev S2048 : Shape := ⟨1, ![2048]⟩
abbrev S_ : Shape := ⟨0, ![]⟩
abbrev S32x2048 : Shape := ⟨2, ![32, 2048]⟩
abbrev S32x16x128 : Shape := ⟨3, ![32, 16, 128]⟩
abbrev S16x32x128 : Shape := ⟨3, ![16, 32, 128]⟩
abbrev S16x1x128 : Shape := ⟨3, ![16, 1, 128]⟩
abbrev S8192x2048 : Shape := ⟨2, ![8192, 2048]⟩
abbrev S256x2048 : Shape := ⟨2, ![256, 2048]⟩
abbrev S16x2048 : Shape := ⟨2, ![16, 2048]⟩
abbrev S16x288x128 : Shape := ⟨3, ![16, 288, 128]⟩
abbrev S16x256x128 : Shape := ⟨3, ![16, 256, 128]⟩
abbrev S16x128 : Shape := ⟨2, ![16, 128]⟩
abbrev S1x16x128 : Shape := ⟨3, ![1, 16, 128]⟩
abbrev S256x128 : Shape := ⟨2, ![256, 128]⟩
abbrev S1x256x128 : Shape := ⟨3, ![1, 256, 128]⟩
abbrev S64x128 : Shape := ⟨2, ![64, 128]⟩
abbrev S1x1x128 : Shape := ⟨3, ![1, 1, 128]⟩
abbrev S1x128 : Shape := ⟨2, ![1, 128]⟩
abbrev S1x64x128 : Shape := ⟨3, ![1, 64, 128]⟩
abbrev S256 : Shape := ⟨1, ![256]⟩
abbrev S256x1 : Shape := ⟨2, ![256, 1]⟩

abbrev nBuf : Space → Nat
  | .hbm => 19
  | .vmem => 24
  | .smem => 0
  | _ => 0

abbrev bufTy : (tb : Table) → Fin (tcTables nBuf tb) → BufTy
  | .hbm, ⟨0, _⟩ => ⟨S8192x14336, .bf16⟩
  | .hbm, ⟨1, _⟩ => ⟨S1x31x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S2048x2048, .bf16⟩
  | .hbm, ⟨6, _⟩ => ⟨S31x2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S_, .i32⟩
  | .hbm, ⟨11, _⟩ => ⟨S_, .f32⟩
  | .hbm, ⟨12, _⟩ => ⟨S32x2048, .f32⟩
  | .hbm, ⟨13, _⟩ => ⟨S32x16x128, .f32⟩
  | .hbm, ⟨14, _⟩ => ⟨S16x32x128, .f32⟩
  | .hbm, ⟨15, _⟩ => ⟨S16x1x128, .f32⟩
  | .hbm, ⟨16, _⟩ => ⟨S1x2048, .f32⟩
  | .hbm, ⟨17, _⟩ => ⟨S1x2048, .f32⟩
  | .hbm, ⟨18, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S16x2048, .bf16⟩
  | .local _ .vmem, ⟨5, _⟩ => ⟨S16x2048, .bf16⟩
  | .local _ .vmem, ⟨6, _⟩ => ⟨S16x2048, .bf16⟩
  | .local _ .vmem, ⟨7, _⟩ => ⟨S16x2048, .bf16⟩
  | .local _ .vmem, ⟨8, _⟩ => ⟨S16x2048, .bf16⟩
  | .local _ .vmem, ⟨9, _⟩ => ⟨S16x2048, .bf16⟩
  | .local _ .vmem, ⟨10, _⟩ => ⟨S16x2048, .bf16⟩
  | .local _ .vmem, ⟨11, _⟩ => ⟨S16x2048, .bf16⟩
  | .local _ .vmem, ⟨12, _⟩ => ⟨S256x2048, .bf16⟩
  | .local _ .vmem, ⟨13, _⟩ => ⟨S256x2048, .bf16⟩
  | .local _ .vmem, ⟨14, _⟩ => ⟨S16x32x128, .f32⟩
  | .local _ .vmem, ⟨15, _⟩ => ⟨S16x1x128, .f32⟩
  | .local _ .vmem, ⟨16, _⟩ => ⟨S1x2048, .f32⟩
  | .local _ .vmem, ⟨17, _⟩ => ⟨S1x2048, .f32⟩
  | .local _ .vmem, ⟨18, _⟩ => ⟨S2048x2048, .bf16⟩
  | .local _ .vmem, ⟨19, _⟩ => ⟨S256x2048, .bf16⟩
  | .local _ .vmem, ⟨20, _⟩ => ⟨S256x2048, .bf16⟩
  | .local _ .vmem, ⟨21, _⟩ => ⟨S16x288x128, .f32⟩
  | .local _ .vmem, ⟨22, _⟩ => ⟨S16x256x128, .f32⟩
  | .local _ .vmem, ⟨23, _⟩ => ⟨S256x2048, .bf16⟩
  | _, _ => ⟨S8192x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_450 : BitVec 32 := 0#32
  let c16_i32 : BitVec 32 := 16#32
  let v800 : BitVec 32 := Scalar.addi c0_i32_450 c16_i32
  let c1_i32_451 : BitVec 32 := 1#32
  ⟨c0_i32_450, v800, c1_i32_451⟩
def k0_off1 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1391 : Index := Scalar.indexCast arg17
  let c0_761 : Index := 0#32
  let c0_762 : Index := 0#32
  ![v1391.toNat, 0, 0]
def k0_off2 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1394 : Index := Scalar.indexCast arg17
  let c1_763 : Index := 1#32
  let c0_764 : Index := 0#32
  ![v1394.toNat, 1, 0]
def k0_off3 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1400 : Index := Scalar.indexCast arg17
  let c1_765 : Index := 1#32
  let c0_766 : Index := 0#32
  ![v1400.toNat, 1, 0]
def k0_off4 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1403 : Index := Scalar.indexCast arg17
  let c2_767 : Index := 2#32
  let c0_768 : Index := 0#32
  ![v1403.toNat, 2, 0]
def k0_off5 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1409 : Index := Scalar.indexCast arg17
  let c2_769 : Index := 2#32
  let c0_770 : Index := 0#32
  ![v1409.toNat, 2, 0]
def k0_off6 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1412 : Index := Scalar.indexCast arg17
  let c3_771 : Index := 3#32
  let c0_772 : Index := 0#32
  ![v1412.toNat, 3, 0]
def k0_off7 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1418 : Index := Scalar.indexCast arg17
  let c3_773 : Index := 3#32
  let c0_774 : Index := 0#32
  ![v1418.toNat, 3, 0]
def k0_off8 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1421 : Index := Scalar.indexCast arg17
  let c4_775 : Index := 4#32
  let c0_776 : Index := 0#32
  ![v1421.toNat, 4, 0]
def k0_off9 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1427 : Index := Scalar.indexCast arg17
  let c4_777 : Index := 4#32
  let c0_778 : Index := 0#32
  ![v1427.toNat, 4, 0]
def k0_off10 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1430 : Index := Scalar.indexCast arg17
  let c5_779 : Index := 5#32
  let c0_780 : Index := 0#32
  ![v1430.toNat, 5, 0]
def k0_off11 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1436 : Index := Scalar.indexCast arg17
  let c5_781 : Index := 5#32
  let c0_782 : Index := 0#32
  ![v1436.toNat, 5, 0]
def k0_off12 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1439 : Index := Scalar.indexCast arg17
  let c6_783 : Index := 6#32
  let c0_784 : Index := 0#32
  ![v1439.toNat, 6, 0]
def k0_off13 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1445 : Index := Scalar.indexCast arg17
  let c6_785 : Index := 6#32
  let c0_786 : Index := 0#32
  ![v1445.toNat, 6, 0]
def k0_off14 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1448 : Index := Scalar.indexCast arg17
  let c7_787 : Index := 7#32
  let c0_788 : Index := 0#32
  ![v1448.toNat, 7, 0]
def k0_off15 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1454 : Index := Scalar.indexCast arg17
  let c7_789 : Index := 7#32
  let c0_790 : Index := 0#32
  ![v1454.toNat, 7, 0]
def k0_off16 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1457 : Index := Scalar.indexCast arg17
  let c8_791 : Index := 8#32
  let c0_792 : Index := 0#32
  ![v1457.toNat, 8, 0]
def k0_off17 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1463 : Index := Scalar.indexCast arg17
  let c8_793 : Index := 8#32
  let c0_794 : Index := 0#32
  ![v1463.toNat, 8, 0]
def k0_off18 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1466 : Index := Scalar.indexCast arg17
  let c9_795 : Index := 9#32
  let c0_796 : Index := 0#32
  ![v1466.toNat, 9, 0]
def k0_off19 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1472 : Index := Scalar.indexCast arg17
  let c9_797 : Index := 9#32
  let c0_798 : Index := 0#32
  ![v1472.toNat, 9, 0]
def k0_off20 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1475 : Index := Scalar.indexCast arg17
  let c10_799 : Index := 10#32
  let c0_800 : Index := 0#32
  ![v1475.toNat, 10, 0]
def k0_off21 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1481 : Index := Scalar.indexCast arg17
  let c10_801 : Index := 10#32
  let c0_802 : Index := 0#32
  ![v1481.toNat, 10, 0]
def k0_off22 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1484 : Index := Scalar.indexCast arg17
  let c11_803 : Index := 11#32
  let c0_804 : Index := 0#32
  ![v1484.toNat, 11, 0]
def k0_off23 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1490 : Index := Scalar.indexCast arg17
  let c11_805 : Index := 11#32
  let c0_806 : Index := 0#32
  ![v1490.toNat, 11, 0]
def k0_off24 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1493 : Index := Scalar.indexCast arg17
  let c12_807 : Index := 12#32
  let c0_808 : Index := 0#32
  ![v1493.toNat, 12, 0]
def k0_off25 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1499 : Index := Scalar.indexCast arg17
  let c12_809 : Index := 12#32
  let c0_810 : Index := 0#32
  ![v1499.toNat, 12, 0]
def k0_off26 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1502 : Index := Scalar.indexCast arg17
  let c13_811 : Index := 13#32
  let c0_812 : Index := 0#32
  ![v1502.toNat, 13, 0]
def k0_off27 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1508 : Index := Scalar.indexCast arg17
  let c13_813 : Index := 13#32
  let c0_814 : Index := 0#32
  ![v1508.toNat, 13, 0]
def k0_off28 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1511 : Index := Scalar.indexCast arg17
  let c14_815 : Index := 14#32
  let c0_816 : Index := 0#32
  ![v1511.toNat, 14, 0]
def k0_off29 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1517 : Index := Scalar.indexCast arg17
  let c14_817 : Index := 14#32
  let c0_818 : Index := 0#32
  ![v1517.toNat, 14, 0]
def k0_off30 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1520 : Index := Scalar.indexCast arg17
  let c15_819 : Index := 15#32
  let c0_820 : Index := 0#32
  ![v1520.toNat, 15, 0]
def k0_off31 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1526 : Index := Scalar.indexCast arg17
  let c15_821 : Index := 15#32
  let c0_822 : Index := 0#32
  ![v1526.toNat, 15, 0]
def k0_off32 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1529 : Index := Scalar.indexCast arg17
  let c16_823 : Index := 16#32
  let c0_824 : Index := 0#32
  ![v1529.toNat, 16, 0]
def k0_off33 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1535 : Index := Scalar.indexCast arg17
  let c16_825 : Index := 16#32
  let c0_826 : Index := 0#32
  ![v1535.toNat, 16, 0]
def k0_off34 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1538 : Index := Scalar.indexCast arg17
  let c17 : Index := 17#32
  let c0_827 : Index := 0#32
  ![v1538.toNat, 17, 0]
def k0_off35 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1544 : Index := Scalar.indexCast arg17
  let c17_828 : Index := 17#32
  let c0_829 : Index := 0#32
  ![v1544.toNat, 17, 0]
def k0_off36 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1547 : Index := Scalar.indexCast arg17
  let c18 : Index := 18#32
  let c0_830 : Index := 0#32
  ![v1547.toNat, 18, 0]
def k0_off37 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1553 : Index := Scalar.indexCast arg17
  let c18_831 : Index := 18#32
  let c0_832 : Index := 0#32
  ![v1553.toNat, 18, 0]
def k0_off38 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1556 : Index := Scalar.indexCast arg17
  let c19 : Index := 19#32
  let c0_833 : Index := 0#32
  ![v1556.toNat, 19, 0]
def k0_off39 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1562 : Index := Scalar.indexCast arg17
  let c19_834 : Index := 19#32
  let c0_835 : Index := 0#32
  ![v1562.toNat, 19, 0]
def k0_off40 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1565 : Index := Scalar.indexCast arg17
  let c20 : Index := 20#32
  let c0_836 : Index := 0#32
  ![v1565.toNat, 20, 0]
def k0_off41 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1571 : Index := Scalar.indexCast arg17
  let c20_837 : Index := 20#32
  let c0_838 : Index := 0#32
  ![v1571.toNat, 20, 0]
def k0_off42 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1574 : Index := Scalar.indexCast arg17
  let c21 : Index := 21#32
  let c0_839 : Index := 0#32
  ![v1574.toNat, 21, 0]
def k0_off43 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1580 : Index := Scalar.indexCast arg17
  let c21_840 : Index := 21#32
  let c0_841 : Index := 0#32
  ![v1580.toNat, 21, 0]
def k0_off44 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1583 : Index := Scalar.indexCast arg17
  let c22 : Index := 22#32
  let c0_842 : Index := 0#32
  ![v1583.toNat, 22, 0]
def k0_off45 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1589 : Index := Scalar.indexCast arg17
  let c22_843 : Index := 22#32
  let c0_844 : Index := 0#32
  ![v1589.toNat, 22, 0]
def k0_off46 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1592 : Index := Scalar.indexCast arg17
  let c23 : Index := 23#32
  let c0_845 : Index := 0#32
  ![v1592.toNat, 23, 0]
def k0_off47 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1598 : Index := Scalar.indexCast arg17
  let c23_846 : Index := 23#32
  let c0_847 : Index := 0#32
  ![v1598.toNat, 23, 0]
def k0_off48 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1601 : Index := Scalar.indexCast arg17
  let c24 : Index := 24#32
  let c0_848 : Index := 0#32
  ![v1601.toNat, 24, 0]
def k0_off49 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1607 : Index := Scalar.indexCast arg17
  let c24_849 : Index := 24#32
  let c0_850 : Index := 0#32
  ![v1607.toNat, 24, 0]
def k0_off50 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1610 : Index := Scalar.indexCast arg17
  let c25 : Index := 25#32
  let c0_851 : Index := 0#32
  ![v1610.toNat, 25, 0]
def k0_off51 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1616 : Index := Scalar.indexCast arg17
  let c25_852 : Index := 25#32
  let c0_853 : Index := 0#32
  ![v1616.toNat, 25, 0]
def k0_off52 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1619 : Index := Scalar.indexCast arg17
  let c26 : Index := 26#32
  let c0_854 : Index := 0#32
  ![v1619.toNat, 26, 0]
def k0_off53 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1625 : Index := Scalar.indexCast arg17
  let c26_855 : Index := 26#32
  let c0_856 : Index := 0#32
  ![v1625.toNat, 26, 0]
def k0_off54 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1628 : Index := Scalar.indexCast arg17
  let c27 : Index := 27#32
  let c0_857 : Index := 0#32
  ![v1628.toNat, 27, 0]
def k0_off55 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1634 : Index := Scalar.indexCast arg17
  let c27_858 : Index := 27#32
  let c0_859 : Index := 0#32
  ![v1634.toNat, 27, 0]
def k0_off56 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1637 : Index := Scalar.indexCast arg17
  let c28 : Index := 28#32
  let c0_860 : Index := 0#32
  ![v1637.toNat, 28, 0]
def k0_off57 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1643 : Index := Scalar.indexCast arg17
  let c28_861 : Index := 28#32
  let c0_862 : Index := 0#32
  ![v1643.toNat, 28, 0]
def k0_off58 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1646 : Index := Scalar.indexCast arg17
  let c29 : Index := 29#32
  let c0_863 : Index := 0#32
  ![v1646.toNat, 29, 0]
def k0_off59 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1652 : Index := Scalar.indexCast arg17
  let c29_864 : Index := 29#32
  let c0_865 : Index := 0#32
  ![v1652.toNat, 29, 0]
def k0_off60 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1655 : Index := Scalar.indexCast arg17
  let c30 : Index := 30#32
  let c0_866 : Index := 0#32
  ![v1655.toNat, 30, 0]
def k0_off61 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1661 : Index := Scalar.indexCast arg17
  let c30_867 : Index := 30#32
  let c0_868 : Index := 0#32
  ![v1661.toNat, 30, 0]
def k0_off62 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1664 : Index := Scalar.indexCast arg17
  let c31 : Index := 31#32
  let c0_869 : Index := 0#32
  ![v1664.toNat, 31, 0]
def k0_off63 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1670 : Index := Scalar.indexCast arg17
  let c0_870 : Index := 0#32
  let c0_871 : Index := 0#32
  ![v1670.toNat, 0, 0]
def k0_off64 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1675 : Index := Scalar.indexCast arg17
  let c0_872 : Index := 0#32
  let c0_873 : Index := 0#32
  ![v1675.toNat, 0, 0]
def k0_off65 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1683 : Index := Scalar.indexCast arg17
  let c65 : Index := 65#32
  let c0_877 : Index := 0#32
  ![v1683.toNat, 65, 0]
def k0_off66 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1692 : Index := Scalar.indexCast arg17
  let c66 : Index := 66#32
  let c0_880 : Index := 0#32
  ![v1692.toNat, 66, 0]
def k0_off67 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1701 : Index := Scalar.indexCast arg17
  let c67 : Index := 67#32
  let c0_883 : Index := 0#32
  ![v1701.toNat, 67, 0]
def k0_off68 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1710 : Index := Scalar.indexCast arg17
  let c68 : Index := 68#32
  let c0_886 : Index := 0#32
  ![v1710.toNat, 68, 0]
def k0_off69 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1719 : Index := Scalar.indexCast arg17
  let c69 : Index := 69#32
  let c0_889 : Index := 0#32
  ![v1719.toNat, 69, 0]
def k0_off70 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1728 : Index := Scalar.indexCast arg17
  let c70 : Index := 70#32
  let c0_892 : Index := 0#32
  ![v1728.toNat, 70, 0]
def k0_off71 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1737 : Index := Scalar.indexCast arg17
  let c71 : Index := 71#32
  let c0_895 : Index := 0#32
  ![v1737.toNat, 71, 0]
def k0_off72 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1746 : Index := Scalar.indexCast arg17
  let c72 : Index := 72#32
  let c0_898 : Index := 0#32
  ![v1746.toNat, 72, 0]
def k0_off73 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1755 : Index := Scalar.indexCast arg17
  let c73 : Index := 73#32
  let c0_901 : Index := 0#32
  ![v1755.toNat, 73, 0]
def k0_off74 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1764 : Index := Scalar.indexCast arg17
  let c74 : Index := 74#32
  let c0_904 : Index := 0#32
  ![v1764.toNat, 74, 0]
def k0_off75 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1773 : Index := Scalar.indexCast arg17
  let c75 : Index := 75#32
  let c0_907 : Index := 0#32
  ![v1773.toNat, 75, 0]
def k0_off76 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1782 : Index := Scalar.indexCast arg17
  let c76 : Index := 76#32
  let c0_910 : Index := 0#32
  ![v1782.toNat, 76, 0]
def k0_off77 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1791 : Index := Scalar.indexCast arg17
  let c77 : Index := 77#32
  let c0_913 : Index := 0#32
  ![v1791.toNat, 77, 0]
def k0_off78 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1800 : Index := Scalar.indexCast arg17
  let c78 : Index := 78#32
  let c0_916 : Index := 0#32
  ![v1800.toNat, 78, 0]
def k0_off79 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1809 : Index := Scalar.indexCast arg17
  let c79 : Index := 79#32
  let c0_919 : Index := 0#32
  ![v1809.toNat, 79, 0]
def k0_off80 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1818 : Index := Scalar.indexCast arg17
  let c80 : Index := 80#32
  let c0_922 : Index := 0#32
  ![v1818.toNat, 80, 0]
def k0_off81 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1827 : Index := Scalar.indexCast arg17
  let c81 : Index := 81#32
  let c0_925 : Index := 0#32
  ![v1827.toNat, 81, 0]
def k0_off82 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1836 : Index := Scalar.indexCast arg17
  let c82 : Index := 82#32
  let c0_928 : Index := 0#32
  ![v1836.toNat, 82, 0]
def k0_off83 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1845 : Index := Scalar.indexCast arg17
  let c83 : Index := 83#32
  let c0_931 : Index := 0#32
  ![v1845.toNat, 83, 0]
def k0_off84 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1854 : Index := Scalar.indexCast arg17
  let c84 : Index := 84#32
  let c0_934 : Index := 0#32
  ![v1854.toNat, 84, 0]
def k0_off85 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1863 : Index := Scalar.indexCast arg17
  let c85 : Index := 85#32
  let c0_937 : Index := 0#32
  ![v1863.toNat, 85, 0]
def k0_off86 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1872 : Index := Scalar.indexCast arg17
  let c86 : Index := 86#32
  let c0_940 : Index := 0#32
  ![v1872.toNat, 86, 0]
def k0_off87 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1881 : Index := Scalar.indexCast arg17
  let c87 : Index := 87#32
  let c0_943 : Index := 0#32
  ![v1881.toNat, 87, 0]
def k0_off88 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1890 : Index := Scalar.indexCast arg17
  let c88 : Index := 88#32
  let c0_946 : Index := 0#32
  ![v1890.toNat, 88, 0]
def k0_off89 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1899 : Index := Scalar.indexCast arg17
  let c89 : Index := 89#32
  let c0_949 : Index := 0#32
  ![v1899.toNat, 89, 0]
def k0_off90 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1908 : Index := Scalar.indexCast arg17
  let c90 : Index := 90#32
  let c0_952 : Index := 0#32
  ![v1908.toNat, 90, 0]
def k0_off91 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1917 : Index := Scalar.indexCast arg17
  let c91 : Index := 91#32
  let c0_955 : Index := 0#32
  ![v1917.toNat, 91, 0]
def k0_off92 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1926 : Index := Scalar.indexCast arg17
  let c92 : Index := 92#32
  let c0_958 : Index := 0#32
  ![v1926.toNat, 92, 0]
def k0_off93 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1935 : Index := Scalar.indexCast arg17
  let c93 : Index := 93#32
  let c0_961 : Index := 0#32
  ![v1935.toNat, 93, 0]
def k0_off94 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1944 : Index := Scalar.indexCast arg17
  let c94 : Index := 94#32
  let c0_964 : Index := 0#32
  ![v1944.toNat, 94, 0]
def k0_off95 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1953 : Index := Scalar.indexCast arg17
  let c95 : Index := 95#32
  let c0_967 : Index := 0#32
  ![v1953.toNat, 95, 0]
def k0_off96 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1964 : Index := Scalar.indexCast arg17
  let c64 : Index := 64#32
  let c0_970 : Index := 0#32
  ![v1964.toNat, 64, 0]
def k0_off97 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1972 : Index := Scalar.indexCast arg17
  let c129 : Index := 129#32
  let c0_974 : Index := 0#32
  ![v1972.toNat, 129, 0]
def k0_off98 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1981 : Index := Scalar.indexCast arg17
  let c130 : Index := 130#32
  let c0_977 : Index := 0#32
  ![v1981.toNat, 130, 0]
def k0_off99 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1990 : Index := Scalar.indexCast arg17
  let c131 : Index := 131#32
  let c0_980 : Index := 0#32
  ![v1990.toNat, 131, 0]
def k0_off100 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v1999 : Index := Scalar.indexCast arg17
  let c132 : Index := 132#32
  let c0_983 : Index := 0#32
  ![v1999.toNat, 132, 0]
def k0_off101 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2008 : Index := Scalar.indexCast arg17
  let c133 : Index := 133#32
  let c0_986 : Index := 0#32
  ![v2008.toNat, 133, 0]
def k0_off102 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2017 : Index := Scalar.indexCast arg17
  let c134 : Index := 134#32
  let c0_989 : Index := 0#32
  ![v2017.toNat, 134, 0]
def k0_off103 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2026 : Index := Scalar.indexCast arg17
  let c135 : Index := 135#32
  let c0_992 : Index := 0#32
  ![v2026.toNat, 135, 0]
def k0_off104 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2035 : Index := Scalar.indexCast arg17
  let c136 : Index := 136#32
  let c0_995 : Index := 0#32
  ![v2035.toNat, 136, 0]
def k0_off105 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2044 : Index := Scalar.indexCast arg17
  let c137 : Index := 137#32
  let c0_998 : Index := 0#32
  ![v2044.toNat, 137, 0]
def k0_off106 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2053 : Index := Scalar.indexCast arg17
  let c138 : Index := 138#32
  let c0_1001 : Index := 0#32
  ![v2053.toNat, 138, 0]
def k0_off107 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2062 : Index := Scalar.indexCast arg17
  let c139 : Index := 139#32
  let c0_1004 : Index := 0#32
  ![v2062.toNat, 139, 0]
def k0_off108 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2071 : Index := Scalar.indexCast arg17
  let c140 : Index := 140#32
  let c0_1007 : Index := 0#32
  ![v2071.toNat, 140, 0]
def k0_off109 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2080 : Index := Scalar.indexCast arg17
  let c141 : Index := 141#32
  let c0_1010 : Index := 0#32
  ![v2080.toNat, 141, 0]
def k0_off110 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2089 : Index := Scalar.indexCast arg17
  let c142 : Index := 142#32
  let c0_1013 : Index := 0#32
  ![v2089.toNat, 142, 0]
def k0_off111 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2098 : Index := Scalar.indexCast arg17
  let c143 : Index := 143#32
  let c0_1016 : Index := 0#32
  ![v2098.toNat, 143, 0]
def k0_off112 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2107 : Index := Scalar.indexCast arg17
  let c144 : Index := 144#32
  let c0_1019 : Index := 0#32
  ![v2107.toNat, 144, 0]
def k0_off113 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2116 : Index := Scalar.indexCast arg17
  let c145 : Index := 145#32
  let c0_1022 : Index := 0#32
  ![v2116.toNat, 145, 0]
def k0_off114 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2125 : Index := Scalar.indexCast arg17
  let c146 : Index := 146#32
  let c0_1025 : Index := 0#32
  ![v2125.toNat, 146, 0]
def k0_off115 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2134 : Index := Scalar.indexCast arg17
  let c147 : Index := 147#32
  let c0_1028 : Index := 0#32
  ![v2134.toNat, 147, 0]
def k0_off116 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2143 : Index := Scalar.indexCast arg17
  let c148 : Index := 148#32
  let c0_1031 : Index := 0#32
  ![v2143.toNat, 148, 0]
def k0_off117 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2152 : Index := Scalar.indexCast arg17
  let c149 : Index := 149#32
  let c0_1034 : Index := 0#32
  ![v2152.toNat, 149, 0]
def k0_off118 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2161 : Index := Scalar.indexCast arg17
  let c150 : Index := 150#32
  let c0_1037 : Index := 0#32
  ![v2161.toNat, 150, 0]
def k0_off119 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2170 : Index := Scalar.indexCast arg17
  let c151 : Index := 151#32
  let c0_1040 : Index := 0#32
  ![v2170.toNat, 151, 0]
def k0_off120 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2179 : Index := Scalar.indexCast arg17
  let c152 : Index := 152#32
  let c0_1043 : Index := 0#32
  ![v2179.toNat, 152, 0]
def k0_off121 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2188 : Index := Scalar.indexCast arg17
  let c153 : Index := 153#32
  let c0_1046 : Index := 0#32
  ![v2188.toNat, 153, 0]
def k0_off122 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2197 : Index := Scalar.indexCast arg17
  let c154 : Index := 154#32
  let c0_1049 : Index := 0#32
  ![v2197.toNat, 154, 0]
def k0_off123 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2206 : Index := Scalar.indexCast arg17
  let c155 : Index := 155#32
  let c0_1052 : Index := 0#32
  ![v2206.toNat, 155, 0]
def k0_off124 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2215 : Index := Scalar.indexCast arg17
  let c156 : Index := 156#32
  let c0_1055 : Index := 0#32
  ![v2215.toNat, 156, 0]
def k0_off125 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2224 : Index := Scalar.indexCast arg17
  let c157 : Index := 157#32
  let c0_1058 : Index := 0#32
  ![v2224.toNat, 157, 0]
def k0_off126 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2233 : Index := Scalar.indexCast arg17
  let c158 : Index := 158#32
  let c0_1061 : Index := 0#32
  ![v2233.toNat, 158, 0]
def k0_off127 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2242 : Index := Scalar.indexCast arg17
  let c159 : Index := 159#32
  let c0_1064 : Index := 0#32
  ![v2242.toNat, 159, 0]
def k0_off128 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2253 : Index := Scalar.indexCast arg17
  let c128_1067 : Index := 128#32
  let c0_1068 : Index := 0#32
  ![v2253.toNat, 128, 0]
def k0_off129 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2261 : Index := Scalar.indexCast arg17
  let c193 : Index := 193#32
  let c0_1072 : Index := 0#32
  ![v2261.toNat, 193, 0]
def k0_off130 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2270 : Index := Scalar.indexCast arg17
  let c194 : Index := 194#32
  let c0_1075 : Index := 0#32
  ![v2270.toNat, 194, 0]
def k0_off131 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2279 : Index := Scalar.indexCast arg17
  let c195 : Index := 195#32
  let c0_1078 : Index := 0#32
  ![v2279.toNat, 195, 0]
def k0_off132 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2288 : Index := Scalar.indexCast arg17
  let c196 : Index := 196#32
  let c0_1081 : Index := 0#32
  ![v2288.toNat, 196, 0]
def k0_off133 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2297 : Index := Scalar.indexCast arg17
  let c197 : Index := 197#32
  let c0_1084 : Index := 0#32
  ![v2297.toNat, 197, 0]
def k0_off134 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2306 : Index := Scalar.indexCast arg17
  let c198 : Index := 198#32
  let c0_1087 : Index := 0#32
  ![v2306.toNat, 198, 0]
def k0_off135 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2315 : Index := Scalar.indexCast arg17
  let c199 : Index := 199#32
  let c0_1090 : Index := 0#32
  ![v2315.toNat, 199, 0]
def k0_off136 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2324 : Index := Scalar.indexCast arg17
  let c200 : Index := 200#32
  let c0_1093 : Index := 0#32
  ![v2324.toNat, 200, 0]
def k0_off137 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2333 : Index := Scalar.indexCast arg17
  let c201 : Index := 201#32
  let c0_1096 : Index := 0#32
  ![v2333.toNat, 201, 0]
def k0_off138 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2342 : Index := Scalar.indexCast arg17
  let c202 : Index := 202#32
  let c0_1099 : Index := 0#32
  ![v2342.toNat, 202, 0]
def k0_off139 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2351 : Index := Scalar.indexCast arg17
  let c203 : Index := 203#32
  let c0_1102 : Index := 0#32
  ![v2351.toNat, 203, 0]
def k0_off140 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2360 : Index := Scalar.indexCast arg17
  let c204 : Index := 204#32
  let c0_1105 : Index := 0#32
  ![v2360.toNat, 204, 0]
def k0_off141 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2369 : Index := Scalar.indexCast arg17
  let c205 : Index := 205#32
  let c0_1108 : Index := 0#32
  ![v2369.toNat, 205, 0]
def k0_off142 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2378 : Index := Scalar.indexCast arg17
  let c206 : Index := 206#32
  let c0_1111 : Index := 0#32
  ![v2378.toNat, 206, 0]
def k0_off143 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2387 : Index := Scalar.indexCast arg17
  let c207 : Index := 207#32
  let c0_1114 : Index := 0#32
  ![v2387.toNat, 207, 0]
def k0_off144 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2396 : Index := Scalar.indexCast arg17
  let c208 : Index := 208#32
  let c0_1117 : Index := 0#32
  ![v2396.toNat, 208, 0]
def k0_off145 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2405 : Index := Scalar.indexCast arg17
  let c209 : Index := 209#32
  let c0_1120 : Index := 0#32
  ![v2405.toNat, 209, 0]
def k0_off146 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2414 : Index := Scalar.indexCast arg17
  let c210 : Index := 210#32
  let c0_1123 : Index := 0#32
  ![v2414.toNat, 210, 0]
def k0_off147 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2423 : Index := Scalar.indexCast arg17
  let c211 : Index := 211#32
  let c0_1126 : Index := 0#32
  ![v2423.toNat, 211, 0]
def k0_off148 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2432 : Index := Scalar.indexCast arg17
  let c212 : Index := 212#32
  let c0_1129 : Index := 0#32
  ![v2432.toNat, 212, 0]
def k0_off149 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2441 : Index := Scalar.indexCast arg17
  let c213 : Index := 213#32
  let c0_1132 : Index := 0#32
  ![v2441.toNat, 213, 0]
def k0_off150 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2450 : Index := Scalar.indexCast arg17
  let c214 : Index := 214#32
  let c0_1135 : Index := 0#32
  ![v2450.toNat, 214, 0]
def k0_off151 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2459 : Index := Scalar.indexCast arg17
  let c215 : Index := 215#32
  let c0_1138 : Index := 0#32
  ![v2459.toNat, 215, 0]
def k0_off152 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2468 : Index := Scalar.indexCast arg17
  let c216 : Index := 216#32
  let c0_1141 : Index := 0#32
  ![v2468.toNat, 216, 0]
def k0_off153 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2477 : Index := Scalar.indexCast arg17
  let c217 : Index := 217#32
  let c0_1144 : Index := 0#32
  ![v2477.toNat, 217, 0]
def k0_off154 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2486 : Index := Scalar.indexCast arg17
  let c218 : Index := 218#32
  let c0_1147 : Index := 0#32
  ![v2486.toNat, 218, 0]
def k0_off155 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2495 : Index := Scalar.indexCast arg17
  let c219 : Index := 219#32
  let c0_1150 : Index := 0#32
  ![v2495.toNat, 219, 0]
def k0_off156 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2504 : Index := Scalar.indexCast arg17
  let c220 : Index := 220#32
  let c0_1153 : Index := 0#32
  ![v2504.toNat, 220, 0]
def k0_off157 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2513 : Index := Scalar.indexCast arg17
  let c221 : Index := 221#32
  let c0_1156 : Index := 0#32
  ![v2513.toNat, 221, 0]
def k0_off158 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2522 : Index := Scalar.indexCast arg17
  let c222 : Index := 222#32
  let c0_1159 : Index := 0#32
  ![v2522.toNat, 222, 0]
def k0_off159 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2531 : Index := Scalar.indexCast arg17
  let c223 : Index := 223#32
  let c0_1162 : Index := 0#32
  ![v2531.toNat, 223, 0]
def k0_off160 (k0_t1 : Fin k0_t1_loop.trips) : Fin 3 → Nat :=
  let c0_i32_450 : BitVec 32 := 0#32
  let c1_i32_451 : BitVec 32 := 1#32
  let arg17 : BitVec 32 := Scf.iv c0_i32_450 c1_i32_451 k0_t1
  let v2542 : Index := Scalar.indexCast arg17
  let c192 : Index := 192#32
  let c0_1165 : Index := 0#32
  ![v2542.toNat, 192, 0]
def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c3_i32 : BitVec 32 := 3#32
  let c0_i32 : BitVec 32 := 0#32
  ![v2.toNat, c3_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c4_i32 : BitVec 32 := 4#32
  let c0_i32 : BitVec 32 := 0#32
  ![v2.toNat, c4_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ConvRefIdeal.lean ====
abbrev S8192x14336 : Shape := ⟨2, ![8192, 14336]⟩
abbrev S1x31x2048 : Shape := ⟨3, ![1, 31, 2048]⟩
abbrev S1x2048 : Shape := ⟨2, ![1, 2048]⟩
abbrev S2048x2048 : Shape := ⟨2, ![2048, 2048]⟩
abbrev S4x2048x14336 : Shape := ⟨3, ![4, 2048, 14336]⟩
abbrev S4x2048x2048 : Shape := ⟨3, ![4, 2048, 2048]⟩
abbrev S4x2048x4096 : Shape := ⟨3, ![4, 2048, 4096]⟩
abbrev S_ : Shape := ⟨0, ![]⟩
abbrev S4x2078x2048 : Shape := ⟨3, ![4, 2078, 2048]⟩
abbrev S1x1x2048 : Shape := ⟨3, ![1, 1, 2048]⟩
abbrev S2048 : Shape := ⟨1, ![2048]⟩
abbrev S4x2048 : Shape := ⟨2, ![4, 2048]⟩
abbrev S4x2048x1 : Shape := ⟨3, ![4, 2048, 1]⟩
abbrev S8192x2048 : Shape := ⟨2, ![8192, 2048]⟩

abbrev nBuf : Space → Nat
  | .hbm => 303
  | .vmem => 0
  | .smem => 0
  | _ => 0

abbrev hbmTy0_0 (i : Nat) : BufTy := match i % 128 with
  | 0 => ⟨S8192x14336, .bf16⟩
  | 1 => ⟨S1x31x2048, .f32⟩
  | 2 => ⟨S1x2048, .f32⟩
  | 3 => ⟨S1x2048, .f32⟩
  | 4 => ⟨S1x2048, .f32⟩
  | 5 => ⟨S2048x2048, .bf16⟩
  | 6 => ⟨S8192x14336, .f32⟩
  | 7 => ⟨S4x2048x14336, .f32⟩
  | 8 => ⟨S4x2048x2048, .f32⟩
  | 9 => ⟨S4x2048x2048, .f32⟩
  | 10 => ⟨S4x2048x2048, .f32⟩
  | 11 => ⟨S4x2048x4096, .f32⟩
  | 12 => ⟨S4x2048x4096, .f32⟩
  | 13 => ⟨S4x2048x2048, .f32⟩
  | 14 => ⟨S4x2048x2048, .f32⟩
  | 15 => ⟨S4x2048x2048, .f32⟩
  | 16 => ⟨S4x2048x2048, .f32⟩
  | 17 => ⟨S_, .f32⟩
  | 18 => ⟨S4x2048x2048, .f32⟩
  | 19 => ⟨S4x2048x2048, .f32⟩
  | 20 => ⟨S_, .f32⟩
  | 21 => ⟨S4x2048x2048, .f32⟩
  | 22 => ⟨S4x2048x2048, .f32⟩
  | 23 => ⟨S4x2048x2048, .f32⟩
  | 24 => ⟨S_, .i32⟩
  | 25 => ⟨S_, .f32⟩
  | 26 => ⟨S4x2078x2048, .f32⟩
  | 27 => ⟨S4x2048x2048, .f32⟩
  | 28 => ⟨S1x1x2048, .f32⟩
  | 29 => ⟨S2048, .f32⟩
  | 30 => ⟨S1x1x2048, .f32⟩
  | 31 => ⟨S4x2048x2048, .f32⟩
  | 32 => ⟨S4x2048x2048, .f32⟩
  | 33 => ⟨S_, .f32⟩
  | 34 => ⟨S4x2048x2048, .f32⟩
  | 35 => ⟨S4x2048x2048, .f32⟩
  | 36 => ⟨S4x2048x2048, .f32⟩
  | 37 => ⟨S1x1x2048, .f32⟩
  | 38 => ⟨S2048, .f32⟩
  | 39 => ⟨S1x1x2048, .f32⟩
  | 40 => ⟨S4x2048x2048, .f32⟩
  | 41 => ⟨S4x2048x2048, .f32⟩
  | 42 => ⟨S4x2048x2048, .f32⟩
  | 43 => ⟨S4x2048x2048, .f32⟩
  | 44 => ⟨S1x1x2048, .f32⟩
  | 45 => ⟨S2048, .f32⟩
  | 46 => ⟨S1x1x2048, .f32⟩
  | 47 => ⟨S4x2048x2048, .f32⟩
  | 48 => ⟨S4x2048x2048, .f32⟩
  | 49 => ⟨S4x2048x2048, .f32⟩
  | 50 => ⟨S4x2048x2048, .f32⟩
  | 51 => ⟨S1x1x2048, .f32⟩
  | 52 => ⟨S2048, .f32⟩
  | 53 => ⟨S1x1x2048, .f32⟩
  | 54 => ⟨S4x2048x2048, .f32⟩
  | 55 => ⟨S4x2048x2048, .f32⟩
  | 56 => ⟨S4x2048x2048, .f32⟩
  | 57 => ⟨S4x2048x2048, .f32⟩
  | 58 => ⟨S1x1x2048, .f32⟩
  | 59 => ⟨S2048, .f32⟩
  | 60 => ⟨S1x1x2048, .f32⟩
  | 61 => ⟨S4x2048x2048, .f32⟩
  | 62 => ⟨S4x2048x2048, .f32⟩
  | 63 => ⟨S4x2048x2048, .f32⟩
  | 64 => ⟨S4x2048x2048, .f32⟩
  | 65 => ⟨S1x1x2048, .f32⟩
  | 66 => ⟨S2048, .f32⟩
  | 67 => ⟨S1x1x2048, .f32⟩
  | 68 => ⟨S4x2048x2048, .f32⟩
  | 69 => ⟨S4x2048x2048, .f32⟩
  | 70 => ⟨S4x2048x2048, .f32⟩
  | 71 => ⟨S4x2048x2048, .f32⟩
  | 72 => ⟨S1x1x2048, .f32⟩
  | 73 => ⟨S2048, .f32⟩
  | 74 => ⟨S1x1x2048, .f32⟩
  | 75 => ⟨S4x2048x2048, .f32⟩
  | 76 => ⟨S4x2048x2048, .f32⟩
  | 77 => ⟨S4x2048x2048, .f32⟩
  | 78 => ⟨S4x2048x2048, .f32⟩
  | 79 => ⟨S1x1x2048, .f32⟩
  | 80 => ⟨S2048, .f32⟩
  | 81 => ⟨S1x1x2048, .f32⟩
  | 82 => ⟨S4x2048x2048, .f32⟩
  | 83 => ⟨S4x2048x2048, .f32⟩
  | 84 => ⟨S4x2048x2048, .f32⟩
  | 85 => ⟨S4x2048x2048, .f32⟩
  | 86 => ⟨S1x1x2048, .f32⟩
  | 87 => ⟨S2048, .f32⟩
  | 88 => ⟨S1x1x2048, .f32⟩
  | 89 => ⟨S4x2048x2048, .f32⟩
  | 90 => ⟨S4x2048x2048, .f32⟩
  | 91 => ⟨S4x2048x2048, .f32⟩
  | 92 => ⟨S4x2048x2048, .f32⟩
  | 93 => ⟨S1x1x2048, .f32⟩
  | 94 => ⟨S2048, .f32⟩
  | 95 => ⟨S1x1x2048, .f32⟩
  | 96 => ⟨S4x2048x2048, .f32⟩
  | 97 => ⟨S4x2048x2048, .f32⟩
  | 98 => ⟨S4x2048x2048, .f32⟩
  | 99 => ⟨S4x2048x2048, .f32⟩
  | 100 => ⟨S1x1x2048, .f32⟩
  | 101 => ⟨S2048, .f32⟩
  | 102 => ⟨S1x1x2048, .f32⟩
  | 103 => ⟨S4x2048x2048, .f32⟩
  | 104 => ⟨S4x2048x2048, .f32⟩
  | 105 => ⟨S4x2048x2048, .f32⟩
  | 106 => ⟨S4x2048x2048, .f32⟩
  | 107 => ⟨S1x1x2048, .f32⟩
  | 108 => ⟨S2048, .f32⟩
  | 109 => ⟨S1x1x2048, .f32⟩
  | 110 => ⟨S4x2048x2048, .f32⟩
  | 111 => ⟨S4x2048x2048, .f32⟩
  | 112 => ⟨S4x2048x2048, .f32⟩
  | 113 => ⟨S4x2048x2048, .f32⟩
  | 114 => ⟨S1x1x2048, .f32⟩
  | 115 => ⟨S2048, .f32⟩
  | 116 => ⟨S1x1x2048, .f32⟩
  | 117 => ⟨S4x2048x2048, .f32⟩
  | 118 => ⟨S4x2048x2048, .f32⟩
  | 119 => ⟨S4x2048x2048, .f32⟩
  | 120 => ⟨S4x2048x2048, .f32⟩
  | 121 => ⟨S1x1x2048, .f32⟩
  | 122 => ⟨S2048, .f32⟩
  | 123 => ⟨S1x1x2048, .f32⟩
  | 124 => ⟨S4x2048x2048, .f32⟩
  | 125 => ⟨S4x2048x2048, .f32⟩
  | 126 => ⟨S4x2048x2048, .f32⟩
  | 127 => ⟨S4x2048x2048, .f32⟩
  | _ => ⟨S8192x14336, .bf16⟩

abbrev hbmTy0_1 (i : Nat) : BufTy := match i % 128 with
  | 0 => ⟨S1x1x2048, .f32⟩
  | 1 => ⟨S2048, .f32⟩
  | 2 => ⟨S1x1x2048, .f32⟩
  | 3 => ⟨S4x2048x2048, .f32⟩
  | 4 => ⟨S4x2048x2048, .f32⟩
  | 5 => ⟨S4x2048x2048, .f32⟩
  | 6 => ⟨S4x2048x2048, .f32⟩
  | 7 => ⟨S1x1x2048, .f32⟩
  | 8 => ⟨S2048, .f32⟩
  | 9 => ⟨S1x1x2048, .f32⟩
  | 10 => ⟨S4x2048x2048, .f32⟩
  | 11 => ⟨S4x2048x2048, .f32⟩
  | 12 => ⟨S4x2048x2048, .f32⟩
  | 13 => ⟨S4x2048x2048, .f32⟩
  | 14 => ⟨S1x1x2048, .f32⟩
  | 15 => ⟨S2048, .f32⟩
  | 16 => ⟨S1x1x2048, .f32⟩
  | 17 => ⟨S4x2048x2048, .f32⟩
  | 18 => ⟨S4x2048x2048, .f32⟩
  | 19 => ⟨S4x2048x2048, .f32⟩
  | 20 => ⟨S4x2048x2048, .f32⟩
  | 21 => ⟨S1x1x2048, .f32⟩
  | 22 => ⟨S2048, .f32⟩
  | 23 => ⟨S1x1x2048, .f32⟩
  | 24 => ⟨S4x2048x2048, .f32⟩
  | 25 => ⟨S4x2048x2048, .f32⟩
  | 26 => ⟨S4x2048x2048, .f32⟩
  | 27 => ⟨S4x2048x2048, .f32⟩
  | 28 => ⟨S1x1x2048, .f32⟩
  | 29 => ⟨S2048, .f32⟩
  | 30 => ⟨S1x1x2048, .f32⟩
  | 31 => ⟨S4x2048x2048, .f32⟩
  | 32 => ⟨S4x2048x2048, .f32⟩
  | 33 => ⟨S4x2048x2048, .f32⟩
  | 34 => ⟨S4x2048x2048, .f32⟩
  | 35 => ⟨S1x1x2048, .f32⟩
  | 36 => ⟨S2048, .f32⟩
  | 37 => ⟨S1x1x2048, .f32⟩
  | 38 => ⟨S4x2048x2048, .f32⟩
  | 39 => ⟨S4x2048x2048, .f32⟩
  | 40 => ⟨S4x2048x2048, .f32⟩
  | 41 => ⟨S4x2048x2048, .f32⟩
  | 42 => ⟨S1x1x2048, .f32⟩
  | 43 => ⟨S2048, .f32⟩
  | 44 => ⟨S1x1x2048, .f32⟩
  | 45 => ⟨S4x2048x2048, .f32⟩
  | 46 => ⟨S4x2048x2048, .f32⟩
  | 47 => ⟨S4x2048x2048, .f32⟩
  | 48 => ⟨S4x2048x2048, .f32⟩
  | 49 => ⟨S1x1x2048, .f32⟩
  | 50 => ⟨S2048, .f32⟩
  | 51 => ⟨S1x1x2048, .f32⟩
  | 52 => ⟨S4x2048x2048, .f32⟩
  | 53 => ⟨S4x2048x2048, .f32⟩
  | 54 => ⟨S4x2048x2048, .f32⟩
  | 55 => ⟨S4x2048x2048, .f32⟩
  | 56 => ⟨S1x1x2048, .f32⟩
  | 57 => ⟨S2048, .f32⟩
  | 58 => ⟨S1x1x2048, .f32⟩
  | 59 => ⟨S4x2048x2048, .f32⟩
  | 60 => ⟨S4x2048x2048, .f32⟩
  | 61 => ⟨S4x2048x2048, .f32⟩
  | 62 => ⟨S4x2048x2048, .f32⟩
  | 63 => ⟨S1x1x2048, .f32⟩
  | 64 => ⟨S2048, .f32⟩
  | 65 => ⟨S1x1x2048, .f32⟩
  | 66 => ⟨S4x2048x2048, .f32⟩
  | 67 => ⟨S4x2048x2048, .f32⟩
  | 68 => ⟨S4x2048x2048, .f32⟩
  | 69 => ⟨S4x2048x2048, .f32⟩
  | 70 => ⟨S1x1x2048, .f32⟩
  | 71 => ⟨S2048, .f32⟩
  | 72 => ⟨S1x1x2048, .f32⟩
  | 73 => ⟨S4x2048x2048, .f32⟩
  | 74 => ⟨S4x2048x2048, .f32⟩
  | 75 => ⟨S4x2048x2048, .f32⟩
  | 76 => ⟨S4x2048x2048, .f32⟩
  | 77 => ⟨S1x1x2048, .f32⟩
  | 78 => ⟨S2048, .f32⟩
  | 79 => ⟨S1x1x2048, .f32⟩
  | 80 => ⟨S4x2048x2048, .f32⟩
  | 81 => ⟨S4x2048x2048, .f32⟩
  | 82 => ⟨S4x2048x2048, .f32⟩
  | 83 => ⟨S4x2048x2048, .f32⟩
  | 84 => ⟨S1x1x2048, .f32⟩
  | 85 => ⟨S2048, .f32⟩
  | 86 => ⟨S1x1x2048, .f32⟩
  | 87 => ⟨S4x2048x2048, .f32⟩
  | 88 => ⟨S4x2048x2048, .f32⟩
  | 89 => ⟨S4x2048x2048, .f32⟩
  | 90 => ⟨S4x2048x2048, .f32⟩
  | 91 => ⟨S1x1x2048, .f32⟩
  | 92 => ⟨S2048, .f32⟩
  | 93 => ⟨S1x1x2048, .f32⟩
  | 94 => ⟨S4x2048x2048, .f32⟩
  | 95 => ⟨S4x2048x2048, .f32⟩
  | 96 => ⟨S4x2048x2048, .f32⟩
  | 97 => ⟨S4x2048x2048, .f32⟩
  | 98 => ⟨S1x1x2048, .f32⟩
  | 99 => ⟨S2048, .f32⟩
  | 100 => ⟨S1x1x2048, .f32⟩
  | 101 => ⟨S4x2048x2048, .f32⟩
  | 102 => ⟨S4x2048x2048, .f32⟩
  | 103 => ⟨S4x2048x2048, .f32⟩
  | 104 => ⟨S4x2048x2048, .f32⟩
  | 105 => ⟨S1x1x2048, .f32⟩
  | 106 => ⟨S2048, .f32⟩
  | 107 => ⟨S1x1x2048, .f32⟩
  | 108 => ⟨S4x2048x2048, .f32⟩
  | 109 => ⟨S4x2048x2048, .f32⟩
  | 110 => ⟨S4x2048x2048, .f32⟩
  | 111 => ⟨S4x2048x2048, .f32⟩
  | 112 => ⟨S1x1x2048, .f32⟩
  | 113 => ⟨S2048, .f32⟩
  | 114 => ⟨S1x1x2048, .f32⟩
  | 115 => ⟨S4x2048x2048, .f32⟩
  | 116 => ⟨S4x2048x2048, .f32⟩
  | 117 => ⟨S4x2048x2048, .f32⟩
  | 118 => ⟨S2048, .f32⟩
  | 119 => ⟨S1x1x2048, .f32⟩
  | 120 => ⟨S4x2048x2048, .f32⟩
  | 121 => ⟨S4x2048x2048, .f32⟩
  | 122 => ⟨S2048, .f32⟩
  | 123 => ⟨S2048, .f32⟩
  | 124 => ⟨S_, .f32⟩
  | 125 => ⟨S4x2048, .f32⟩
  | 126 => ⟨S4x2048x1, .f32⟩
  | 127 => ⟨S_, .f32⟩
  | _ => ⟨S8192x14336, .bf16⟩

abbrev hbmTy0_2 (i : Nat) : BufTy := match i % 128 with
  | 0 => ⟨S4x2048x1, .f32⟩
  | 1 => ⟨S4x2048x1, .f32⟩
  | 2 => ⟨S4x2048x2048, .f32⟩
  | 3 => ⟨S4x2048x2048, .f32⟩
  | 4 => ⟨S4x2048x2048, .f32⟩
  | 5 => ⟨S_, .f32⟩
  | 6 => ⟨S4x2048, .f32⟩
  | 7 => ⟨S4x2048x1, .f32⟩
  | 8 => ⟨S_, .f32⟩
  | 9 => ⟨S4x2048x1, .f32⟩
  | 10 => ⟨S4x2048x1, .f32⟩
  | 11 => ⟨S_, .f32⟩
  | 12 => ⟨S4x2048x1, .f32⟩
  | 13 => ⟨S4x2048x1, .f32⟩
  | 14 => ⟨S4x2048x1, .f32⟩
  | 15 => ⟨S4x2048x2048, .f32⟩
  | 16 => ⟨S4x2048x2048, .f32⟩
  | 17 => ⟨S1x1x2048, .f32⟩
  | 18 => ⟨S4x2048x2048, .f32⟩
  | 19 => ⟨S4x2048x2048, .f32⟩
  | 20 => ⟨S1x1x2048, .f32⟩
  | 21 => ⟨S4x2048x2048, .f32⟩
  | 22 => ⟨S4x2048x2048, .f32⟩
  | 23 => ⟨S4x2048x2048, .f32⟩
  | 24 => ⟨S4x2048x2048, .f32⟩
  | 25 => ⟨S_, .f32⟩
  | 26 => ⟨S4x2048x2048, .f32⟩
  | 27 => ⟨S4x2048x2048, .f32⟩
  | 28 => ⟨S_, .f32⟩
  | 29 => ⟨S4x2048x2048, .f32⟩
  | 30 => ⟨S4x2048x2048, .f32⟩
  | 31 => ⟨S4x2048x2048, .f32⟩
  | 32 => ⟨S2048x2048, .f32⟩
  | 33 => ⟨S4x2048x2048, .f32⟩
  | 34 => ⟨S4x2048x2048, .f32⟩
  | 35 => ⟨S4x2048x2048, .f32⟩
  | 36 => ⟨S4x2048x2048, .f32⟩
  | 37 => ⟨S_, .f32⟩
  | 38 => ⟨S4x2048x2048, .f32⟩
  | 39 => ⟨S4x2048x2048, .f32⟩
  | 40 => ⟨S_, .f32⟩
  | 41 => ⟨S4x2048x2048, .f32⟩
  | 42 => ⟨S4x2048x2048, .f32⟩
  | 43 => ⟨S4x2048x2048, .f32⟩
  | 44 => ⟨S4x2048x2048, .f32⟩
  | 45 => ⟨S8192x2048, .f32⟩
  | 46 => ⟨S8192x2048, .bf16⟩
  | _ => ⟨S8192x14336, .bf16⟩

abbrev hbmTy (i : Nat) : BufTy := match i / 128 with
  | 0 => hbmTy0_0 i
  | 1 => hbmTy0_1 i
  | 2 => hbmTy0_2 i
  | _ => ⟨S8192x14336, .bf16⟩

abbrev bufTy : (tb : Table) → Fin (tcTables nBuf tb) → BufTy
  | .hbm, ⟨i, _⟩ => hbmTy i
  | _, _ => ⟨S8192x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_cst_2 : Ref sig .tc := ⟨.hbm, 252, rfl⟩
abbrev main_v241 : Ref sig .tc := ⟨.hbm, 253, rfl⟩
abbrev main_v242 : Ref sig .tc := ⟨.hbm, 254, rfl⟩
abbrev main_cst_3 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_cst_4 : Ref sig .tc := ⟨.hbm, 261, rfl⟩
abbrev main_v248 : Ref sig .tc := ⟨.hbm, 262, rfl⟩
abbrev main_v249 : Ref sig .tc := ⟨.hbm, 263, rfl⟩
abbrev main_cst_5 : Ref sig .tc := ⟨.hbm, 264, rfl⟩
abbrev main_v250 : Ref sig .tc := ⟨.hbm, 265, rfl⟩
abbrev main_v251 : Ref sig .tc := ⟨.hbm, 266, rfl⟩
abbrev main_cst_6 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_v259 : Ref sig .tc := ⟨.hbm, 275, rfl⟩
abbrev main_v260 : Ref sig .tc := ⟨.hbm, 276, rfl⟩
abbrev main_v261 : Ref sig .tc := ⟨.hbm, 277, rfl⟩
abbrev main_v262 : Ref sig .tc := ⟨.hbm, 278, rfl⟩
abbrev main_call1_v0 : Ref sig .tc := ⟨.hbm, 279, rfl⟩
abbrev main_call1_v1 : Ref sig .tc := ⟨.hbm, 280, rfl⟩
abbrev main_call1_cst : Ref sig .tc := ⟨.hbm, 281, rfl⟩
abbrev main_call1_v2 : Ref sig .tc := ⟨.hbm, 282, rfl⟩
abbrev main_call1_v3 : Ref sig .tc := ⟨.hbm, 283, rfl⟩
abbrev main_call1_cst_0 : Ref sig .tc := ⟨.hbm, 284, rfl⟩
abbrev main_call1_v4 : Ref sig .tc := ⟨.hbm, 285, rfl⟩
abbrev main_call1_v5 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_call2_v0 : Ref sig .tc := ⟨.hbm, 291, rfl⟩
abbrev main_call2_v1 : Ref sig .tc := ⟨.hbm, 292, rfl⟩
abbrev main_call2_cst : Ref sig .tc := ⟨.hbm, 293, rfl⟩
abbrev main_call2_v2 : Ref sig .tc := ⟨.hbm, 294, rfl⟩
abbrev main_call2_v3 : Ref sig .tc := ⟨.hbm, 295, rfl⟩
abbrev main_call2_cst_0 : Ref sig .tc := ⟨.hbm, 296, rfl⟩
abbrev main_call2_v4 : Ref sig .tc := ⟨.hbm, 297, rfl⟩
abbrev main_call2_v5 : Ref sig .tc := ⟨.hbm, 298, rfl⟩
abbrev main_v267 : Ref sig .tc := ⟨.hbm, 299, rfl⟩
abbrev main_v268 : Ref sig .tc := ⟨.hbm, 300, rfl⟩
abbrev main_v269 : Ref sig .tc := ⟨.hbm, 301, rfl⟩
abbrev main_v270 : Ref sig .tc := ⟨.hbm, 302, rfl⟩

abbrev nD : Nat := 1
abbrev τ : Topo := Topo.v7x

variable {F : FTy → Type} [FloatOps F]
-- ==== Proof.Softmax.lean ====
module

public import Idealize.ShloMosaic.Lib.Pipeline.ValueKit
public import Idealize.ShloMosaic.Lib.Pointwise

/-! The arithmetic over the extended reals that the attention claims share: the root-mean-square normalisation is
finite, a softmax may divide before or after the weighted sum and may use powers of two, and a gate written with the
hyperbolic tangent is the logistic gate. No program is named here. -/

@[expose] public section

noncomputable section

namespace Cert.Core

open Idealize.ShloMosaic

/-- The pattern of 128. -/
theorem bits_128 : Ideal.ofBits .f32 0x43000000#32 = ((128 : ℝ) : EReal) := by
  simp [Ideal.ofBits, Ideal.ieee]
  rw [← EReal.coe_mul]
  norm_num

/-- The pattern of the score scale, the float nearest the inverse root of 128. -/
theorem bits_scale : Ideal.ofBits .f32 0x3DB504F3#32 = ((11863283 * 134217728⁻¹ : ℝ) : EReal) := by
  simp [Ideal.ofBits, Ideal.ieee]
  rw [← EReal.coe_mul, ← EReal.coe_mul]
  norm_num

/-- The pattern of one half. -/
theorem bits_half : Ideal.ofBits .f32 0x3F000000#32 = ((1 / 2 : ℝ) : EReal) := by
  simp [Ideal.ofBits, Ideal.ieee]
  rw [← EReal.coe_mul]
  norm_num

/-- The pattern of one, in the short format. -/
theorem bits_one : Ideal.ofBits .bf16 0x3F80#16 = 1 := by
  simp [Ideal.ofBits, Ideal.ieee]
  rw [← EReal.coe_mul]
  norm_num

/-- The pattern of minus infinity. -/
theorem bits_bot : Ideal.ofBits .f32 0xFF800000#32 = ⊥ := by
  simp [Ideal.ofBits, Ideal.ieee]

/-- The pattern of plus infinity. -/
theorem bits_top : Ideal.ofBits .f32 0x7F800000#32 = ⊤ := by
  simp [Ideal.ofBits, Ideal.ieee]

/-- The guard added to the mean square is a positive real number. -/
theorem bits_eps : ∃ e : ℝ, 0 < e ∧ Ideal.ofBits .f32 0x358637BD#32 = (e : EReal) := by
  refine ⟨8796093 * 2 ^ (-43 : ℤ), by positivity, ?_⟩
  simp [Ideal.ofBits, Ideal.ieee]
  try norm_num

/-- A sum of reals, read in the extended reals. -/
theorem sum_coe {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- A factor that is a nonnegative real number goes into a sum of any extended reals. -/
theorem mul_sum {n : ℕ} (c : ℝ) (hc : 0 ≤ c) (f : Fin n → EReal) : (c : EReal) * ∑ k, f k = ∑ k, (c : EReal) * f k := by
  induction n with
  | zero => simp
  | succ n ih =>
    rw [Fin.sum_univ_succ, Fin.sum_univ_succ, EReal.left_distrib_of_nonneg_of_ne_top (by exact_mod_cast hc) (EReal.coe_ne_top c), ih]

/-- The square of an extended real is not negative. -/
theorem sq_nonneg' (x : EReal) : 0 ≤ x * x := by
  induction x using EReal.rec with
  | bot => simp
  | coe r => rw [← EReal.coe_mul]; exact_mod_cast mul_self_nonneg r
  | top => simp

/-- A square that is not infinite is the square of a real number. -/
theorem real_of_sq (x : EReal) (h : x * x ≠ ⊤) : ∃ r : ℝ, x = r := by
  induction x using EReal.rec with
  | bot => simp at h
  | coe r => exact ⟨r, rfl⟩
  | top => simp at h

/-- **The normalisation is finite**: an entry over the root of the mean square of its row is a real number, whatever the
row holds — where the row has an infinite entry the reciprocal root is zero. -/
theorem nrm_real (x : Fin 128 → EReal) (d : Fin 128) :
    ∃ r : ℝ, x d * Ideal.rsqrt (Ideal.div (∑ k, x k * x k) (Ideal.ofBits .f32 0x43000000#32) + Ideal.ofBits .f32 0x358637BD#32) = r := by
  obtain ⟨e, he, hE⟩ := bits_eps
  rw [bits_128, hE, Ideal.div_coe (by norm_num)]
  by_cases hT : ∑ k, x k * x k = ⊤
  · refine ⟨0, ?_⟩
    rw [hT, EReal.top_mul_coe_of_pos (by norm_num), EReal.top_add_coe, Ideal.rsqrt_top, mul_zero, EReal.coe_zero]
  · have hx : ∀ k, ∃ r : ℝ, x k = r := fun k => real_of_sq _ fun h => hT <| top_le_iff.mp <| h ▸
      Finset.single_le_sum (f := fun k => x k * x k) (fun i _ => sq_nonneg' (x i)) (Finset.mem_univ k)
    choose r hr using hx
    simp only [hr, ← EReal.coe_mul, sum_coe, ← EReal.coe_add, Ideal.rsqrt_coe]
    have hs : 0 ≤ ∑ k, r k * r k := Finset.sum_nonneg fun k _ => mul_self_nonneg (r k)
    have hp : 0 < (∑ k, r k * r k) * (1 / 128) + e := by positivity
    rw [if_neg (not_lt.mpr hp.le), if_neg hp.ne', ← EReal.coe_mul]
    exact ⟨_, rfl⟩

/-- The largest of finitely many reals, at least one, is a real number. -/
theorem fold_max_real {n : ℕ} (f : Fin (n + 1) → ℝ) :
    ∃ m : ℝ, (Finset.univ.fold max ⊥ fun k => ((f k : ℝ) : EReal)) = m := by
  have key : ∀ s : Finset (Fin (n + 1)), (s.fold max ⊥ fun k => ((f k : ℝ) : EReal)) = ⊥ ∨
      ∃ m : ℝ, (s.fold max ⊥ fun k => ((f k : ℝ) : EReal)) = m := by
    intro s
    induction s using Finset.induction_on with
    | empty => left; simp
    | insert a s ha ih =>
      right
      rw [Finset.fold_insert ha]
      rcases ih with h | ⟨m, h⟩
      · exact ⟨f a, by rw [h]; simp⟩
      · rcases le_total (f a) m with h' | h'
        · exact ⟨m, by rw [h]; exact max_eq_right (by exact_mod_cast h')⟩
        · exact ⟨f a, by rw [h]; exact max_eq_left (by exact_mod_cast h')⟩
  rcases key Finset.univ with h | h
  · exfalso
    have h0 : ((f 0 : ℝ) : EReal) ≤ Finset.univ.fold max ⊥ fun k => ((f k : ℝ) : EReal) :=
      (Finset.le_fold_max _).mpr (Or.inr ⟨0, Finset.mem_univ _, le_refl _⟩)
    rw [h] at h0
    exact absurd (le_bot_iff.mp h0) (EReal.coe_ne_bot _)
  · exact h

/-- **The softmax equation.** Scores in units of `log 2`, powers of two and one division after the weighted sum give
what scores, exponentials and a division of every weight before the sum give: shifting by the maximum cancels, whatever
the values `v` are. -/
theorem softmax_eq {n : ℕ} (a : Fin (n + 1) → ℝ) (v : Fin (n + 1) → EReal) :
    Ideal.div (∑ j, Ideal.exp2 (((a j * (Real.log 2)⁻¹ : ℝ) : EReal)
          - Finset.univ.fold max ⊥ fun k => ((a k * (Real.log 2)⁻¹ : ℝ) : EReal)) * v j)
        (∑ j, Ideal.exp2 (((a j * (Real.log 2)⁻¹ : ℝ) : EReal)
          - Finset.univ.fold max ⊥ fun k => ((a k * (Real.log 2)⁻¹ : ℝ) : EReal)))
      = ∑ j, Ideal.div (Ideal.exp ((a j : EReal) - max ⊥ (Finset.univ.fold max ⊥ fun k => ((a k : ℝ) : EReal))))
          (∑ i, Ideal.exp ((a i : EReal) - max ⊥ (Finset.univ.fold max ⊥ fun k => ((a k : ℝ) : EReal)))) * v j := by
  obtain ⟨M, hM⟩ := fold_max_real fun k => a k * (Real.log 2)⁻¹
  obtain ⟨M', hM'⟩ := fold_max_real a
  have hl : Real.log 2 ≠ 0 := (Real.log_pos (by norm_num)).ne'
  have h2 : ∀ j, Ideal.exp2 (((a j * (Real.log 2)⁻¹ : ℝ) : EReal) - (M : EReal))
      = ((Real.exp (M' - M * Real.log 2) * Real.exp (a j - M') : ℝ) : EReal) := fun j => by
    rw [← EReal.coe_sub, Ideal.exp2_coe, Real.rpow_eq_pow, Real.rpow_def_of_pos (by norm_num), ← Real.exp_add]
    congr 2
    field_simp
    ring
  rw [hM, hM', max_eq_right bot_le]
  simp only [h2]
  simp only [← EReal.coe_sub, Ideal.exp_coe, sum_coe]
  have hD : 0 < ∑ j, Real.exp (a j - M') := Finset.sum_pos (fun j _ => Real.exp_pos _) ⟨0, Finset.mem_univ _⟩
  have hc : 0 < Real.exp (M' - M * Real.log 2) := Real.exp_pos _
  rw [← Finset.mul_sum, Ideal.div_coe (mul_pos hc hD).ne', mul_comm, mul_sum _ (by positivity)]
  refine Finset.sum_congr rfl fun j _ => ?_
  rw [Ideal.div_coe hD.ne', ← EReal.coe_mul, ← mul_assoc, ← EReal.coe_mul]
  congr 2
  field_simp

/-- **The gate equation**: half a hyperbolic tangent of half the argument plus a half is the logistic function, also at
the infinities once multiplied by the argument. -/
theorem gate_eq (g : EReal) :
    g * (Ideal.ofBits .f32 0x3F000000#32 * Ideal.tanh (Ideal.ofBits .f32 0x3F000000#32 * g) + Ideal.ofBits .f32 0x3F000000#32)
      = g * Ideal.div 1 (1 + Ideal.exp (-g)) := by
  rw [bits_half]
  induction g using EReal.rec with
  | bot =>
    rw [EReal.coe_mul_bot_of_pos (by norm_num), Ideal.tanh_bot, EReal.neg_bot, Ideal.exp_top, ← EReal.coe_one,
      ← EReal.coe_neg, ← EReal.coe_mul, ← EReal.coe_add, EReal.coe_add_top, EReal.coe_one]
    norm_num [Ideal.div]
  | coe r =>
    rw [← EReal.coe_mul, Ideal.tanh_coe, ← EReal.coe_neg, Ideal.exp_coe, ← EReal.coe_one, ← EReal.coe_add,
      Ideal.div_coe (by positivity), ← EReal.coe_mul, ← EReal.coe_add, ← EReal.coe_mul, ← EReal.coe_mul, ← EReal.coe_mul]
    congr 2
    have h1 : Real.exp (-r) = Real.exp (-(1 / 2 * r)) * Real.exp (-(1 / 2 * r)) := by rw [← Real.exp_add]; ring_nf
    have h2 : Real.exp (1 / 2 * r) * Real.exp (-(1 / 2 * r)) = 1 := by rw [← Real.exp_add]; simp
    rw [Real.tanh_eq_sinh_div_cosh, Real.sinh_eq, Real.cosh_eq, h1]
    have p1 := Real.exp_pos (1 / 2 * r)
    have p2 := Real.exp_pos (-(1 / 2 * r))
    have e : Real.exp (1 / 2 * r) = (Real.exp (-(1 / 2 * r)))⁻¹ := eq_inv_of_mul_eq_one_left h2
    rw [e]
    generalize Real.exp (-(1 / 2 * r)) = t at p2 ⊢
    field_simp
    ring
  | top =>
    rw [EReal.coe_mul_top_of_pos (by norm_num), Ideal.tanh_top, EReal.neg_top, Ideal.exp_bot, add_zero,
      ← EReal.coe_one, Ideal.div_coe one_ne_zero, ← EReal.coe_mul, ← EReal.coe_add, ← EReal.coe_mul]
    norm_num

/-- A row over the root of its mean square, at one entry. -/
def nrm (x : Fin 128 → EReal) (d : Fin 128) : EReal :=
  x d * Ideal.rsqrt (Ideal.div (∑ k, x k * x k) (Ideal.ofBits .f32 0x43000000#32) + Ideal.ofBits .f32 0x358637BD#32)

/-- One entry of one head's gated attention, as it is defined: normalised queries `q` and keys `k` with gains, scores
times the scale `c`, softmax, the weighted sum of `v`, and the gate times its logistic function. -/
def attn (c : ℝ) (q : Fin 128 → EReal) (k : Fin 256 → Fin 128 → EReal) (v : Fin 256 → EReal) (qg kg : Fin 128 → EReal) (g : EReal) :
    EReal :=
  let s : Fin 256 → EReal := fun j => (∑ d, nrm q d * qg d * (nrm (k j) d * kg d)) * (c : EReal)
  let m : EReal := max ⊥ (Finset.univ.fold max ⊥ s)
  (∑ j, Ideal.div (Ideal.exp (s j - m)) (∑ i, Ideal.exp (s i - m)) * v j) * (g * Ideal.div 1 (1 + Ideal.exp (-g)))

/-- The same entry as the kernel computes it: the score's scale and the change to powers of two are in the query, the
division comes after the weighted sum, and the gate is written with the hyperbolic tangent. -/
def attnK (c : ℝ) (q : Fin 128 → EReal) (k : Fin 256 → Fin 128 → EReal) (v : Fin 256 → EReal) (qg kg : Fin 128 → EReal) (g : EReal) :
    EReal :=
  let s : Fin 256 → EReal := fun j =>
    ∑ d, nrm q d * qg d * ((c * (Real.log 2)⁻¹ : ℝ) : EReal) * (nrm (k j) d * kg d)
  let m : EReal := Finset.univ.fold max ⊥ s
  Ideal.div (∑ j, Ideal.exp2 (s j - m) * v j) (∑ j, Ideal.exp2 (s j - m)) *
    (g * (Ideal.ofBits .f32 0x3F000000#32 * Ideal.tanh (Ideal.ofBits .f32 0x3F000000#32 * g) + Ideal.ofBits .f32 0x3F000000#32))

/-- **The two agree** where the gains are real numbers. -/
theorem attnK_eq (c : ℝ) (q : Fin 128 → EReal) (k : Fin 256 → Fin 128 → EReal) (v : Fin 256 → EReal) (qg kg : Fin 128 → EReal)
    (g : EReal) (hq : ∀ d, ∃ r : ℝ, qg d = r) (hk : ∀ d, ∃ r : ℝ, kg d = r) : attnK c q k v qg kg g
      = attn c q k v qg kg g := by
  choose a ha using hq
  choose b hb using hk
  choose x hx using fun d => nrm_real q d
  choose y hy using fun j d => nrm_real (k j) d
  have hx' : ∀ d, nrm q d = x d := hx
  have hy' : ∀ j d, nrm (k j) d = y j d := hy
  have hs : ∀ j, (∑ d, nrm q d * qg d * (nrm (k j) d * kg d)) * (c : EReal)
      = (((∑ d, x d * a d * (y j d * b d)) * c : ℝ) : EReal) := fun j => by
    simp only [hx', hy', ha, hb, ← EReal.coe_mul, sum_coe]
  have ht : ∀ j, ∑ d, nrm q d * qg d * ((c * (Real.log 2)⁻¹ : ℝ) : EReal) * (nrm (k j) d * kg d)
      = (((∑ d, x d * a d * (y j d * b d)) * c * (Real.log 2)⁻¹ : ℝ) : EReal) := fun j => by
    simp only [hx', hy', ha, hb, ← EReal.coe_mul, sum_coe]
    congr 1
    rw [mul_assoc, Finset.sum_mul]
    exact Finset.sum_congr rfl fun d _ => by ring
  unfold attnK attn
  simp only [hs, ht]
  rw [gate_eq, softmax_eq]

/-- The gated attention of a whole projection `u`, row `R` and column `C` of the result: the sequence is `R / 256`, the head
is `C / 128`; queries, keys and values are the first three stretches of 2048 columns, the gate starts at column 10240. -/
def attnOut (c : ℝ) (u : Fin 8192 → Fin 14336 → EReal) (qg kg : Fin 128 → EReal) (R : Fin 8192) (C : Fin 2048) : EReal :=
  attn c (fun d => u R ⟨C.val / 128 * 128 + d.val, by omega⟩)
    (fun j d => u ⟨R.val / 256 * 256 + j.val, by omega⟩ ⟨2048 + (C.val / 128 * 128 + d.val), by omega⟩)
    (fun j => u ⟨R.val / 256 * 256 + j.val, by omega⟩ ⟨4096 + C.val, by omega⟩) qg kg (u R ⟨10240 + C.val, by omega⟩)

/-- The same as the kernel computes it. -/
def attnOutK (c : ℝ) (u : Fin 8192 → Fin 14336 → EReal) (qg kg : Fin 128 → EReal) (R : Fin 8192) (C : Fin 2048) : EReal :=
  attnK c (fun d => u R ⟨C.val / 128 * 128 + d.val, by omega⟩)
    (fun j d => u ⟨R.val / 256 * 256 + j.val, by omega⟩ ⟨2048 + (C.val / 128 * 128 + d.val), by omega⟩)
    (fun j => u ⟨R.val / 256 * 256 + j.val, by omega⟩ ⟨4096 + C.val, by omega⟩) qg kg (u R ⟨10240 + C.val, by omega⟩)

/-- The normalised key of sequence `b`, head `h`, position `l`, with its gain. -/
def keyOut (u : Fin 8192 → Fin 14336 → EReal) (kg : Fin 128 → EReal) (b : Fin 32) (h : Fin 16) (l : Fin 256) (d : Fin 128) : EReal :=
  nrm (fun d' => u ⟨b.val * 256 + l.val, by omega⟩ ⟨2048 + (h.val * 128 + d'.val), by omega⟩) d * kg d

/-- The value of sequence `b`, head `h`, position `l`. -/
def valueOut (u : Fin 8192 → Fin 14336 → EReal) (b : Fin 32) (h : Fin 16) (l : Fin 256) (d : Fin 128) : EReal :=
  u ⟨b.val * 256 + l.val, by omega⟩ ⟨4096 + (h.val * 128 + d.val), by omega⟩

end Cert.Core
-- ==== Proof.AttnKernel.lean ====
module

public import proofs.«01_k».proof.Proof.Gen.AttnIdeal.Value
public import proofs.«01_k».proof.Proof.Softmax

/-! The context attention's kernel at the ideal instance: what one head's stores hold, that the sixteen heads are one
operation sequence at sixteen column offsets, and the three result arrays as functions of the arguments. -/

@[expose] public section

set_option maxRecDepth 16384

noncomputable section

namespace Cert.AttnIdeal.KernelValue

open Idealize.ShloMosaic Idealize.ShloMosaic.TcCoe Idealize.SL.Sem
open Cert.AttnIdeal Cert.AttnIdeal.Gen Cert.Core

/-- What one head stores: queries, keys, values and gates of the head, and the two gains. -/
def headOut (q k v g : Vec Ideal S256x128 .bf16) (qg kg : Vec Ideal S1x128 .f32) : FVec Ideal S256x128 .bf16 :=
  k0_pay6 (F := Ideal) (k0_pay2 (F := Ideal) q qg) (k0_pay3 (F := Ideal) k kg) v g

/-- The key a head stores. -/
def headKey (k : Vec Ideal S256x128 .bf16) (kg : Vec Ideal S1x128 .f32) : FVec Ideal S1x1x1x256x128 .f32 :=
  k0_pay4 (F := Ideal) (k0_pay3 (F := Ideal) k kg)

/-- The value a head stores. -/
def headValue (v : Vec Ideal S256x128 .bf16) : FVec Ideal S1x1x1x256x128 .f32 :=
  k0_pay5 (F := Ideal) v

/-- A head's output at an index. -/
theorem head_at (q k v g : Vec Ideal S256x128 .bf16) (qg kg : Vec Ideal S1x128 .f32) (r : Fin 256) (e : Fin 128) :
    headOut q k v g qg kg (ix2 r e)
      = attnK (11863283 * 134217728⁻¹) (fun d => q (ix2 r d)) (fun j d => k (ix2 j d)) (fun j => v (ix2 j e))
          (fun d => qg (ix2 0 d)) (fun d => kg (ix2 0 d)) (g (ix2 r e)) := by
  have hκ : Named.named (F := Ideal) (φ := .f32) κ "q_scale" (0x3E0293EE#32 : BitVec (FTy.bits .f32))
      = ((11863283 * 134217728⁻¹ * (Real.log 2)⁻¹ : ℝ) : EReal) :=
    IdealRules.named_const.ideal_named_scalar _ _ _ _ rfl
  pointwise [headOut, k0_pay6, k0_pay2, k0_pay3]
  rw [hκ, bits_bot]
  rfl

/-- A head's key at an index. -/
theorem headKey_at (k : Vec Ideal S256x128 .bf16) (kg : Vec Ideal S1x128 .f32) (a b c : Fin 1) (r : Fin 256) (e : Fin 128) :
    headKey k kg (ix5 a b c r e) = nrm (fun d => k (ix2 r d)) e * kg (ix2 0 e) := by
  pointwise [headKey, k0_pay4, k0_pay3, nrm]

/-- A head's value at an index. -/
theorem headValue_at (v : Vec Ideal S256x128 .bf16) (a b c : Fin 1) (r : Fin 256) (e : Fin 128) :
    headValue v (ix5 a b c r e) = v (ix2 r e) := by
  pointwise [headValue, k0_pay5]

/-- The columns of head `h` of a block. -/
def tile (x : Vec Ideal S256x2048 .bf16) (h : Fin 16) : Vec Ideal S256x128 .bf16 :=
  fun i => x (ix2 (i 0) ⟨h.val * 128 + (i 1).val, by have h1 : (i 1).val < 128 := (i 1).isLt; have h2 := h.isLt; omega⟩)

/-- Equal arguments give equal outputs of a head. -/
theorem headOut_congr {q k v g q' k' v' g' : Vec Ideal S256x128 .bf16} {qg kg qg' kg' : Vec Ideal S1x128 .f32}
    {i i' : S256x128.Idx} (hq : q = q') (hk : k = k') (hv : v = v') (hg : g = g') (hqg : qg = qg') (hkg : kg = kg')
    (hi : i = i') : headOut q k v g qg kg i = headOut q' k' v' g' qg' kg' i' := by
  subst hq hk hv hg hqg hkg hi; rfl

/-- Equal arguments give equal keys of a head. -/
theorem headKey_congr {k k' : Vec Ideal S256x128 .bf16} {kg kg' : Vec Ideal S1x128 .f32} {i i' : S1x1x1x256x128.Idx}
    (hk : k = k') (hkg : kg = kg') (hi : i = i') : headKey k kg i = headKey k' kg' i' := by
  subst hk hkg hi; rfl

/-- Equal arguments give equal values of a head. -/
theorem headValue_congr {v v' : Vec Ideal S256x128 .bf16} {i i' : S1x1x1x256x128.Idx}
    (hv : v = v') (hi : i = i') : headValue v i = headValue v' i' := by
  subst hv hi; rfl

set_option maxHeartbeats 4000000 in
/-- The sixteen stores of the output block are the heads' outputs. -/
theorem out6_at (x0 x1 x2 x3 : Vec Ideal S256x2048 .bf16) (x4 x5 : Vec Ideal S1x128 .f32) (y : S256x2048.Idx) (i : S256x128.Idx)
    (hd : Fin 16) (i0 : (i 0 : ℕ) = y 0) (i1 : (i 1 : ℕ) = y 1 % 128) (hdv : hd.val = y 1 / 128) :
    out0_6 (F := Ideal) x0 x1 x2 x3 x4 x5 y = headOut (tile x0 hd) (tile x1 hd) (tile x2 hd) (tile x3 hd) x4 x5 i := by
  unfold_out out0_6
  canon_tiles x h
  all_goals
    refine headOut_congr ?_ ?_ ?_ ?_ ?_ ?_ ?_
    · funext z; idx_vars z; pointwise [tile]; blk_ext
    · funext z; idx_vars z; pointwise [tile]; blk_ext
    · funext z; idx_vars z; pointwise [tile]; blk_ext
    · funext z; idx_vars z; pointwise [tile]; blk_ext
    · funext z; idx_vars z; pointwise; blk_ext
    · funext z; idx_vars z; pointwise; blk_ext
    · refine funext fun a => Fin.ext ?_
      match a with
      | ⟨0, _⟩ => exact h0.symm.trans i0.symm
      | ⟨1, _⟩ => exact (show (x 1 : ℕ) = i 1 by omega)

set_option maxHeartbeats 4000000 in
/-- The sixteen stores of the key block are the heads' keys. -/
theorem out7_at (x0 x1 x2 x3 : Vec Ideal S256x2048 .bf16) (x4 x5 : Vec Ideal S1x128 .f32) (y : S1x1x16x256x128.Idx)
    (i : S1x1x1x256x128.Idx) (hd : Fin 16) (i3 : (i 3 : ℕ) = y 3) (i4 : (i 4 : ℕ) = y 4) (hdv : hd.val = y 2) :
    out0_7 (F := Ideal) x0 x1 x2 x3 x4 x5 y = headKey (tile x1 hd) x5 i := by
  unfold_out out0_7
  canon_tiles x h
  all_goals
    refine headKey_congr ?_ ?_ ?_
    · funext z; idx_vars z; pointwise [tile]; blk_ext
    · funext z; idx_vars z; pointwise; blk_ext
    · refine funext fun a => Fin.ext ?_
      match a with
      | ⟨0, _⟩ => exact (Nat.lt_one_iff.mp (x 0).isLt).trans (Nat.lt_one_iff.mp (i 0).isLt).symm
      | ⟨1, _⟩ => exact (Nat.lt_one_iff.mp (x 1).isLt).trans (Nat.lt_one_iff.mp (i 1).isLt).symm
      | ⟨2, _⟩ => exact (Nat.lt_one_iff.mp (x 2).isLt).trans (Nat.lt_one_iff.mp (i 2).isLt).symm
      | ⟨3, _⟩ => exact h3.symm.trans i3.symm
      | ⟨4, _⟩ => exact h4.symm.trans i4.symm

set_option maxHeartbeats 4000000 in
/-- The sixteen stores of the value block are the heads' values. -/
theorem out8_at (x0 x1 x2 x3 : Vec Ideal S256x2048 .bf16) (x4 x5 : Vec Ideal S1x128 .f32) (y : S1x1x16x256x128.Idx)
    (i : S1x1x1x256x128.Idx) (hd : Fin 16) (i3 : (i 3 : ℕ) = y 3) (i4 : (i 4 : ℕ) = y 4) (hdv : hd.val = y 2) :
    out0_8 (F := Ideal) x0 x1 x2 x3 x4 x5 y = headValue (tile x2 hd) i := by
  unfold_out out0_8
  canon_tiles x h
  all_goals
    refine headValue_congr ?_ ?_
    · funext z; idx_vars z; pointwise [tile]; blk_ext
    · refine funext fun a => Fin.ext ?_
      match a with
      | ⟨0, _⟩ => exact (Nat.lt_one_iff.mp (x 0).isLt).trans (Nat.lt_one_iff.mp (i 0).isLt).symm
      | ⟨1, _⟩ => exact (Nat.lt_one_iff.mp (x 1).isLt).trans (Nat.lt_one_iff.mp (i 1).isLt).symm
      | ⟨2, _⟩ => exact (Nat.lt_one_iff.mp (x 2).isLt).trans (Nat.lt_one_iff.mp (i 2).isLt).symm
      | ⟨3, _⟩ => exact h3.symm.trans i3.symm
      | ⟨4, _⟩ => exact h4.symm.trans i4.symm

variable (m : (ℓ : Loc nD τ sig) → Buf (Elt Ideal) ℓ)

/-- The block indices of the nine windows at a grid point. -/
theorem idx : ∀ t : Fin cfg0.N, win0_0.index t = ![t.val, 0] ∧ win0_1.index t = ![t.val, 1] ∧ win0_2.index t = ![t.val, 2]
    ∧ win0_3.index t = ![t.val, 5] ∧ win0_4.index t = ![0, 0] ∧ win0_5.index t = ![0, 0] ∧ win0_6.index t = ![t.val, 0]
    ∧ win0_7.index t = ![t.val, 0, 0, 0, 0] ∧ win0_8.index t = ![t.val, 0, 0, 0, 0] :=
  (by decide +kernel : ∀ t : Fin grid0.N, _)

/-- The projection as launched, by row and column. -/
def U (c : Dev nD) : Fin 8192 → Fin 14336 → EReal :=
  fun R C => (show FVec Ideal S8192x14336 .bf16 from m ((c : Thread nD τ).loc main_arg0)) (ix2 R C)

/-- The query gain as launched. -/
def QG (c : Dev nD) : Fin 128 → EReal :=
  fun d => (show FVec Ideal S1x128 .f32 from m ((c : Thread nD τ).loc main_arg1)) (ix2 0 d)

/-- The key gain as launched. -/
def KG (c : Dev nD) : Fin 128 → EReal :=
  fun d => (show FVec Ideal S1x128 .f32 from m ((c : Thread nD τ).loc main_arg2)) (ix2 0 d)

/-- The query block of a sequence, read in the projection. -/
theorem blk0 (c : Dev nD) (t : Fin cfg0.N) (r : Fin 256) (e : Fin 2048) (R : Fin 8192) (C : Fin 14336)
    (hR : R.val = t.val * 256 + r.val) (hC : C.val = e.val) :
    (show Vec Ideal S256x2048 .bf16 from iblk m c 0 t) (ix2 r e) = U m c R C := by
  unfold U
  blk_ext [iblk, V_main_arg0, idx t]

/-- The key block. -/
theorem blk1 (c : Dev nD) (t : Fin cfg0.N) (r : Fin 256) (e : Fin 2048) (R : Fin 8192) (C : Fin 14336)
    (hR : R.val = t.val * 256 + r.val) (hC : C.val = 2048 + e.val) :
    (show Vec Ideal S256x2048 .bf16 from iblk m c 1 t) (ix2 r e) = U m c R C := by
  unfold U
  blk_ext [iblk, V_main_arg0, idx t]

/-- The value block. -/
theorem blk2 (c : Dev nD) (t : Fin cfg0.N) (r : Fin 256) (e : Fin 2048) (R : Fin 8192) (C : Fin 14336)
    (hR : R.val = t.val * 256 + r.val) (hC : C.val = 4096 + e.val) :
    (show Vec Ideal S256x2048 .bf16 from iblk m c 2 t) (ix2 r e) = U m c R C := by
  unfold U
  blk_ext [iblk, V_main_arg0, idx t]

/-- The gate block. -/
theorem blk3 (c : Dev nD) (t : Fin cfg0.N) (r : Fin 256) (e : Fin 2048) (R : Fin 8192) (C : Fin 14336)
    (hR : R.val = t.val * 256 + r.val) (hC : C.val = 10240 + e.val) :
    (show Vec Ideal S256x2048 .bf16 from iblk m c 3 t) (ix2 r e) = U m c R C := by
  unfold U
  blk_ext [iblk, V_main_arg0, idx t]

/-- The query gain, staged whole at every point. -/
theorem blk4 (c : Dev nD) (t : Fin cfg0.N) (d : Fin 128) :
    (show Vec Ideal S1x128 .f32 from iblk m c 4 t) (ix2 0 d) = QG m c d := by
  unfold QG
  have e : V m c main_v2 = m ((c : Thread nD τ).loc main_arg1) := by
    entry_read
    exact shapeCast_shapeCast _ _ _
  blk_ext [iblk, e, idx t]

/-- The key gain, staged whole at every point. -/
theorem blk5 (c : Dev nD) (t : Fin cfg0.N) (d : Fin 128) :
    (show Vec Ideal S1x128 .f32 from iblk m c 5 t) (ix2 0 d) = KG m c d := by
  unfold KG
  have e : V m c main_v3 = m ((c : Thread nD τ).loc main_arg2) := by
    entry_read
    exact shapeCast_shapeCast _ _ _
  blk_ext [iblk, e, idx t]

/-- The output block of point `t` at an index is the gated attention at its place in the array. -/
theorem point6 (c : Dev nD) (t : Fin cfg0.N) (y : S256x2048.Idx) (R : Fin 8192) (C : Fin 2048)
    (hR : R.val = t.val * 256 + (y 0).val) (hC : C.val = (y 1).val) :
    out0_6 (F := Ideal) (iblk m c 0 t) (iblk m c 1 t) (iblk m c 2 t) (iblk m c 3 t) (iblk m c 4 t) (iblk m c 5 t) y
      = attnOutK (11863283 * 134217728⁻¹) (U m c) (QG m c) (KG m c) R C := by
  have ht : t.val < 32 := lt_of_lt_of_eq t.isLt N_0
  have y0 : (y 0).val < 256 := (y 0).isLt
  have y1 : (y 1).val < 2048 := (y 1).isLt
  rw [out6_at _ _ _ _ _ _ y (ix2 ⟨(y 0).val, y0⟩ ⟨(y 1).val % 128, by omega⟩) ⟨(y 1).val / 128, by omega⟩ rfl rfl rfl, head_at]
  unfold attnOutK
  congr 1
  · funext d; exact blk0 m c t _ _ _ _ hR (by simp only [ix2_0, ix2_1]; omega)
  · funext j d; exact blk1 m c t _ _ _ _ (by simp only [ix2_0, ix2_1]; omega) (by simp only [ix2_0, ix2_1]; omega)
  · funext j; exact blk2 m c t _ _ _ _ (by simp only [ix2_0, ix2_1]; omega) (by simp only [ix2_0, ix2_1]; omega)
  · funext d; exact blk4 m c t d
  · funext d; exact blk5 m c t d
  · exact blk3 m c t _ _ _ _ hR (by simp only [ix2_0, ix2_1]; omega)

/-- The key block of point `t` at an index. -/
theorem point7 (c : Dev nD) (t : Fin cfg0.N) (y : S1x1x16x256x128.Idx) (b : Fin 32) (h : Fin 16) (l : Fin 256) (d : Fin 128)
    (hb : b.val = t.val) (hh : h.val = (y 2).val) (hl : l.val = (y 3).val) (hd : d.val = (y 4).val) :
    out0_7 (F := Ideal) (iblk m c 0 t) (iblk m c 1 t) (iblk m c 2 t) (iblk m c 3 t) (iblk m c 4 t) (iblk m c 5 t) y
      = keyOut (U m c) (KG m c) b h l d := by
  rw [out7_at _ _ _ _ _ _ y (ix5 0 0 0 l d) h hl hd hh, headKey_at]
  unfold keyOut
  refine congrArg₂ (· * ·) ?_ (blk5 m c t d)
  refine congrArg (fun f => nrm f d) (funext fun d' => ?_)
  exact blk1 m c t _ _ _ _ (by simp only [ix2_0, ix2_1]; omega) (by simp only [ix2_0, ix2_1])

/-- The value block of point `t` at an index. -/
theorem point8 (c : Dev nD) (t : Fin cfg0.N) (y : S1x1x16x256x128.Idx) (b : Fin 32) (h : Fin 16) (l : Fin 256) (d : Fin 128)
    (hb : b.val = t.val) (hh : h.val = (y 2).val) (hl : l.val = (y 3).val) (hd : d.val = (y 4).val) :
    out0_8 (F := Ideal) (iblk m c 0 t) (iblk m c 1 t) (iblk m c 2 t) (iblk m c 3 t) (iblk m c 4 t) (iblk m c 5 t) y
      = valueOut (U m c) b h l d := by
  rw [out8_at _ _ _ _ _ _ y (ix5 0 0 0 l d) h hl hd hh, headValue_at]
  unfold valueOut
  exact blk2 m c t _ _ _ _ (by simp only [ix2_0, ix2_1]; omega) (by simp only [ix2_0, ix2_1])

/-- **The kernel's first result.** -/
theorem final6 (c : Dev nD) : (dats m 0 c).arrAt 6 (cfgs 0).N
    = fun i : S8192x2048.Idx => attnOutK (11863283 * 134217728⁻¹) (U m c) (QG m c) (KG m c) (i 0) (i 1) := by
  refine (dats m 0 c).arrAt_eq_of_covers 6 _ (by decide +kernel) fun t _ y => ?_
  blk_simp
  rw [after0_6]
  refine point6 m c t y _ _ ?_ ?_ <;> blk_simp [idx t] <;> try omega

/-- **The kernel's second result**: the normalised keys. -/
theorem final7 (c : Dev nD) : (dats m 0 c).arrAt 7 (cfgs 0).N
    = fun i : S32x1x16x256x128.Idx => keyOut (U m c) (KG m c) (i 0) (i 2) (i 3) (i 4) := by
  refine (dats m 0 c).arrAt_eq_of_covers 7 _ (by decide +kernel) fun t _ y => ?_
  blk_simp
  rw [after0_7]
  refine point7 m c t y _ _ _ _ ?_ ?_ ?_ ?_ <;> blk_simp [idx t] <;> try omega

/-- **The kernel's third result**: the values. -/
theorem final8 (c : Dev nD) : (dats m 0 c).arrAt 8 (cfgs 0).N
    = fun i : S32x1x16x256x128.Idx => valueOut (U m c) (i 0) (i 2) (i 3) (i 4) := by
  refine (dats m 0 c).arrAt_eq_of_covers 8 _ (by decide +kernel) fun t _ y => ?_
  blk_simp
  rw [after0_8]
  refine point8 m c t y _ _ _ _ ?_ ?_ ?_ ?_ <;> blk_simp [idx t] <;> try omega

end Cert.AttnIdeal.KernelValue
-- ==== Proof.AttnReference.lean ====
module

public import proofs.«01_k».proof.Proof.Gen.AttnRefIdeal.Read
public import proofs.«01_k».proof.Proof.Gen.AttnRefIdeal.Run
public import proofs.«01_k».proof.Proof.Softmax

/-! The context attention's reference at the ideal instance, read at an index: one lemma per stretch of operations, each over
the stage before it. -/

@[expose] public section

set_option maxRecDepth 16384

noncomputable section

namespace Cert.AttnRefIdeal.RefValue

open Idealize.ShloMosaic Idealize.ShloMosaic.TcCoe Idealize.SL.Sem
open Cert.AttnRefIdeal Cert.AttnRefIdeal.Read Cert.Core

variable (u : FVec Ideal S8192x14336 .bf16) (qg kg : FVec Ideal S1x128 .f32)

/-- The normalised query with its gain. -/
theorem q_at (b : Fin 32) (h : Fin 16) (l : Fin 256) (d : Fin 128) :
    val_main_v22 (F := Ideal) u qg (ix4 b h l d)
      = nrm (fun d' : Fin 128 => u (ix2 ⟨b.val * 256 + l.val, by omega⟩ ⟨h.val * 128 + d'.val, by omega⟩)) d * qg (ix2 0 d) := by
  pointwise [val_main_v22, val_main_v21, val_main_v20, val_main_v19, val_main_v18, val_main_v17, val_main_v16, val_main_v15,
    val_main_v14, val_main_v13, val_main_v12, val_main_v11, val_main_v10, val_main_v9, val_main_v8, val_main_v7, val_main_v2,
    val_main_v1, val_main_v0, nrm, val_main_cst, val_main_cst_0, val_main_cst_1]

/-- The normalised key with its gain. -/
theorem k_at (b : Fin 32) (h : Fin 16) (l : Fin 256) (d : Fin 128) :
    val_main_v38 (F := Ideal) u kg (ix4 b h l d)
      = nrm (fun d' : Fin 128 => u (ix2 ⟨b.val * 256 + l.val, by omega⟩ ⟨2048 + (h.val * 128 + d'.val), by omega⟩)) d
        * kg (ix2 0 d) := by
  pointwise [val_main_v38, val_main_v37, val_main_v36, val_main_v35, val_main_v34, val_main_v33, val_main_v32, val_main_v31,
    val_main_v30, val_main_v29, val_main_v28, val_main_v27, val_main_v26, val_main_v25, val_main_v24, val_main_v23, val_main_v3,
    val_main_v1, val_main_v0, nrm, val_main_cst_2, val_main_cst_3, val_main_cst_4]

/-- The value. -/
theorem v_at (b : Fin 32) (h : Fin 16) (l : Fin 256) (d : Fin 128) :
    val_main_v40 (F := Ideal) u (ix4 b h l d) = u (ix2 ⟨b.val * 256 + l.val, by omega⟩ ⟨4096 + (h.val * 128 + d.val), by omega⟩) := by
  pointwise [val_main_v40, val_main_v39, val_main_v4, val_main_v1, val_main_v0]

/-- The score: the inner product of query and key times the scale. -/
theorem s_at (b : Fin 32) (h : Fin 16) (l j : Fin 256) :
    val_main_v43 (F := Ideal) u qg kg (ix4 b h l j)
      = (∑ d : Fin 128, val_main_v22 (F := Ideal) u qg (ix4 b h l d) * val_main_v38 (F := Ideal) u kg (ix4 b h j d))
        * ((11863283 * 134217728⁻¹ : ℝ) : EReal) := by
  unfold val_main_v43 val_main_v41
  generalize val_main_v22 (F := Ideal) u qg = x
  generalize val_main_v38 (F := Ideal) u kg = y
  pointwise [val_main_v42, val_main_cst_5]
  rw [bits_scale]

/-- The largest score of a row. -/
theorem m_at (b : Fin 32) (h : Fin 16) (l : Fin 256) :
    val_main_v44 (F := Ideal) u qg kg (ix3 b h l)
      = Finset.univ.fold max ⊥ fun j : Fin 256 => val_main_v43 (F := Ideal) u qg kg (ix4 b h l j) := by
  unfold val_main_v44
  generalize val_main_v43 (F := Ideal) u qg kg = y
  pointwise [val_main_cst_6]
  rw [bits_bot]

/-- The exponential of the score less the largest. -/
theorem e_at (b : Fin 32) (h : Fin 16) (l j : Fin 256) :
    val_main_v50 (F := Ideal) u qg kg (ix4 b h l j)
      = Ideal.exp (val_main_v43 (F := Ideal) u qg kg (ix4 b h l j) - max ⊥ (val_main_v44 (F := Ideal) u qg kg (ix3 b h l))) := by
  rw [val_main_v50_apply, val_main_v49_apply, val_main_v48_apply, val_main_v47_apply, val_main_v46_apply, val_main_v45_apply,
    val_main_cst_7_apply]
  have hi : idx_main_v47 (idx_main_v48 (ix4 b h l j)) = ix3 b h l := by
    funext a
    match a with
    | ⟨0, _⟩ => rfl
    | ⟨1, _⟩ => rfl
    | ⟨2, _⟩ => rfl
  rw [hi]
  generalize val_main_v43 (F := Ideal) u qg kg (ix4 b h l j) = x
  generalize val_main_v44 (F := Ideal) u qg kg (ix3 b h l) = y
  rw [← bits_bot]
  rfl

/-- The weighted sum of the values. -/
theorem o_at (b : Fin 32) (h : Fin 16) (l : Fin 256) (d : Fin 128) :
    val_main_v55 (F := Ideal) u qg kg (ix4 b h l d)
      = ∑ j : Fin 256, Ideal.div (val_main_v50 (F := Ideal) u qg kg (ix4 b h l j))
          (∑ i : Fin 256, val_main_v50 (F := Ideal) u qg kg (ix4 b h l i)) * val_main_v40 (F := Ideal) u (ix4 b h j d) := by
  unfold val_main_v55 val_main_v54 val_main_v53 val_main_v52 val_main_v51
  generalize val_main_v50 (F := Ideal) u qg kg = x
  generalize val_main_v40 (F := Ideal) u = y
  pointwise [val_main_cst_8]

/-- The gate's argument. -/
theorem g_at (b : Fin 32) (l : Fin 256) (C : Fin 2048) :
    val_main_v58 (F := Ideal) u (ix3 b l C) = u (ix2 ⟨b.val * 256 + l.val, by omega⟩ ⟨10240 + C.val, by omega⟩) := by
  pointwise [val_main_v58, val_main_v6, val_main_v1, val_main_v0]

/-- The gate: its argument times the logistic function of it. -/
theorem silu_at (i : S32x256x2048.Idx) :
    val_main_v59 (F := Ideal) u i
      = val_main_v58 (F := Ideal) u i * Ideal.div 1 (1 + Ideal.exp (-(val_main_v58 (F := Ideal) u i))) := by
  unfold val_main_v59 val_main_call0_v5 val_main_call0_v3 val_main_call0_v1 val_main_call0_v0
  generalize val_main_v58 (F := Ideal) u = x
  pointwise [val_main_call0_v4, val_main_call0_v2, val_main_call0_cst, val_main_call0_cst_0]

/-- The heads merged, times the gate. -/
theorem y_at (R : Fin 8192) (C : Fin 2048) :
    val_main_v62 (F := Ideal) u qg kg (ix2 R C)
      = val_main_v55 (F := Ideal) u qg kg
          (ix4 ⟨R.val / 256, by omega⟩ ⟨C.val / 128, by omega⟩ ⟨R.val % 256, by omega⟩ ⟨C.val % 128, by omega⟩)
        * val_main_v59 (F := Ideal) u (ix3 ⟨R.val / 256, by omega⟩ ⟨R.val % 256, by omega⟩ C) := by
  unfold val_main_v62 val_main_v61 val_main_v60 val_main_v57 val_main_v56
  generalize val_main_v55 (F := Ideal) u qg kg = x
  generalize val_main_v59 (F := Ideal) u = y
  pointwise

/-- **The reference's first result**: the gated attention. -/
theorem out_at (R : Fin 8192) (C : Fin 2048) :
    val_main_v62 (F := Ideal) u qg kg (ix2 R C)
      = attnOut (11863283 * 134217728⁻¹) (fun R C => u (ix2 R C)) (fun d => qg (ix2 0 d)) (fun d => kg (ix2 0 d)) R C := by
  rw [y_at, o_at, silu_at, g_at]
  simp only [e_at, m_at, s_at, q_at, k_at, v_at]
  have hR : R.val / 256 * 256 + R.val % 256 = R.val := by omega
  have hC : C.val / 128 * 128 + C.val % 128 = C.val := by omega
  simp only [hR, hC]
  rfl

/-- The reference's second result: the normalised keys. -/
theorem key_at (b : Fin 32) (z : Fin 1) (h : Fin 16) (l : Fin 256) (d : Fin 128) :
    val_main_v63 (F := Ideal) u kg (ix5 b z h l d) = keyOut (fun R C => u (ix2 R C)) (fun d => kg (ix2 0 d)) b h l d := by
  have e : val_main_v63 (F := Ideal) u kg (ix5 b z h l d) = val_main_v38 (F := Ideal) u kg (ix4 b h l d) := by
    unfold val_main_v63
    generalize val_main_v38 (F := Ideal) u kg = x
    pointwise
  rw [e, k_at]
  rfl

/-- The reference's third result: the values. -/
theorem value_at (b : Fin 32) (z : Fin 1) (h : Fin 16) (l : Fin 256) (d : Fin 128) :
    val_main_v64 (F := Ideal) u (ix5 b z h l d) = valueOut (fun R C => u (ix2 R C)) b h l d := by
  have e : val_main_v64 (F := Ideal) u (ix5 b z h l d) = val_main_v40 (F := Ideal) u (ix4 b h l d) := by
    unfold val_main_v64
    generalize val_main_v40 (F := Ideal) u = x
    pointwise
  rw [e, v_at]
  rfl

end Cert.AttnRefIdeal.RefValue
-- ==== Proof.Attn.lean ====
module

public import proofs.«01_k».proof.Defs
public import proofs.«01_k».proof.Proof.AttnKernel
public import proofs.«01_k».proof.Proof.AttnReference
public import proofs.«01_k».proof.Proof.Gen.Pre_gains_finite
public import Idealize.ShloMosaic.Lib.Claim

/-! The context attention: the two programs' results agree, so the claim of equal values. -/

@[expose] public section

set_option maxRecDepth 16384

noncomputable section

namespace Cert.AttnProof

open Idealize.ShloMosaic Idealize.ShloMosaic.TcCoe Idealize.SL.Sem Cert.Core

/-- Below plus infinity in absolute value is a real number. -/
theorem real_of_abs (x : EReal) (h : max x (-x) < ⊤) : ∃ r : ℝ, x = r := by
  induction x using EReal.rec with
  | bot => simp at h
  | coe r => exact ⟨r, rfl⟩
  | top => simp at h

/-- A conjunction of two decided bits is one only where both hold. -/
theorem both_of_andi {p q : Prop} [Decidable p] [Decidable q]
    (h : IntOp.andi (BitVec.ofBool (decide p)) (BitVec.ofBool (decide q)) = 1#1) : p ∧ q := by
  by_cases hp : p <;> by_cases hq : q
  · exact ⟨hp, hq⟩
  all_goals
    exfalso
    simp only [hp, hq, decide_true, decide_false] at h
    revert h
    decide

/-- What the precondition says: every entry of both gains is a real number. -/
theorem gains (u : FVec Ideal Cert.Pre_gains_finite.S8192x14336 .bf16) (qg kg : FVec Ideal Cert.Pre_gains_finite.S1x128 .f32)
    (h : Cert.Pre_gains_finite.fn (F := Ideal) u qg kg = fun _ => 1#1) :
    (∀ d : Fin 128, ∃ r : ℝ, qg (ix2 0 d) = r) ∧ (∀ d : Fin 128, ∃ r : ℝ, kg (ix2 0 d) = r) := by
  have key : ∀ d : Fin 128, _ := fun d => congrFun h (ix2 0 d)
  pointwise [Cert.Pre_gains_finite.fn] at key
  rw [bits_top] at key
  exact ⟨fun d => real_of_abs _ (both_of_andi (key d)).1, fun d => real_of_abs _ (both_of_andi (key d)).2⟩

/-- **The claim of equal values**: the kernel's arrays are the reference's. -/
theorem algebraic : Cert.algebraic_AttnIdeal_AttnRefIdeal_pre_gains_finite := by
  intro m g m' g' hpre hagree
  refine ⟨fun c => (Cert.AttnIdeal.Gen.dats m 0 c).arrAt 6 Cert.AttnIdeal.cfg0.N,
    fun c => (Cert.AttnIdeal.Gen.dats m 0 c).arrAt 7 Cert.AttnIdeal.cfg0.N,
    fun c => (Cert.AttnIdeal.Gen.dats m 0 c).arrAt 8 Cert.AttnIdeal.cfg0.N,
    Cert.AttnIdeal.Value.run_blocks m g, ?_⟩
  refine (θ_run Cert.AttnRefIdeal.defs _ _).mono (fun r h c => ?_) (Cert.AttnRefIdeal.Value.run (F := Ideal) m' g')
  obtain ⟨h0, h1, h2, ha⟩ := h c
  obtain ⟨a0, a1, a2⟩ := hagree c
  obtain ⟨gq, gk⟩ := gains _ _ _ (hpre c)
  refine ⟨h0.trans ?_, h1.trans ?_, h2.trans ?_, ha⟩
  · rw [Cert.AttnRefIdeal.Read.val_main_v62_eq, a0, a1, a2]
    refine Eq.trans ?_ (Cert.AttnIdeal.KernelValue.final6 m c).symm
    funext i
    obtain ⟨R, C, rfl⟩ : ∃ (R : Fin 8192) (C : Fin 2048), i = ix2 R C := ⟨i 0, i 1, eq_ix2 i⟩
    exact (Cert.AttnRefIdeal.RefValue.out_at _ _ _ R C).trans (attnK_eq _ _ _ _ _ _ _ gq gk).symm
  · rw [Cert.AttnRefIdeal.Read.val_main_v63_eq, a0, a2]
    refine Eq.trans ?_ (Cert.AttnIdeal.KernelValue.final7 m c).symm
    funext i
    obtain ⟨b, z, h, l, d, rfl⟩ : ∃ (b : Fin 32) (z : Fin 1) (h : Fin 16) (l : Fin 256) (d : Fin 128), i = ix5 b z h l d :=
      ⟨i 0, i 1, i 2, i 3, i 4, eq_ix5 i⟩
    exact Cert.AttnRefIdeal.RefValue.key_at _ _ b z h l d
  · rw [Cert.AttnRefIdeal.Read.val_main_v64_eq, a0]
    refine Eq.trans ?_ (Cert.AttnIdeal.KernelValue.final8 m c).symm
    funext i
    obtain ⟨b, z, h, l, d, rfl⟩ : ∃ (b : Fin 32) (z : Fin 1) (h : Fin 16) (l : Fin 256) (d : Fin 128), i = ix5 b z h l d :=
      ⟨i 0, i 1, i 2, i 3, i 4, eq_ix5 i⟩
    exact Cert.AttnRefIdeal.RefValue.value_at _ b z h l d

end Cert.AttnProof
-- ==== Proof.InEven.lean ====
module

public import proofs.«01_k».proof.Defs
public import proofs.«01_k».proof.Proof.Gen.InEvenIdeal.Value
public import proofs.«01_k».proof.Proof.Gen.InEvenRefIdeal.Read
public import proofs.«01_k».proof.Proof.Gen.InEvenRefIdeal.Run
public import Idealize.ShloMosaic.Lib.Pipeline.ValueKit
public import Idealize.ShloMosaic.Lib.Claim

/-! The even layer's input projection: every block of the product, and every block of the two weights it copies, is the
reference's at its place in the array. -/

@[expose] public section

set_option maxRecDepth 16384

noncomputable section

namespace Cert.InEvenIdeal.KernelValue

open Idealize.ShloMosaic Idealize.ShloMosaic.TcCoe Idealize.SL.Sem
open Cert.InEvenIdeal Cert.InEvenIdeal.Gen

/-- The product block of a row block and a column block, at an index. -/
theorem out4_at (x0 : Vec Ideal S1024x4096 .bf16) (x1 : Vec Ideal S4096x1024 .bf16) (x2 : Vec Ideal S64x4096 .f32)
    (x3 : Vec Ideal S64x14336 .f32) (r e : Fin 1024) :
    out0_4 (F := Ideal) x0 x1 x2 x3 (ix2 r e) = ∑ k : Fin 4096, x0 (ix2 r k) * x1 (ix2 k e) := by
  frame_out
  pointwise [k0_pay1]

/-- The first copied block at an index. -/
theorem out5_at (x0 : Vec Ideal S1024x4096 .bf16) (x1 : Vec Ideal S4096x1024 .bf16) (x2 : Vec Ideal S64x4096 .f32)
    (x3 : Vec Ideal S64x14336 .f32) (r : Fin 64) (e : Fin 4096) :
    out0_5 (F := Ideal) x0 x1 x2 x3 (ix2 r e) = x2 (ix2 r e) := by
  frame_out
  pointwise [k0_pay2]

/-- The second copied block at an index. -/
theorem out6_at (x0 : Vec Ideal S1024x4096 .bf16) (x1 : Vec Ideal S4096x1024 .bf16) (x2 : Vec Ideal S64x4096 .f32)
    (x3 : Vec Ideal S64x14336 .f32) (r : Fin 64) (e : Fin 14336) :
    out0_6 (F := Ideal) x0 x1 x2 x3 (ix2 r e) = x3 (ix2 r e) := by
  frame_out
  pointwise [k0_pay3]

variable (m : (ℓ : Loc nD τ sig) → Buf (Elt Ideal) ℓ)

/-- The block indices of the windows at a grid point. -/
theorem idx : ∀ t : Fin cfg0.N, win0_0.index t = ![t.val / 8, 0] ∧ win0_1.index t = ![0, t.val % 8]
    ∧ win0_2.index t = ![min t.val 63, 0] ∧ win0_3.index t = ![min t.val 63, 0] ∧ win0_4.index t = ![t.val / 8, t.val % 8]
    ∧ win0_5.index t = ![min t.val 63, 0] ∧ win0_6.index t = ![min t.val 63, 0] :=
  (by decide +kernel : ∀ t : Fin grid0.N, _)

/-- The tokens as launched, by row and column. -/
def H (c : Dev nD) : Fin 8192 → Fin 4096 → EReal :=
  fun R C => (show FVec Ideal S8192x4096 .bf16 from m ((c : Thread nD τ).loc main_arg0)) (ix2 R C)

/-- The projection's weight as launched. -/
def W (c : Dev nD) : Fin 4096 → Fin 8192 → EReal :=
  fun R C => (show FVec Ideal S1x4096x8192 .f32 from m ((c : Thread nD τ).loc main_arg1)) (ix3 0 R C)

/-- The first weight to copy. -/
def A (c : Dev nD) : Fin 4096 → Fin 4096 → EReal :=
  fun R C => (show FVec Ideal S1x4096x4096 .f32 from m ((c : Thread nD τ).loc main_arg2)) (ix3 0 R C)

/-- The second weight to copy. -/
def B (c : Dev nD) : Fin 4096 → Fin 14336 → EReal :=
  fun R C => (show FVec Ideal S1x4096x14336 .f32 from m ((c : Thread nD τ).loc main_arg3)) (ix3 0 R C)

/-- A row block, read in the tokens. -/
theorem blk0 (c : Dev nD) (t : Fin cfg0.N) (r : Fin 1024) (k : Fin 4096) (R : Fin 8192) (hR : R.val = t.val / 8 * 1024 + r.val) :
    (show Vec Ideal S1024x4096 .bf16 from iblk m c 0 t) (ix2 r k) = H m c R k := by
  unfold H
  blk_ext [iblk, V_main_arg0, idx t]

/-- A column block, read in the weight. -/
theorem blk1 (c : Dev nD) (t : Fin cfg0.N) (k : Fin 4096) (e : Fin 1024) (C : Fin 8192) (hC : C.val = t.val % 8 * 1024 + e.val) :
    (show Vec Ideal S4096x1024 .bf16 from iblk m c 1 t) (ix2 k e) = W m c k C := by
  have h : ∀ (R : Fin 4096) (C : Fin 8192), (show FVec Ideal S4096x8192 .bf16 from V m c main_v1) (ix2 R C) = W m c R C := by
    intro R C
    unfold W
    entry_read
    pointwise
  rw [← h]
  blk_ext [iblk, idx t]

/-- A block of the first weight to copy. -/
theorem blk2 (c : Dev nD) (t : Fin cfg0.N) (r : Fin 64) (e : Fin 4096) (R : Fin 4096) (hR : R.val = min t.val 63 * 64 + r.val) :
    (show Vec Ideal S64x4096 .f32 from iblk m c 2 t) (ix2 r e) = A m c R e := by
  have h : ∀ (R C : Fin 4096), (show FVec Ideal S4096x4096 .f32 from V m c main_v2) (ix2 R C) = A m c R C := by
    intro R C
    unfold A
    entry_read
    pointwise
  rw [← h]
  blk_ext [iblk, idx t]

/-- A block of the second weight to copy. -/
theorem blk3 (c : Dev nD) (t : Fin cfg0.N) (r : Fin 64) (e : Fin 14336) (R : Fin 4096) (hR : R.val = min t.val 63 * 64 + r.val) :
    (show Vec Ideal S64x14336 .f32 from iblk m c 3 t) (ix2 r e) = B m c R e := by
  have h : ∀ (R : Fin 4096) (C : Fin 14336), (show FVec Ideal S4096x14336 .f32 from V m c main_v3) (ix2 R C) = B m c R C := by
    intro R C
    unfold B
    entry_read
    pointwise
  rw [← h]
  blk_ext [iblk, idx t]

/-- **The kernel's product.** -/
theorem final4 (c : Dev nD) : (dats m 0 c).arrAt 4 (cfgs 0).N
    = fun i : S8192x8192.Idx => ∑ k : Fin 4096, H m c (i 0) k * W m c k (i 1) := by
  refine (dats m 0 c).arrAt_eq_of_covers 4 _ (by decide +kernel) fun t _ y => ?_
  blk_simp
  rw [after0_4]
  idx_vars y
  refine (out4_at _ _ _ _ _ _).trans (Finset.sum_congr rfl fun k _ => congrArg₂ (· * ·) (blk0 m c t _ k _ ?_) (blk1 m c t k _ _ ?_))
    <;> blk_simp [idx t] <;> try omega

/-- **The kernel's first copy.** -/
theorem final5 (c : Dev nD) : (dats m 0 c).arrAt 5 (cfgs 0).N = fun i : S4096x4096.Idx => A m c (i 0) (i 1) := by
  refine (dats m 0 c).arrAt_eq_of_covers 5 _ (by decide +kernel) fun t _ y => ?_
  blk_simp
  rw [after0_5]
  idx_vars y
  refine (out5_at _ _ _ _ _ _).trans ((blk2 m c t _ _ _ ?_).trans (congrArg (A m c _) (Fin.ext ?_)))
    <;> blk_simp [idx t] <;> try omega

/-- **The kernel's second copy.** -/
theorem final6 (c : Dev nD) : (dats m 0 c).arrAt 6 (cfgs 0).N = fun i : S4096x14336.Idx => B m c (i 0) (i 1) := by
  refine (dats m 0 c).arrAt_eq_of_covers 6 _ (by decide +kernel) fun t _ y => ?_
  blk_simp
  rw [after0_6]
  idx_vars y
  refine (out6_at _ _ _ _ _ _).trans ((blk3 m c t _ _ _ ?_).trans (congrArg (B m c _) (Fin.ext ?_)))
    <;> blk_simp [idx t] <;> try omega

end Cert.InEvenIdeal.KernelValue

namespace Cert.InEvenProof

open Idealize.ShloMosaic Idealize.ShloMosaic.TcCoe Idealize.SL.Sem
open Cert.InEvenRefIdeal Cert.InEvenRefIdeal.Read

/-- The reference's product at an index. -/
theorem product_at (x0 : FVec Ideal S8192x4096 .bf16) (x1 : FVec Ideal S1x4096x8192 .f32) (R : Fin 8192) (C : Fin 8192) :
    val_main_v3 (F := Ideal) x0 x1 (ix2 R C) = ∑ k : Fin 4096, x0 (ix2 R k) * x1 (ix3 0 k C) := by
  pointwise [val_main_v3, val_main_v2, val_main_v1, val_main_v0]

/-- The reference's first copy at an index. -/
theorem copyA_at (x2 : FVec Ideal S1x4096x4096 .f32) (R C : Fin 4096) :
    val_main_v5 (F := Ideal) x2 (ix2 R C) = x2 (ix3 0 R C) := by
  pointwise [val_main_v5, val_main_v4]

/-- The reference's second copy at an index. -/
theorem copyB_at (x3 : FVec Ideal S1x4096x14336 .f32) (R : Fin 4096) (C : Fin 14336) :
    val_main_v7 (F := Ideal) x3 (ix2 R C) = x3 (ix3 0 R C) := by
  pointwise [val_main_v7, val_main_v6]

/-- **The claim of equal values**: the projection and both copies are the reference's. -/
theorem algebraic : Cert.algebraic_InEvenIdeal_InEvenRefIdeal := by
  intro m g m' g' _ hagree
  refine ⟨fun c => (Cert.InEvenIdeal.Gen.dats m 0 c).arrAt 4 Cert.InEvenIdeal.cfg0.N,
    fun c => (Cert.InEvenIdeal.Gen.dats m 0 c).arrAt 5 Cert.InEvenIdeal.cfg0.N,
    fun c => (Cert.InEvenIdeal.Gen.dats m 0 c).arrAt 6 Cert.InEvenIdeal.cfg0.N,
    Cert.InEvenIdeal.Value.run_blocks m g, ?_⟩
  refine (θ_run Cert.InEvenRefIdeal.defs _ _).mono (fun r h c => ?_) (Cert.InEvenRefIdeal.Value.run (F := Ideal) m' g')
  obtain ⟨h0, h1, h2, ha⟩ := h c
  obtain ⟨a0, a1, a2, a3⟩ := hagree c
  refine ⟨h0.trans ?_, h1.trans ?_, h2.trans ?_, ha⟩
  · rw [Cert.InEvenRefIdeal.Read.val_main_v3_eq, a0, a1]
    refine Eq.trans ?_ (Cert.InEvenIdeal.KernelValue.final4 m c).symm
    funext i
    obtain ⟨R, C, rfl⟩ : ∃ (R : Fin 8192) (C : Fin 8192), i = ix2 R C := ⟨i 0, i 1, eq_ix2 i⟩
    exact product_at _ _ R C
  · rw [Cert.InEvenRefIdeal.Read.val_main_v5_eq, a2]
    refine Eq.trans ?_ (Cert.InEvenIdeal.KernelValue.final5 m c).symm
    funext i
    obtain ⟨R, C, rfl⟩ : ∃ (R C : Fin 4096), i = ix2 R C := ⟨i 0, i 1, eq_ix2 i⟩
    exact copyA_at _ R C
  · rw [Cert.InEvenRefIdeal.Read.val_main_v7_eq, a3]
    refine Eq.trans ?_ (Cert.InEvenIdeal.KernelValue.final6 m c).symm
    funext i
    obtain ⟨R, C, rfl⟩ : ∃ (R : Fin 4096) (C : Fin 14336), i = ix2 R C := ⟨i 0, i 1, eq_ix2 i⟩
    exact copyB_at _ R C

end Cert.InEvenProof
-- ==== Proof.InOdd.lean ====
module

public import proofs.«01_k».proof.Defs
public import proofs.«01_k».proof.Proof.Gen.InOddIdeal.Value
public import proofs.«01_k».proof.Proof.Gen.InOddRefIdeal.Read
public import proofs.«01_k».proof.Proof.Gen.InOddRefIdeal.Run
public import Idealize.ShloMosaic.Lib.Pipeline.ValueKit
public import Idealize.ShloMosaic.Lib.Claim

/-! The odd layer's input projection: every block of the product, and every block of the two weights it copies, is the
reference's at its place in the array. -/

@[expose] public section

set_option maxRecDepth 16384

noncomputable section

namespace Cert.InOddIdeal.KernelValue

open Idealize.ShloMosaic Idealize.ShloMosaic.TcCoe Idealize.SL.Sem
open Cert.InOddIdeal Cert.InOddIdeal.Gen

/-- The product block of a row block and a column block, at an index. -/
theorem out4_at (x0 : Vec Ideal S1024x4096 .bf16) (x1 : Vec Ideal S4096x1024 .bf16) (x2 : Vec Ideal S64x4096 .f32)
    (x3 : Vec Ideal S32x2048 .f32) (r e : Fin 1024) :
    out0_4 (F := Ideal) x0 x1 x2 x3 (ix2 r e) = ∑ k : Fin 4096, x0 (ix2 r k) * x1 (ix2 k e) := by
  frame_out
  pointwise [k0_pay1]

/-- The first copied block at an index. -/
theorem out5_at (x0 : Vec Ideal S1024x4096 .bf16) (x1 : Vec Ideal S4096x1024 .bf16) (x2 : Vec Ideal S64x4096 .f32)
    (x3 : Vec Ideal S32x2048 .f32) (r : Fin 64) (e : Fin 4096) :
    out0_5 (F := Ideal) x0 x1 x2 x3 (ix2 r e) = x2 (ix2 r e) := by
  frame_out
  pointwise [k0_pay2]

/-- The second copied block at an index. -/
theorem out6_at (x0 : Vec Ideal S1024x4096 .bf16) (x1 : Vec Ideal S4096x1024 .bf16) (x2 : Vec Ideal S64x4096 .f32)
    (x3 : Vec Ideal S32x2048 .f32) (r : Fin 32) (e : Fin 2048) :
    out0_6 (F := Ideal) x0 x1 x2 x3 (ix2 r e) = x3 (ix2 r e) := by
  frame_out
  pointwise [k0_pay3]

variable (m : (ℓ : Loc nD τ sig) → Buf (Elt Ideal) ℓ)

/-- The block indices of the windows at a grid point. -/
theorem idx : ∀ t : Fin cfg0.N, win0_0.index t = ![t.val / 14, 0] ∧ win0_1.index t = ![0, t.val % 14]
    ∧ win0_2.index t = ![min t.val 63, 0] ∧ win0_3.index t = ![min t.val 63, 0] ∧ win0_4.index t = ![t.val / 14, t.val % 14]
    ∧ win0_5.index t = ![min t.val 63, 0] ∧ win0_6.index t = ![min t.val 63, 0] :=
  (by decide +kernel : ∀ t : Fin grid0.N, _)

/-- The tokens as launched, by row and column. -/
def H (c : Dev nD) : Fin 8192 → Fin 4096 → EReal :=
  fun R C => (show FVec Ideal S8192x4096 .bf16 from m ((c : Thread nD τ).loc main_arg0)) (ix2 R C)

/-- The projection's weight as launched. -/
def W (c : Dev nD) : Fin 4096 → Fin 14336 → EReal :=
  fun R C => (show FVec Ideal S4096x14336 .bf16 from m ((c : Thread nD τ).loc main_arg1)) (ix2 R C)

/-- The first weight to copy. -/
def A (c : Dev nD) : Fin 4096 → Fin 4096 → EReal :=
  fun R C => (show FVec Ideal S1x4096x4096 .f32 from m ((c : Thread nD τ).loc main_arg2)) (ix3 0 R C)

/-- The second weight to copy. -/
def B (c : Dev nD) : Fin 2048 → Fin 2048 → EReal :=
  fun R C => (show FVec Ideal S1x2048x2048 .f32 from m ((c : Thread nD τ).loc main_arg3)) (ix3 0 R C)

/-- A row block, read in the tokens. -/
theorem blk0 (c : Dev nD) (t : Fin cfg0.N) (r : Fin 1024) (k : Fin 4096) (R : Fin 8192) (hR : R.val = t.val / 14 * 1024 + r.val) :
    (show Vec Ideal S1024x4096 .bf16 from iblk m c 0 t) (ix2 r k) = H m c R k := by
  unfold H
  blk_ext [iblk, V_main_arg0, idx t]

/-- A column block, read in the weight. -/
theorem blk1 (c : Dev nD) (t : Fin cfg0.N) (k : Fin 4096) (e : Fin 1024) (C : Fin 14336) (hC : C.val = t.val % 14 * 1024 + e.val) :
    (show Vec Ideal S4096x1024 .bf16 from iblk m c 1 t) (ix2 k e) = W m c k C := by
  unfold W
  blk_ext [iblk, V_main_arg1, idx t]

/-- A block of the first weight to copy. -/
theorem blk2 (c : Dev nD) (t : Fin cfg0.N) (r : Fin 64) (e : Fin 4096) (R : Fin 4096) (hR : R.val = min t.val 63 * 64 + r.val) :
    (show Vec Ideal S64x4096 .f32 from iblk m c 2 t) (ix2 r e) = A m c R e := by
  have h : ∀ (R C : Fin 4096), (show FVec Ideal S4096x4096 .f32 from V m c main_v0) (ix2 R C) = A m c R C := by
    intro R C
    unfold A
    entry_read
    pointwise
  rw [← h]
  blk_ext [iblk, idx t]

/-- A block of the second weight to copy. -/
theorem blk3 (c : Dev nD) (t : Fin cfg0.N) (r : Fin 32) (e : Fin 2048) (R : Fin 2048) (hR : R.val = min t.val 63 * 32 + r.val) :
    (show Vec Ideal S32x2048 .f32 from iblk m c 3 t) (ix2 r e) = B m c R e := by
  have h : ∀ (R C : Fin 2048), (show FVec Ideal S2048x2048 .f32 from V m c main_v1) (ix2 R C) = B m c R C := by
    intro R C
    unfold B
    entry_read
    pointwise
  rw [← h]
  blk_ext [iblk, idx t]

/-- **The kernel's product.** -/
theorem final4 (c : Dev nD) : (dats m 0 c).arrAt 4 (cfgs 0).N
    = fun i : S8192x14336.Idx => ∑ k : Fin 4096, H m c (i 0) k * W m c k (i 1) := by
  refine (dats m 0 c).arrAt_eq_of_covers 4 _ (by decide +kernel) fun t _ y => ?_
  blk_simp
  rw [after0_4]
  idx_vars y
  refine (out4_at _ _ _ _ _ _).trans (Finset.sum_congr rfl fun k _ => congrArg₂ (· * ·) (blk0 m c t _ k _ ?_) (blk1 m c t k _ _ ?_))
    <;> blk_simp [idx t] <;> try omega

/-- **The kernel's first copy.** -/
theorem final5 (c : Dev nD) : (dats m 0 c).arrAt 5 (cfgs 0).N = fun i : S4096x4096.Idx => A m c (i 0) (i 1) := by
  refine (dats m 0 c).arrAt_eq_of_covers 5 _ (by decide +kernel) fun t _ y => ?_
  blk_simp
  rw [after0_5]
  idx_vars y
  refine (out5_at _ _ _ _ _ _).trans ((blk2 m c t _ _ _ ?_).trans (congrArg (A m c _) (Fin.ext ?_)))
    <;> blk_simp [idx t] <;> try omega

/-- **The kernel's second copy.** -/
theorem final6 (c : Dev nD) : (dats m 0 c).arrAt 6 (cfgs 0).N = fun i : S2048x2048.Idx => B m c (i 0) (i 1) := by
  refine (dats m 0 c).arrAt_eq_of_covers 6 _ (by decide +kernel) fun t _ y => ?_
  blk_simp
  rw [after0_6]
  idx_vars y
  refine (out6_at _ _ _ _ _ _).trans ((blk3 m c t _ _ _ ?_).trans (congrArg (B m c _) (Fin.ext ?_)))
    <;> blk_simp [idx t] <;> try omega

end Cert.InOddIdeal.KernelValue

namespace Cert.InOddProof

open Idealize.ShloMosaic Idealize.ShloMosaic.TcCoe Idealize.SL.Sem
open Cert.InOddRefIdeal Cert.InOddRefIdeal.Read

/-- The reference's product at an index. -/
theorem product_at (x0 : FVec Ideal S8192x4096 .bf16) (x1 : FVec Ideal S4096x14336 .bf16) (R : Fin 8192) (C : Fin 14336) :
    val_main_v3 (F := Ideal) x0 x1 (ix2 R C) = ∑ k : Fin 4096, x0 (ix2 R k) * x1 (ix2 k C) := by
  pointwise [val_main_v3, val_main_v2, val_main_v1, val_main_v0]

/-- The reference's first copy at an index. -/
theorem copyA_at (x2 : FVec Ideal S1x4096x4096 .f32) (R C : Fin 4096) :
    val_main_v5 (F := Ideal) x2 (ix2 R C) = x2 (ix3 0 R C) := by
  pointwise [val_main_v5, val_main_v4]

/-- The reference's second copy at an index. -/
theorem copyB_at (x3 : FVec Ideal S1x2048x2048 .f32) (R C : Fin 2048) :
    val_main_v7 (F := Ideal) x3 (ix2 R C) = x3 (ix3 0 R C) := by
  pointwise [val_main_v7, val_main_v6]

/-- **The claim of equal values**: the projection and both copies are the reference's. -/
theorem algebraic : Cert.algebraic_InOddIdeal_InOddRefIdeal := by
  intro m g m' g' _ hagree
  refine ⟨fun c => (Cert.InOddIdeal.Gen.dats m 0 c).arrAt 4 Cert.InOddIdeal.cfg0.N,
    fun c => (Cert.InOddIdeal.Gen.dats m 0 c).arrAt 5 Cert.InOddIdeal.cfg0.N,
    fun c => (Cert.InOddIdeal.Gen.dats m 0 c).arrAt 6 Cert.InOddIdeal.cfg0.N,
    Cert.InOddIdeal.Value.run_blocks m g, ?_⟩
  refine (θ_run Cert.InOddRefIdeal.defs _ _).mono (fun r h c => ?_) (Cert.InOddRefIdeal.Value.run (F := Ideal) m' g')
  obtain ⟨h0, h1, h2, ha⟩ := h c
  obtain ⟨a0, a1, a2, a3⟩ := hagree c
  refine ⟨h0.trans ?_, h1.trans ?_, h2.trans ?_, ha⟩
  · rw [Cert.InOddRefIdeal.Read.val_main_v3_eq, a0, a1]
    refine Eq.trans ?_ (Cert.InOddIdeal.KernelValue.final4 m c).symm
    funext i
    obtain ⟨R, C, rfl⟩ : ∃ (R : Fin 8192) (C : Fin 14336), i = ix2 R C := ⟨i 0, i 1, eq_ix2 i⟩
    exact product_at _ _ R C
  · rw [Cert.InOddRefIdeal.Read.val_main_v5_eq, a2]
    refine Eq.trans ?_ (Cert.InOddIdeal.KernelValue.final5 m c).symm
    funext i
    obtain ⟨R, C, rfl⟩ : ∃ (R C : Fin 4096), i = ix2 R C := ⟨i 0, i 1, eq_ix2 i⟩
    exact copyA_at _ R C
  · rw [Cert.InOddRefIdeal.Read.val_main_v7_eq, a3]
    refine Eq.trans ?_ (Cert.InOddIdeal.KernelValue.final6 m c).symm
    funext i
    obtain ⟨R, C, rfl⟩ : ∃ (R C : Fin 2048), i = ix2 R C := ⟨i 0, i 1, eq_ix2 i⟩
    exact copyB_at _ R C

end Cert.InOddProof
-- ==== Proof.OutPrompt.lean ====
module

public import proofs.«01_k».proof.Defs
public import proofs.«01_k».proof.Proof.Gen.OutPromptIdeal.Value
public import proofs.«01_k».proof.Proof.Gen.OutPromptRefIdeal.Read
public import proofs.«01_k».proof.Proof.Gen.OutPromptRefIdeal.Run
public import Idealize.ShloMosaic.Lib.Pipeline.ValueKit
public import Idealize.ShloMosaic.Lib.Claim

/-! A layer's output projection with gate and residual, of the prompt: every block the kernel stores is the reference's at
its place in the array. The kernel adds two products over half the channels each, the reference multiplies the two halves
set side by side. -/

@[expose] public section

set_option maxRecDepth 16384

noncomputable section

namespace Cert.OutPromptIdeal.KernelValue

open Idealize.ShloMosaic Idealize.ShloMosaic.TcCoe Idealize.SL.Sem
open Cert.OutPromptIdeal Cert.OutPromptIdeal.Gen

/-- The block a point stores, at an index. -/
theorem out6_at (x0 x1 : Vec Ideal S1024x2048 .bf16) (x2 x3 : Vec Ideal S2048x1024 .bf16) (x4 : Vec Ideal S1024x1024 .f32)
    (x5 : Vec Ideal S1x1x1024 .f32) (r e : Fin 1024) :
    out0_6 (F := Ideal) x0 x1 x2 x3 x4 x5 (ix2 r e) = x4 (ix2 r e) + x5 (ix3 0 0 e) *
      ((∑ k : Fin 2048, x0 (ix2 r k) * x2 (ix2 k e)) + ∑ k : Fin 2048, x1 (ix2 r k) * x3 (ix2 k e)) := by
  frame_out
  pointwise [k0_pay1]

variable (m : (ℓ : Loc nD τ sig) → Buf (Elt Ideal) ℓ)

/-- The block indices of the windows at a grid point. -/
theorem idx : ∀ t : Fin cfg0.N, win0_0.index t = ![t.val / 4, 0] ∧ win0_1.index t = ![t.val / 4, 0]
    ∧ win0_2.index t = ![0, t.val % 4] ∧ win0_3.index t = ![1, t.val % 4] ∧ win0_4.index t = ![t.val / 4, t.val % 4]
    ∧ win0_5.index t = ![0, 0, 8 + t.val % 4] ∧ win0_6.index t = ![t.val / 4, t.val % 4] :=
  (by decide +kernel : ∀ t : Fin grid0.N, _)

/-- The first mixer's channels as launched, by row and column. -/
def Y1 (c : Dev nD) : Fin 8192 → Fin 2048 → EReal :=
  fun R C => (show FVec Ideal S8192x2048 .bf16 from m ((c : Thread nD τ).loc main_arg0)) (ix2 R C)

/-- The second mixer's channels. -/
def Y2 (c : Dev nD) : Fin 8192 → Fin 2048 → EReal :=
  fun R C => (show FVec Ideal S8192x2048 .bf16 from m ((c : Thread nD τ).loc main_arg1)) (ix2 R C)

/-- The projection's weight. -/
def W (c : Dev nD) : Fin 4096 → Fin 4096 → EReal :=
  fun R C => (show FVec Ideal S4096x4096 .bf16 from m ((c : Thread nD τ).loc main_arg2)) (ix2 R C)

/-- The residual stream, its sequences one below the other. -/
def X (c : Dev nD) : Fin 8192 → Fin 4096 → EReal :=
  fun R C => (show FVec Ideal S32x256x4096 .f32 from m ((c : Thread nD τ).loc main_arg3))
    (ix3 ⟨R.val / 256, by omega⟩ ⟨R.val % 256, by omega⟩ C)

/-- The modulation table. -/
def M (c : Dev nD) : Fin 8 → Fin 12288 → EReal :=
  fun R C => (show FVec Ideal S8x12288 .f32 from m ((c : Thread nD τ).loc main_arg4)) (ix2 R C)

/-- A row block of the first mixer's channels. -/
theorem blk0 (c : Dev nD) (t : Fin cfg0.N) (r : Fin 1024) (k : Fin 2048) (R : Fin 8192) (hR : R.val = t.val / 4 * 1024 + r.val) :
    (show Vec Ideal S1024x2048 .bf16 from iblk m c 0 t) (ix2 r k) = Y1 m c R k := by
  unfold Y1
  blk_ext [iblk, V_main_arg0, idx t]

/-- A row block of the second mixer's channels. -/
theorem blk1 (c : Dev nD) (t : Fin cfg0.N) (r : Fin 1024) (k : Fin 2048) (R : Fin 8192) (hR : R.val = t.val / 4 * 1024 + r.val) :
    (show Vec Ideal S1024x2048 .bf16 from iblk m c 1 t) (ix2 r k) = Y2 m c R k := by
  unfold Y2
  blk_ext [iblk, V_main_arg1, idx t]

/-- A column block of the weight's upper half. -/
theorem blk2 (c : Dev nD) (t : Fin cfg0.N) (k : Fin 2048) (e : Fin 1024) (C : Fin 4096) (hC : C.val = t.val % 4 * 1024 + e.val) :
    (show Vec Ideal S2048x1024 .bf16 from iblk m c 2 t) (ix2 k e) = W m c ⟨k.val, by omega⟩ C := by
  unfold W
  blk_ext [iblk, V_main_arg2, idx t]

/-- A column block of the weight's lower half. -/
theorem blk3 (c : Dev nD) (t : Fin cfg0.N) (k : Fin 2048) (e : Fin 1024) (C : Fin 4096) (hC : C.val = t.val % 4 * 1024 + e.val) :
    (show Vec Ideal S2048x1024 .bf16 from iblk m c 3 t) (ix2 k e) = W m c ⟨2048 + k.val, by omega⟩ C := by
  unfold W
  blk_ext [iblk, V_main_arg2, idx t]

/-- A block of the residual stream. -/
theorem blk4 (c : Dev nD) (t : Fin cfg0.N) (r e : Fin 1024) (R : Fin 8192) (C : Fin 4096)
    (hR : R.val = t.val / 4 * 1024 + r.val) (hC : C.val = t.val % 4 * 1024 + e.val) :
    (show Vec Ideal S1024x1024 .f32 from iblk m c 4 t) (ix2 r e) = X m c R C := by
  have h : ∀ (R : Fin 8192) (C : Fin 4096), (show FVec Ideal S8192x4096 .f32 from V m c main_v0) (ix2 R C) = X m c R C := by
    intro R C
    unfold X
    entry_read
    pointwise
  rw [← h]
  blk_ext [iblk, idx t]

/-- A block of the gate. -/
theorem blk5 (c : Dev nD) (t : Fin cfg0.N) (e : Fin 1024) (R : Fin 8) (C : Fin 12288)
    (hR : R.val = 0) (hC : C.val = (8 + t.val % 4) * 1024 + e.val) :
    (show Vec Ideal S1x1x1024 .f32 from iblk m c 5 t) (ix3 0 0 e) = M m c R C := by
  have h : ∀ (R : Fin 8) (C : Fin 12288), (show FVec Ideal S8x1x12288 .f32 from V m c main_v1) (ix3 R 0 C) = M m c R C := by
    intro R C
    unfold M
    entry_read
    pointwise
  rw [← h]
  blk_ext [iblk, idx t]

/-- One element of the projection with gate and residual. -/
def result (y1 y2 : Fin 8192 → Fin 2048 → EReal) (w : Fin 4096 → Fin 4096 → EReal) (x : Fin 8192 → Fin 4096 → EReal)
    (mod : Fin 8 → Fin 12288 → EReal) (R : Fin 8192) (C : Fin 4096) : EReal :=
  x R C + mod 0 ⟨8192 + C.val, by omega⟩ *
    ((∑ k : Fin 2048, y1 R k * w ⟨k.val, by omega⟩ C) + ∑ k : Fin 2048, y2 R k * w ⟨2048 + k.val, by omega⟩ C)

/-- **The kernel's result.** -/
theorem final6 (c : Dev nD) : (dats m 0 c).arrAt 6 (cfgs 0).N
    = fun i : S8192x4096.Idx => result (Y1 m c) (Y2 m c) (W m c) (X m c) (M m c) (i 0) (i 1) := by
  refine (dats m 0 c).arrAt_eq_of_covers 6 _ (by decide +kernel) fun t _ y => ?_
  blk_simp
  rw [after0_6]
  idx_vars y
  unfold result
  refine (out6_at _ _ _ _ _ _ _ _).trans (congrArg₂ (· + ·) (blk4 m c t _ _ _ _ ?_ ?_) (congrArg₂ (· * ·) (blk5 m c t _ _ _ ?_ ?_)
    (congrArg₂ (· + ·) (Finset.sum_congr rfl fun k _ => congrArg₂ (· * ·) (blk0 m c t _ k _ ?_) (blk2 m c t k _ _ ?_))
      (Finset.sum_congr rfl fun k _ => congrArg₂ (· * ·) (blk1 m c t _ k _ ?_) (blk3 m c t k _ _ ?_)))))
    <;> (try blk_simp [idx t]) <;> (try dsimp only) <;> first | rfl | omega

end Cert.OutPromptIdeal.KernelValue

namespace Cert.OutPromptProof

open Idealize.ShloMosaic Idealize.ShloMosaic.TcCoe Idealize.SL.Sem
open Cert.OutPromptRefIdeal Cert.OutPromptRefIdeal.Read

/-- The reference's gate at an index. -/
theorem gate_at (x4 : FVec Ideal S8x12288 .f32) (b : Fin 32) (l : Fin 256) (C : Fin 4096) :
    val_main_v11 (F := Ideal) x4 (ix3 b l C) = x4 (ix2 0 ⟨8192 + C.val, by omega⟩) := by
  pointwise [val_main_v11, val_main_v4, val_main_v1, val_main_v0]

/-- The reference's projection at an index. -/
theorem product_at (x0 x1 : FVec Ideal S8192x2048 .bf16) (x2 : FVec Ideal S4096x4096 .bf16) (b : Fin 32) (l : Fin 256) (C : Fin 4096) :
    val_main_v10 (F := Ideal) x0 x1 x2 (ix3 b l C)
      = (∑ k : Fin 2048, x0 (ix2 ⟨b.val * 256 + l.val, by omega⟩ k) * x2 (ix2 ⟨k.val, by omega⟩ C))
        + ∑ k : Fin 2048, x1 (ix2 ⟨b.val * 256 + l.val, by omega⟩ k) * x2 (ix2 ⟨2048 + k.val, by omega⟩ C) := by
  pointwise [val_main_v10, val_main_v9, val_main_v8, val_main_v7, val_main_v6, val_main_v5]

/-- The reference's result at an index. -/
theorem result_at (x0 x1 : FVec Ideal S8192x2048 .bf16) (x2 : FVec Ideal S4096x4096 .bf16) (x3 : FVec Ideal S32x256x4096 .f32)
    (x4 : FVec Ideal S8x12288 .f32) (R : Fin 8192) (C : Fin 4096) :
    val_main_v14 (F := Ideal) x0 x1 x2 x3 x4 (ix2 R C)
      = x3 (ix3 ⟨R.val / 256, by omega⟩ ⟨R.val % 256, by omega⟩ C) + x4 (ix2 0 ⟨8192 + C.val, by omega⟩) *
        ((∑ k : Fin 2048, x0 (ix2 R k) * x2 (ix2 ⟨k.val, by omega⟩ C)) + ∑ k : Fin 2048, x1 (ix2 R k) * x2 (ix2 ⟨2048 + k.val, by omega⟩ C)) := by
  obtain ⟨b, l, rfl⟩ : ∃ (b : Fin 32) (l : Fin 256), R = ⟨b.val * 256 + l.val, by omega⟩ :=
    ⟨⟨R.val / 256, by omega⟩, ⟨R.val % 256, by omega⟩, Fin.ext (by show R.val = R.val / 256 * 256 + R.val % 256; omega)⟩
  have e1 : (b.val * 256 + l.val) / 256 = b.val := by omega
  have e2 : (b.val * 256 + l.val) % 256 = l.val := by omega
  have hg := gate_at x4 b l C
  have hp := product_at x0 x1 x2 b l C
  unfold val_main_v14 val_main_v13 val_main_v12
  generalize val_main_v11 (F := Ideal) x4 = g at hg ⊢
  generalize val_main_v10 (F := Ideal) x0 x1 x2 = p at hp ⊢
  refine Eq.trans (b := x3 (ix3 b l C) + g (ix3 b l C) * p (ix3 b l C)) ?_ ?_
  · pointwise
  · rw [hg, hp]
    simp only [e1, e2]

/-- **The claim of equal values**: the projection with gate and residual is the reference's. -/
theorem algebraic : Cert.algebraic_OutPromptIdeal_OutPromptRefIdeal := by
  intro m g m' g' _ hagree
  refine ⟨fun c => (Cert.OutPromptIdeal.Gen.dats m 0 c).arrAt 6 Cert.OutPromptIdeal.cfg0.N, Cert.OutPromptIdeal.Value.run_blocks m g, ?_⟩
  refine (θ_run Cert.OutPromptRefIdeal.defs _ _).mono (fun r h c => ?_) (Cert.OutPromptRefIdeal.Value.run (F := Ideal) m' g')
  obtain ⟨h0, ha⟩ := h c
  obtain ⟨a0, a1, a2, a3, a4⟩ := hagree c
  refine ⟨h0.trans ?_, ha⟩
  rw [Cert.OutPromptRefIdeal.Read.val_main_v14_eq, a0, a1, a2, a3, a4]
  refine Eq.trans ?_ (Cert.OutPromptIdeal.KernelValue.final6 m c).symm
  funext i
  obtain ⟨R, C, rfl⟩ : ∃ (R : Fin 8192) (C : Fin 4096), i = ix2 R C := ⟨i 0, i 1, eq_ix2 i⟩
  exact result_at _ _ _ _ _ R C

end Cert.OutPromptProof
-- ==== Proof.OutSample.lean ====
module

public import proofs.«01_k».proof.Defs
public import proofs.«01_k».proof.Proof.Gen.OutSampleIdeal.Value
public import proofs.«01_k».proof.Proof.Gen.OutSampleRefIdeal.Read
public import proofs.«01_k».proof.Proof.Gen.OutSampleRefIdeal.Run
public import Idealize.ShloMosaic.Lib.Pipeline.ValueKit
public import Idealize.ShloMosaic.Lib.Claim

/-! A layer's output projection with gate and residual, of the sample: every block the kernel stores is the reference's at
its place in the array. The kernel adds two products over half the channels each, the reference multiplies the two halves
set side by side. -/

@[expose] public section

set_option maxRecDepth 16384

noncomputable section

namespace Cert.OutSampleIdeal.KernelValue

open Idealize.ShloMosaic Idealize.ShloMosaic.TcCoe Idealize.SL.Sem
open Cert.OutSampleIdeal Cert.OutSampleIdeal.Gen

/-- The block a point stores, at an index. -/
theorem out6_at (x0 x1 : Vec Ideal S1024x2048 .bf16) (x2 x3 : Vec Ideal S2048x1024 .bf16) (x4 : Vec Ideal S1024x1024 .f32)
    (x5 : Vec Ideal S1x1x1024 .f32) (r e : Fin 1024) :
    out0_6 (F := Ideal) x0 x1 x2 x3 x4 x5 (ix2 r e) = x4 (ix2 r e) + x5 (ix3 0 0 e) *
      ((∑ k : Fin 2048, x0 (ix2 r k) * x2 (ix2 k e)) + ∑ k : Fin 2048, x1 (ix2 r k) * x3 (ix2 k e)) := by
  frame_out
  pointwise [k0_pay1]

variable (m : (ℓ : Loc nD τ sig) → Buf (Elt Ideal) ℓ)

/-- The block indices of the windows at a grid point. -/
theorem idx : ∀ t : Fin cfg0.N, win0_0.index t = ![t.val / 4, 0] ∧ win0_1.index t = ![t.val / 4, 0]
    ∧ win0_2.index t = ![0, t.val % 4] ∧ win0_3.index t = ![1, t.val % 4] ∧ win0_4.index t = ![t.val / 4, t.val % 4]
    ∧ win0_5.index t = ![1 + t.val / 8, 0, 8 + t.val % 4] ∧ win0_6.index t = ![t.val / 4, t.val % 4] :=
  (by decide +kernel : ∀ t : Fin grid0.N, _)

/-- The first mixer's channels as launched, by row and column. -/
def Y1 (c : Dev nD) : Fin 8192 → Fin 2048 → EReal :=
  fun R C => (show FVec Ideal S8192x2048 .bf16 from m ((c : Thread nD τ).loc main_arg0)) (ix2 R C)

/-- The second mixer's channels. -/
def Y2 (c : Dev nD) : Fin 8192 → Fin 2048 → EReal :=
  fun R C => (show FVec Ideal S8192x2048 .bf16 from m ((c : Thread nD τ).loc main_arg1)) (ix2 R C)

/-- The projection's weight. -/
def W (c : Dev nD) : Fin 4096 → Fin 4096 → EReal :=
  fun R C => (show FVec Ideal S4096x4096 .bf16 from m ((c : Thread nD τ).loc main_arg2)) (ix2 R C)

/-- The residual stream, its sequences one below the other. -/
def X (c : Dev nD) : Fin 8192 → Fin 4096 → EReal :=
  fun R C => (show FVec Ideal S4x2048x4096 .f32 from m ((c : Thread nD τ).loc main_arg3))
    (ix3 ⟨R.val / 2048, by omega⟩ ⟨R.val % 2048, by omega⟩ C)

/-- The modulation table. -/
def M (c : Dev nD) : Fin 8 → Fin 12288 → EReal :=
  fun R C => (show FVec Ideal S8x12288 .f32 from m ((c : Thread nD τ).loc main_arg4)) (ix2 R C)

/-- A row block of the first mixer's channels. -/
theorem blk0 (c : Dev nD) (t : Fin cfg0.N) (r : Fin 1024) (k : Fin 2048) (R : Fin 8192) (hR : R.val = t.val / 4 * 1024 + r.val) :
    (show Vec Ideal S1024x2048 .bf16 from iblk m c 0 t) (ix2 r k) = Y1 m c R k := by
  unfold Y1
  blk_ext [iblk, V_main_arg0, idx t]

/-- A row block of the second mixer's channels. -/
theorem blk1 (c : Dev nD) (t : Fin cfg0.N) (r : Fin 1024) (k : Fin 2048) (R : Fin 8192) (hR : R.val = t.val / 4 * 1024 + r.val) :
    (show Vec Ideal S1024x2048 .bf16 from iblk m c 1 t) (ix2 r k) = Y2 m c R k := by
  unfold Y2
  blk_ext [iblk, V_main_arg1, idx t]

/-- A column block of the weight's upper half. -/
theorem blk2 (c : Dev nD) (t : Fin cfg0.N) (k : Fin 2048) (e : Fin 1024) (C : Fin 4096) (hC : C.val = t.val % 4 * 1024 + e.val) :
    (show Vec Ideal S2048x1024 .bf16 from iblk m c 2 t) (ix2 k e) = W m c ⟨k.val, by omega⟩ C := by
  unfold W
  blk_ext [iblk, V_main_arg2, idx t]

/-- A column block of the weight's lower half. -/
theorem blk3 (c : Dev nD) (t : Fin cfg0.N) (k : Fin 2048) (e : Fin 1024) (C : Fin 4096) (hC : C.val = t.val % 4 * 1024 + e.val) :
    (show Vec Ideal S2048x1024 .bf16 from iblk m c 3 t) (ix2 k e) = W m c ⟨2048 + k.val, by omega⟩ C := by
  unfold W
  blk_ext [iblk, V_main_arg2, idx t]

/-- A block of the residual stream. -/
theorem blk4 (c : Dev nD) (t : Fin cfg0.N) (r e : Fin 1024) (R : Fin 8192) (C : Fin 4096)
    (hR : R.val = t.val / 4 * 1024 + r.val) (hC : C.val = t.val % 4 * 1024 + e.val) :
    (show Vec Ideal S1024x1024 .f32 from iblk m c 4 t) (ix2 r e) = X m c R C := by
  have h : ∀ (R : Fin 8192) (C : Fin 4096), (show FVec Ideal S8192x4096 .f32 from V m c main_v0) (ix2 R C) = X m c R C := by
    intro R C
    unfold X
    entry_read
    pointwise
  rw [← h]
  blk_ext [iblk, idx t]

/-- A block of the gate. -/
theorem blk5 (c : Dev nD) (t : Fin cfg0.N) (e : Fin 1024) (R : Fin 8) (C : Fin 12288)
    (hR : R.val = 1 + t.val / 8) (hC : C.val = (8 + t.val % 4) * 1024 + e.val) :
    (show Vec Ideal S1x1x1024 .f32 from iblk m c 5 t) (ix3 0 0 e) = M m c R C := by
  have h : ∀ (R : Fin 8) (C : Fin 12288), (show FVec Ideal S8x1x12288 .f32 from V m c main_v1) (ix3 R 0 C) = M m c R C := by
    intro R C
    unfold M
    entry_read
    pointwise
  rw [← h]
  blk_ext [iblk, idx t]

/-- One element of the projection with gate and residual. -/
def result (y1 y2 : Fin 8192 → Fin 2048 → EReal) (w : Fin 4096 → Fin 4096 → EReal) (x : Fin 8192 → Fin 4096 → EReal)
    (mod : Fin 8 → Fin 12288 → EReal) (R : Fin 8192) (C : Fin 4096) : EReal :=
  x R C + mod ⟨1 + R.val / 2048, by omega⟩ ⟨8192 + C.val, by omega⟩ *
    ((∑ k : Fin 2048, y1 R k * w ⟨k.val, by omega⟩ C) + ∑ k : Fin 2048, y2 R k * w ⟨2048 + k.val, by omega⟩ C)

/-- **The kernel's result.** -/
theorem final6 (c : Dev nD) : (dats m 0 c).arrAt 6 (cfgs 0).N
    = fun i : S8192x4096.Idx => result (Y1 m c) (Y2 m c) (W m c) (X m c) (M m c) (i 0) (i 1) := by
  refine (dats m 0 c).arrAt_eq_of_covers 6 _ (by decide +kernel) fun t _ y => ?_
  blk_simp
  rw [after0_6]
  idx_vars y
  unfold result
  refine (out6_at _ _ _ _ _ _ _ _).trans (congrArg₂ (· + ·) (blk4 m c t _ _ _ _ ?_ ?_) (congrArg₂ (· * ·) (blk5 m c t _ _ _ ?_ ?_)
    (congrArg₂ (· + ·) (Finset.sum_congr rfl fun k _ => congrArg₂ (· * ·) (blk0 m c t _ k _ ?_) (blk2 m c t k _ _ ?_))
      (Finset.sum_congr rfl fun k _ => congrArg₂ (· * ·) (blk1 m c t _ k _ ?_) (blk3 m c t k _ _ ?_)))))
    <;> (try blk_simp [idx t]) <;> (try dsimp only) <;> first | rfl | omega

end Cert.OutSampleIdeal.KernelValue

namespace Cert.OutSampleProof

open Idealize.ShloMosaic Idealize.ShloMosaic.TcCoe Idealize.SL.Sem
open Cert.OutSampleRefIdeal Cert.OutSampleRefIdeal.Read

/-- The reference's gate at an index. -/
theorem gate_at (x4 : FVec Ideal S8x12288 .f32) (b : Fin 4) (l : Fin 2048) (C : Fin 4096) :
    val_main_v11 (F := Ideal) x4 (ix3 b l C) = x4 (ix2 ⟨1 + b.val, by omega⟩ ⟨8192 + C.val, by omega⟩) := by
  pointwise [val_main_v11, val_main_v4, val_main_v1, val_main_v0]

/-- The reference's projection at an index. -/
theorem product_at (x0 x1 : FVec Ideal S8192x2048 .bf16) (x2 : FVec Ideal S4096x4096 .bf16) (b : Fin 4) (l : Fin 2048) (C : Fin 4096) :
    val_main_v10 (F := Ideal) x0 x1 x2 (ix3 b l C)
      = (∑ k : Fin 2048, x0 (ix2 ⟨b.val * 2048 + l.val, by omega⟩ k) * x2 (ix2 ⟨k.val, by omega⟩ C))
        + ∑ k : Fin 2048, x1 (ix2 ⟨b.val * 2048 + l.val, by omega⟩ k) * x2 (ix2 ⟨2048 + k.val, by omega⟩ C) := by
  pointwise [val_main_v10, val_main_v9, val_main_v8, val_main_v7, val_main_v6, val_main_v5]

/-- The reference's result at an index. -/
theorem result_at (x0 x1 : FVec Ideal S8192x2048 .bf16) (x2 : FVec Ideal S4096x4096 .bf16) (x3 : FVec Ideal S4x2048x4096 .f32)
    (x4 : FVec Ideal S8x12288 .f32) (R : Fin 8192) (C : Fin 4096) :
    val_main_v14 (F := Ideal) x0 x1 x2 x3 x4 (ix2 R C)
      = x3 (ix3 ⟨R.val / 2048, by omega⟩ ⟨R.val % 2048, by omega⟩ C) + x4 (ix2 ⟨1 + R.val / 2048, by omega⟩ ⟨8192 + C.val, by omega⟩) *
        ((∑ k : Fin 2048, x0 (ix2 R k) * x2 (ix2 ⟨k.val, by omega⟩ C)) + ∑ k : Fin 2048, x1 (ix2 R k) * x2 (ix2 ⟨2048 + k.val, by omega⟩ C)) := by
  obtain ⟨b, l, rfl⟩ : ∃ (b : Fin 4) (l : Fin 2048), R = ⟨b.val * 2048 + l.val, by omega⟩ :=
    ⟨⟨R.val / 2048, by omega⟩, ⟨R.val % 2048, by omega⟩, Fin.ext (by show R.val = R.val / 2048 * 2048 + R.val % 2048; omega)⟩
  have e1 : (b.val * 2048 + l.val) / 2048 = b.val := by omega
  have e2 : (b.val * 2048 + l.val) % 2048 = l.val := by omega
  have hg := gate_at x4 b l C
  have hp := product_at x0 x1 x2 b l C
  unfold val_main_v14 val_main_v13 val_main_v12
  generalize val_main_v11 (F := Ideal) x4 = g at hg ⊢
  generalize val_main_v10 (F := Ideal) x0 x1 x2 = p at hp ⊢
  refine Eq.trans (b := x3 (ix3 b l C) + g (ix3 b l C) * p (ix3 b l C)) ?_ ?_
  · pointwise
  · rw [hg, hp]
    simp only [e1, e2]

/-- **The claim of equal values**: the projection with gate and residual is the reference's. -/
theorem algebraic : Cert.algebraic_OutSampleIdeal_OutSampleRefIdeal := by
  intro m g m' g' _ hagree
  refine ⟨fun c => (Cert.OutSampleIdeal.Gen.dats m 0 c).arrAt 6 Cert.OutSampleIdeal.cfg0.N, Cert.OutSampleIdeal.Value.run_blocks m g, ?_⟩
  refine (θ_run Cert.OutSampleRefIdeal.defs _ _).mono (fun r h c => ?_) (Cert.OutSampleRefIdeal.Value.run (F := Ideal) m' g')
  obtain ⟨h0, ha⟩ := h c
  obtain ⟨a0, a1, a2, a3, a4⟩ := hagree c
  refine ⟨h0.trans ?_, ha⟩
  rw [Cert.OutSampleRefIdeal.Read.val_main_v14_eq, a0, a1, a2, a3, a4]
  refine Eq.trans ?_ (Cert.OutSampleIdeal.KernelValue.final6 m c).symm
  funext i
  obtain ⟨R, C, rfl⟩ : ∃ (R : Fin 8192) (C : Fin 4096), i = ix2 R C := ⟨i 0, i 1, eq_ix2 i⟩
  exact result_at _ _ _ _ _ R C

end Cert.OutSampleProof
-- ==== Proof.Ada.lean ====
module

public import proofs.«01_k».proof.Defs
public import proofs.«01_k».proof.Proof.Gen.AdaIdeal.Value
public import proofs.«01_k».proof.Proof.Gen.AdaRefIdeal.Read
public import proofs.«01_k».proof.Proof.Gen.AdaRefIdeal.Run
public import proofs.«01_k».proof.Proof.Softmax
public import Idealize.ShloMosaic.Lib.Pipeline.ValueKit
public import Idealize.ShloMosaic.Lib.Claim

/-! The modulations of both layers: every block of a layer's row of modulations is the reference's. -/

@[expose] public section

set_option maxRecDepth 16384

noncomputable section

namespace Cert.AdaIdeal.KernelValue

open Idealize.ShloMosaic Idealize.ShloMosaic.TcCoe Idealize.SL.Sem
open Cert.AdaIdeal Cert.AdaIdeal.Gen Cert.Core

/-- A block of modulations at an index: the gated condition times the weight, plus the bias. -/
theorem out_at (x0 : Vec Ideal S8x4096 .f32) (x1 : Vec Ideal S1x4096x1024 .f32) (x2 : Vec Ideal S1x1x1024 .f32)
    (r : Fin 8) (e : Fin 1024) :
    out0_3 (F := Ideal) x0 x1 x2 (ix3 0 r e)
      = (∑ k : Fin 4096, x0 (ix2 r k) * Ideal.div 1 (1 + Ideal.exp (-x0 (ix2 r k))) * x1 (ix3 0 k e)) + x2 (ix3 0 0 e) := by
  frame_out
  pointwise [k0_pay1]
  simp only [gate_eq]

variable (m : (ℓ : Loc nD τ sig) → Buf (Elt Ideal) ℓ)

/-- The block indices of the windows at a grid point. -/
theorem idx : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12] :=
  (by decide +kernel : ∀ t : Fin grid0.N, _)

/-- The sample's conditions as launched. -/
def C0 (c : Dev nD) : FVec Ideal S4x4096 .f32 := m ((c : Thread nD τ).loc main_arg0)

/-- The context's condition as launched. -/
def C1 (c : Dev nD) : FVec Ideal S4096 .f32 := m ((c : Thread nD τ).loc main_arg1)

/-- The weights as launched. -/
def W (c : Dev nD) : Fin 2 → Fin 4096 → Fin 12288 → EReal :=
  fun L K C => (show FVec Ideal S2x4096x12288 .f32 from m ((c : Thread nD τ).loc main_arg2)) (ix3 L K C)

/-- The biases as launched. -/
def B (c : Dev nD) : Fin 2 → Fin 12288 → EReal :=
  fun L C => (show FVec Ideal S2x12288 .f32 from m ((c : Thread nD τ).loc main_arg3)) (ix2 L C)

/-- The conditions of all rows: the context's, the sample's four, three rows of zeros. -/
@[irreducible] def cnd (c0 : FVec Ideal S4x4096 .f32) (c1 : FVec Ideal S4096 .f32) (r : Fin 8) (k : Fin 4096) : EReal :=
  Cert.AdaRefIdeal.Read.val_main_v2 (F := Ideal) c0 c1 (ix2 r k)

/-- Three stacked arrays are stacked arrays of equal parts. -/
theorem stack_congr {a a' : FVec Ideal S1x4096 .f32} {b b' : FVec Ideal S4x4096 .f32} {d d' : FVec Ideal S3x4096 .f32}
    (ha : a = a') (hb : b = b') (hd : d = d') :
    (concatenate S8x4096 0 [⟨S1x4096, a⟩, ⟨S4x4096, b⟩, ⟨S3x4096, d⟩] concatenates_S1x4096_S4x4096_S3x4096_S8x4096_d0 : FVec Ideal S8x4096 .f32)
      = concatenate S8x4096 0 [⟨S1x4096, a'⟩, ⟨S4x4096, b'⟩, ⟨S3x4096, d'⟩] concatenates_S1x4096_S4x4096_S3x4096_S8x4096_d0 := by
  subst ha hb hd; rfl

/-- The conditions when the kernel starts are the reference's. -/
theorem V2 (c : Dev nD) : (show FVec Ideal S8x4096 .f32 from V m c main_v2) = Cert.AdaRefIdeal.Read.val_main_v2 (F := Ideal) (C0 m c) (C1 m c) := by
  show StableHlo.after hostOps0 _ _ = _
  rw [StableHlo.after_cons, StableHlo.after_cons, StableHlo.after_cons, StableHlo.after_cons, StableHlo.after_cons, StableHlo.after_nil]
  rw [StableHlo.reshape_result_ne _ _ _ _ _ _ _ (by decide), StableHlo.nary_result]
  unfold Cert.AdaRefIdeal.Read.val_main_v2
  refine stack_congr ?_ ?_ ?_
  · show HloOp.result _ _ (Proc.devRef .tc main_v0) = _
    rw [StableHlo.unary_result_ne _ _ _ _ _ _ (by decide), StableHlo.nullary_result_ne _ _ _ _ (by decide), StableHlo.unary_result]
    rfl
  · show HloOp.result _ _ (Proc.devRef .tc main_arg0) = _
    rw [StableHlo.unary_result_ne _ _ _ _ _ _ (by decide), StableHlo.nullary_result_ne _ _ _ _ (by decide),
      StableHlo.unary_result_ne _ _ _ _ _ _ (by decide)]
    rfl
  · show HloOp.result _ _ (Proc.devRef .tc main_v1) = _
    rw [StableHlo.unary_result, StableHlo.nullary_result]
    rfl

/-- The conditions' block. -/
theorem blk0 (c : Dev nD) (t : Fin cfg0.N) (r : Fin 8) (k : Fin 4096) :
    (show Vec Ideal S8x4096 .f32 from iblk m c 0 t) (ix2 r k) = cnd (C0 m c) (C1 m c) r k := by
  unfold cnd
  rw [← V2]
  blk_ext [iblk, idx t]

/-- A block of the weight. -/
theorem blk1 (c : Dev nD) (t : Fin cfg0.N) (k : Fin 4096) (e : Fin 1024) (L : Fin 2) (C : Fin 12288) (hL : L.val = t.val / 12)
    (hC : C.val = t.val % 12 * 1024 + e.val) :
    (show Vec Ideal S1x4096x1024 .f32 from iblk m c 1 t) (ix3 0 k e) = W m c L k C := by
  unfold W
  blk_ext [iblk, V_main_arg2, idx t]

/-- A block of the bias. -/
theorem blk2 (c : Dev nD) (t : Fin cfg0.N) (e : Fin 1024) (L : Fin 2) (C : Fin 12288) (hL : L.val = t.val / 12)
    (hC : C.val = t.val % 12 * 1024 + e.val) :
    (show Vec Ideal S1x1x1024 .f32 from iblk m c 2 t) (ix3 0 0 e) = B m c L C := by
  have h : ∀ (L : Fin 2) (C : Fin 12288), (show FVec Ideal S2x1x12288 .f32 from V m c main_v3) (ix3 L 0 C) = B m c L C := by
    intro L C
    unfold B
    entry_read
    pointwise
  rw [← h]
  blk_ext [iblk, idx t]

/-- The modulation of layer `L`, row `R`, column `C`. -/
def mod (c : Dev nD) (L : Fin 2) (R : Fin 8) (C : Fin 12288) : EReal :=
  (∑ k : Fin 4096, cnd (C0 m c) (C1 m c) R k * Ideal.div 1 (1 + Ideal.exp (-cnd (C0 m c) (C1 m c) R k)) * W m c L k C) + B m c L C

/-- **The kernel's modulations.** -/
theorem final (c : Dev nD) : (dats m 0 c).arrAt 3 (cfgs 0).N = fun i : S2x8x12288.Idx => mod m c (i 0) (i 1) (i 2) := by
  refine (dats m 0 c).arrAt_eq_of_covers 3 _ (by decide +kernel) fun t _ y => ?_
  blk_simp
  rw [after0_3]
  idx_vars y
  unfold mod
  obtain rfl : y0 = 0 := Subsingleton.elim _ _
  refine (out_at _ _ _ _ _).trans (congrArg₂ (· + ·) (Finset.sum_congr rfl fun k _ => congrArg₂ (· * ·) ?_ (blk1 m c t k _ _ _ ?_ ?_)) (blk2 m c t _ _ _ ?_ ?_))
  · refine (congrArg (fun z => z * Ideal.div 1 (1 + Ideal.exp (-z))) (blk0 m c t y1 k)).trans ?_
    refine congrArg (fun r => cnd (C0 m c) (C1 m c) r k * Ideal.div 1 (1 + Ideal.exp (-cnd (C0 m c) (C1 m c) r k))) (Fin.ext ?_)
    blk_simp [idx t]
  all_goals (try blk_simp [idx t]) <;> (try dsimp only) <;> first | rfl | omega

end Cert.AdaIdeal.KernelValue

namespace Cert.AdaProof

open Idealize.ShloMosaic Idealize.ShloMosaic.TcCoe Idealize.SL.Sem
open Cert.AdaRefIdeal Cert.AdaRefIdeal.Read Cert.AdaIdeal.KernelValue

/-- The reference's first layer at an index. -/
theorem layer0_at (x0 : FVec Ideal S4x4096 .f32) (x1 : FVec Ideal S4096 .f32) (x2 : FVec Ideal S2x4096x12288 .f32)
    (x3 : FVec Ideal S2x12288 .f32) (R : Fin 8) (C : Fin 12288) :
    val_main_v11 (F := Ideal) x0 x1 x2 x3 (ix2 R C)
      = (∑ k : Fin 4096, cnd x0 x1 R k * Ideal.div 1 (1 + Ideal.exp (-cnd x0 x1 R k)) * x2 (ix3 0 k C)) + x3 (ix2 0 C) := by
  unfold cnd
  unfold val_main_v11 val_main_v6 val_main_v3 val_main_call0_v5 val_main_call0_v3 val_main_call0_v1 val_main_call0_v0
  generalize val_main_v2 (F := Ideal) x0 x1 = z
  pointwise [val_main_v4, val_main_v5, val_main_v7, val_main_v8, val_main_v9, val_main_v10, val_main_call0_v2, val_main_call0_v4,
    val_main_call0_cst, val_main_call0_cst_0]

/-- The reference's second layer at an index. -/
theorem layer1_at (x0 : FVec Ideal S4x4096 .f32) (x1 : FVec Ideal S4096 .f32) (x2 : FVec Ideal S2x4096x12288 .f32)
    (x3 : FVec Ideal S2x12288 .f32) (R : Fin 8) (C : Fin 12288) :
    val_main_v20 (F := Ideal) x0 x1 x2 x3 (ix2 R C)
      = (∑ k : Fin 4096, cnd x0 x1 R k * Ideal.div 1 (1 + Ideal.exp (-cnd x0 x1 R k)) * x2 (ix3 1 k C)) + x3 (ix2 1 C) := by
  unfold cnd
  unfold val_main_v20 val_main_v15 val_main_v12 val_main_call1_v5 val_main_call1_v3 val_main_call1_v1 val_main_call1_v0
  generalize val_main_v2 (F := Ideal) x0 x1 = z
  pointwise [val_main_v13, val_main_v14, val_main_v16, val_main_v17, val_main_v18, val_main_v19, val_main_call1_v2, val_main_call1_v4,
    val_main_call1_cst, val_main_call1_cst_0]

/-- The reference's modulations at an index. -/
theorem stack_at (x0 : FVec Ideal S4x4096 .f32) (x1 : FVec Ideal S4096 .f32) (x2 : FVec Ideal S2x4096x12288 .f32)
    (x3 : FVec Ideal S2x12288 .f32) (L : Fin 2) (R : Fin 8) (C : Fin 12288) :
    val_main_v23 (F := Ideal) x0 x1 x2 x3 (ix3 L R C)
      = (∑ k : Fin 4096, cnd x0 x1 R k * Ideal.div 1 (1 + Ideal.exp (-cnd x0 x1 R k)) * x2 (ix3 L k C)) + x3 (ix2 L C) := by
  have h0 := layer0_at x0 x1 x2 x3 R C
  have h1 := layer1_at x0 x1 x2 x3 R C
  unfold val_main_v23 val_main_v21 val_main_v22
  revert h0 h1
  generalize val_main_v11 (F := Ideal) x0 x1 x2 x3 = y0
  generalize val_main_v20 (F := Ideal) x0 x1 x2 x3 = y1
  intro h0 h1
  match L with
  | ⟨0, _⟩ =>
    refine Eq.trans ?_ h0
    pointwise
  | ⟨1, _⟩ =>
    refine Eq.trans ?_ h1
    pointwise

/-- **The claim of equal values**: the modulations are the reference's. -/
theorem algebraic : Cert.algebraic_AdaIdeal_AdaRefIdeal := by
  intro m g m' g' _ hagree
  refine ⟨fun c => (Cert.AdaIdeal.Gen.dats m 0 c).arrAt 3 Cert.AdaIdeal.cfg0.N, Cert.AdaIdeal.Value.run_blocks m g, ?_⟩
  refine (θ_run Cert.AdaRefIdeal.defs _ _).mono (fun r h c => ?_) (Cert.AdaRefIdeal.Value.run (F := Ideal) m' g')
  obtain ⟨h0, ha⟩ := h c
  obtain ⟨a0, a1, a2, a3⟩ := hagree c
  refine ⟨h0.trans ?_, ha⟩
  rw [Cert.AdaRefIdeal.Read.val_main_v23_eq, a0, a1, a2, a3]
  refine Eq.trans ?_ (Cert.AdaIdeal.KernelValue.final m c).symm
  funext i
  obtain ⟨L, R, C, rfl⟩ : ∃ (L : Fin 2) (R : Fin 8) (C : Fin 12288), i = ix3 L R C := ⟨i 0, i 1, i 2, eq_ix3 i⟩
  exact stack_at _ _ _ _ L R C

end Cert.AdaProof
-- ==== Proof.Pieces.lean ====
module

public import Idealize.ShloMosaic.Lib.Pipeline.ValueKit
public import Idealize.ShloMosaic.Lib.Claim

/-! What a counted loop leaves in a buffer: each trip's stores in front of those of the trips before it. -/

@[expose] public section

noncomputable section

namespace Cert.Pieces

open Idealize.ShloMosaic

variable {α : Type}

/-- The stores of the first `n` trips are the stores of each of these trips. -/
theorem mem_trips {N : ℕ} (pb : ℕ → List α) (tr : Fin N → List α) (h0 : pb 0 = [])
    (hs : ∀ k : Fin N, pb (k.val + 1) = tr k ++ pb k.val) :
    ∀ n ≤ N, ∀ p, p ∈ pb n ↔ ∃ k : Fin N, k.val < n ∧ p ∈ tr k := by
  intro n
  induction n with
  | zero => intro _ p; simp [h0]
  | succ n ih =>
    intro hn p
    rw [hs ⟨n, hn⟩, List.mem_append, ih (by omega) p]
    constructor
    · rintro (h | ⟨k, hk, h⟩)
      · exact ⟨⟨n, hn⟩, by simp, h⟩
      · exact ⟨k, by omega, h⟩
    · rintro ⟨k, hk, h⟩
      rcases Nat.lt_succ_iff_lt_or_eq.mp hk with hk' | hk'
      · exact Or.inr ⟨k, hk', h⟩
      · refine Or.inl ?_
        rwa [show (⟨n, hn⟩ : Fin N) = k from Fin.ext hk'.symm]

/-- Where every trip stores the values of one function, and the trips' stores cover the buffer, the buffer holds
that function. -/
theorem canon_trips {Val : EltTy → Type} [∀ e, Nonempty (Val e)] {S : Shape} {e : EltTy} {N : ℕ}
    (pb : ℕ → List (View.Piece Val S e)) (tr : Fin N → List (View.Piece Val S e)) (h0 : pb 0 = [])
    (hs : ∀ k : Fin N, pb (k.val + 1) = tr k ++ pb k.val) (G : S.Idx → Val e)
    (hG : ∀ k : Fin N, ∀ p ∈ tr k, ∀ x, p.2 x = G (p.1.emb x)) (y : S.Idx)
    (hc : ∃ k : Fin N, ∃ p ∈ tr k, y ∈ p.1.set) : View.canon (pb N) y = G y := by
  refine View.canon_apply_of_pieces G (pb N) (fun p hp x => ?_) y ?_
  · obtain ⟨k, _, hk⟩ := (mem_trips pb tr h0 hs N le_rfl p).mp hp
    exact hG k p hk x
  · obtain ⟨k, p, hp, hy⟩ := hc
    exact ⟨p, (mem_trips pb tr h0 hs N le_rfl p).mpr ⟨k, k.isLt, hp⟩, hy⟩

end Cert.Pieces

end
-- ==== Proof.NormPrompt.lean ====
module

public import proofs.«01_k».proof.Defs
public import proofs.«01_k».proof.Proof.Gen.NormPromptIdeal.Value
public import proofs.«01_k».proof.Proof.Gen.NormPromptRefIdeal.Read
public import proofs.«01_k».proof.Proof.Gen.NormPromptRefIdeal.Run
public import proofs.«01_k».proof.Proof.Pieces
public import Idealize.ShloMosaic.Lib.Pipeline.ValueKit
public import Idealize.ShloMosaic.Lib.Claim

/-! A layer's normalised and modulated tokens of the prompt: the kernel goes through a block's rows sixteen at a
time; every row is the reference's. -/

@[expose] public section

set_option maxRecDepth 16384

noncomputable section

namespace Cert.NormPromptIdeal.KernelValue

open Idealize.ShloMosaic Idealize.ShloMosaic.TcCoe Idealize.SL.Sem
open Cert.NormPromptIdeal Cert.NormPromptIdeal.Gen

/-- A row block, normalised and modulated. -/
def normed (x0 : Vec Ideal S512x4096 .f32) (x1 : Vec Ideal S1x4096 .f32) (x2 x3 : Vec Ideal S1x1x4096 .f32) (y : S512x4096.Idx) : EReal :=
  x0 (ix2 (y 0) (y 1)) * Ideal.rsqrt (Ideal.div (∑ k : Fin 4096, x0 (ix2 (y 0) k) * x0 (ix2 (y 0) k)) (Ideal.ofBits .f32 1166016512#32) + Ideal.ofBits .f32 897988541#32) * (x1 (ix2 0 (y 1)) * (1 + x3 (ix3 0 0 (y 1)))) + x2 (ix3 0 0 (y 1))

/-- What a row block's point leaves: its rows, normalised and modulated. -/
theorem out_at (c : Dev nD) (i : grid0.Coords) (arg1 : Memref sig .tc .vmem S512x4096 .f32) (harg1 : arg1.IsWhole) (arg2 : Memref sig .tc .vmem S1x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S512x4096 .bf16) (harg5 : arg5.IsWhole) (arg6 : Memref sig .tc .vmem S16x4096 .f32) (harg6 : arg6.IsWhole) (arg7 : Memref sig .tc .vmem S16x4096 .f32) (harg7 : arg7.IsWhole)
    (x0 : Vec Ideal S512x4096 .f32) (x1 : Vec Ideal S1x4096 .f32) (x2 : Vec Ideal S1x1x4096 .f32) (x3 : Vec Ideal S1x1x4096 .f32) (r : Fin 512) (e : Fin 4096) : out0_A_4 (F := Ideal) c i arg1 harg1 arg2 harg2 arg3 harg3 arg4 harg4 arg5 harg5 arg6 harg6 arg7 harg7 x0 x1 x2 x3 (ix2 r e) = normed x0 x1 x2 x3 (ix2 r e) := by
  frame_out
  refine Cert.Pieces.canon_trips (fun n => pb_k0_t1 (F := Ideal) Variants.none c none i arg1 harg1 arg2 harg2 arg3 harg3 arg4 harg4 arg5 harg5 arg6 harg6 arg7 harg7 _ _ _ n) _ rfl (fun k => pb_k0_t1_succ (F := Ideal) Variants.none c none i arg1 harg1 arg2 harg2 arg3 harg3 arg4 harg4 arg5 harg5 arg6 harg6 arg7 harg7 _ _ _ k) (normed x0 x1 x2 x3) (fun k p hp x => ?_) (ix2 r e) ?_
  · unfold tripL_k0_t1 trip_k0_t1 at hp
    dsimp only at hp
    obtain rfl := List.mem_singleton.mp hp
    have hk := k0_off1_eq k
    simp (disch := decide) only [View.readAt_eq_ld, Memref.IsWhole.read_unread, View.ld_unit_lit', View.read_writes_junk_eq_canon, View.canon_cons_unit_lit']
    idx_vars x
    have h0 : k0_off1 k 0 = 16 * k.val := by rw [hk]; rfl
    have h1 : k0_off1 k 1 = 0 := by rw [hk]; rfl
    have hK : k.val < 32 := Nat.lt_of_lt_of_le k.isLt k0_t1_abs.2.1
    have he : (Rect.unit (s := S512x4096) (k0_off1 k) ![16, 4096] (k0_off1_inb k)).emb (ix2 x0 x1)
        = ix2 (n0 := 512) ⟨16 * k.val + x0.val, by omega⟩ x1 := by
      funext a
      refine Fin.ext ?_
      rw [Rect.emb_apply]
      match a with
      | ⟨0, _⟩ => show k0_off1 k 0 + 1 * x0.val = 16 * k.val + x0.val; omega
      | ⟨1, _⟩ => show k0_off1 k 1 + 1 * x1.val = x1.val; omega
    rw [he]
    unfold normed
    pointwise [k0_pay3, k0_pay1, k0_pay2]
    simp only [h0, h1, Nat.zero_add]
  · refine ⟨⟨r.val / 16, ?_⟩, ?_⟩
    · show r.val / 16 < 32
      omega
    · unfold tripL_k0_t1 trip_k0_t1
      dsimp only
      refine ⟨_, List.mem_singleton_self _, ?_⟩
      dsimp only
      rw [Rect.mem_set_unit, k0_off1_eq]
      intro a
      match a with
      | ⟨0, _⟩ => show 16 * (r.val / 16) ≤ r.val ∧ r.val < 16 * (r.val / 16) + 16; omega
      | ⟨1, _⟩ => show 0 ≤ e.val ∧ e.val < 0 + 4096; omega

variable (m : (ℓ : Loc nD τ sig) → Buf (Elt Ideal) ℓ)

/-- The block indices of the windows at a grid point. -/
theorem idx : ∀ t : Fin cfg0.N, win0_0.index t = ![t.val, 0] ∧ win0_1.index t = ![0, 0] ∧ win0_2.index t = ![0, 0, 0]
    ∧ win0_3.index t = ![0, 0, 1] ∧ win0_4.index t = ![t.val, 0] :=
  (by decide +kernel : ∀ t : Fin grid0.N, _)

/-- The tokens as launched, by row of all sequences and column. -/
def X (c : Dev nD) : Fin 8192 → Fin 4096 → EReal :=
  fun R C => (show FVec Ideal S32x256x4096 .f32 from m ((c : Thread nD τ).loc main_arg0)) (ix3 ⟨R.val / 256, by omega⟩ ⟨R.val % 256, by omega⟩ C)

/-- The gains as launched. -/
def Gn (c : Dev nD) : Fin 4096 → EReal :=
  fun C => (show FVec Ideal S4096 .f32 from m ((c : Thread nD τ).loc main_arg1)) (ix1 C)

/-- The modulations as launched. -/
def Mod (c : Dev nD) : Fin 8 → Fin 12288 → EReal :=
  fun R C => (show FVec Ideal S8x12288 .f32 from m ((c : Thread nD τ).loc main_arg2)) (ix2 R C)

/-- A row block, read in the tokens. -/
theorem blk0 (c : Dev nD) (t : Fin cfg0.N) (r : Fin 512) (k : Fin 4096) (R : Fin 8192) (hR : R.val = t.val * 512 + r.val) :
    (show Vec Ideal S512x4096 .f32 from iblk m c 0 t) (ix2 r k) = X m c R k := by
  have h : ∀ (R : Fin 8192) (C : Fin 4096), (show FVec Ideal S8192x4096 .f32 from V m c main_v0) (ix2 R C) = X m c R C := by
    intro R C
    unfold X
    entry_read
    pointwise
  rw [← h]
  blk_ext [iblk, idx t]

/-- The gains' block. -/
theorem blk1 (c : Dev nD) (t : Fin cfg0.N) (k : Fin 4096) :
    (show Vec Ideal S1x4096 .f32 from iblk m c 1 t) (ix2 0 k) = Gn m c k := by
  have h : ∀ (C : Fin 4096), (show FVec Ideal S1x4096 .f32 from V m c main_v2) (ix2 0 C) = Gn m c C := by
    intro C
    unfold Gn
    entry_read
    pointwise
  rw [← h]
  blk_ext [iblk, idx t]

/-- The modulations when the kernel starts. -/
theorem mod_at (c : Dev nD) (R : Fin 8) (C : Fin 12288) :
    (show FVec Ideal S8x1x12288 .f32 from V m c main_v1) (ix3 R 0 C) = Mod m c R C := by
  unfold Mod
  entry_read
  pointwise

/-- The shifts' block. -/
theorem blk2 (c : Dev nD) (t : Fin cfg0.N) (k : Fin 4096) (R : Fin 8) (C : Fin 12288) (hR : R.val = 0) (hC : C.val = k.val) :
    (show Vec Ideal S1x1x4096 .f32 from iblk m c 2 t) (ix3 0 0 k) = Mod m c R C := by
  rw [← mod_at]
  blk_ext [iblk, idx t]

/-- The scales' block. -/
theorem blk3 (c : Dev nD) (t : Fin cfg0.N) (k : Fin 4096) (R : Fin 8) (C : Fin 12288) (hR : R.val = 0) (hC : C.val = 4096 + k.val) :
    (show Vec Ideal S1x1x4096 .f32 from iblk m c 3 t) (ix3 0 0 k) = Mod m c R C := by
  rw [← mod_at]
  blk_ext [iblk, idx t]

/-- The row of modulations a row of tokens takes. -/
def row (_R : Fin 8192) : Fin 8 := 0

/-- A row of tokens, normalised and modulated. -/
def res (c : Dev nD) (R : Fin 8192) (C : Fin 4096) : EReal :=
  X m c R C * Ideal.rsqrt (Ideal.div (∑ k : Fin 4096, X m c R k * X m c R k) (Ideal.ofBits .f32 1166016512#32) + Ideal.ofBits .f32 897988541#32)
    * (Gn m c C * (1 + Mod m c (row R) ⟨4096 + C.val, by omega⟩)) + Mod m c (row R) ⟨C.val, by omega⟩

/-- A row block's point, at an index, is the result at the row's place. -/
theorem point (c : Dev nD) (t : Fin cfg0.N) (r : Fin 512) (e : Fin 4096) (R : Fin 8192) (C : Fin 4096) (hR : R.val = t.val * 512 + r.val)
    (hC : C = e) : normed (iblk m c 0 t) (iblk m c 1 t) (iblk m c 2 t) (iblk m c 3 t) (ix2 r e) = res m c R C := by
  subst hC
  have hrow : (row R).val = 0 := by rfl
  unfold normed res
  exact congrArg₂ (· + ·) (congrArg₂ (· * ·) (congrArg₂ (· * ·) (blk0 m c t r C R hR)
    (congrArg Ideal.rsqrt (congrArg (· + Ideal.ofBits .f32 897988541#32) (congrArg (Ideal.div · (Ideal.ofBits .f32 1166016512#32))
      (Finset.sum_congr rfl fun k _ => congrArg₂ (· * ·) (blk0 m c t r k R hR) (blk0 m c t r k R hR))))))
    (congrArg₂ (· * ·) (blk1 m c t C) (congrArg (1 + ·) (blk3 m c t C _ _ hrow rfl)))) (blk2 m c t C _ _ hrow rfl)

/-- **The kernel's result.** -/
theorem final (c : Dev nD) : (dats m 0 c).arrAt 4 (cfgs 0).N = fun i : S8192x4096.Idx => res m c (i 0) (i 1) := by
  refine (dats m 0 c).arrAt_eq_of_covers 4 _ (by decide +kernel) fun t _ y => ?_
  blk_simp
  rw [after0_4]
  unfold outsAt0
  idx_vars y
  refine (out_at _ _ _ _ _ _ _ _ _ _ _ _ _ _ _ _ _ _ _ _ _ _).trans (point m c t _ _ _ _ ?_ (Fin.ext ?_))
  all_goals (try blk_simp [idx t]) <;> (try dsimp only) <;> first | rfl | omega

end Cert.NormPromptIdeal.KernelValue

namespace Cert.NormPromptProof

open Idealize.ShloMosaic Idealize.ShloMosaic.TcCoe Idealize.SL.Sem
open Cert.NormPromptRefIdeal Cert.NormPromptRefIdeal.Read Cert.NormPromptIdeal.KernelValue

/-- The reference's result at an index. -/
theorem ref_at (x0 : FVec Ideal S32x256x4096 .f32) (x1 : FVec Ideal S4096 .f32) (x2 : FVec Ideal S8x12288 .f32) (R : Fin 8192) (C : Fin 4096) :
    val_main_v25 (F := Ideal) x0 x1 x2 (ix2 R C)
      = x0 (ix3 ⟨R.val / 256, by omega⟩ ⟨R.val % 256, by omega⟩ C)
          * Ideal.rsqrt (Ideal.div (∑ k : Fin 4096, x0 (ix3 ⟨R.val / 256, by omega⟩ ⟨R.val % 256, by omega⟩ k) * x0 (ix3 ⟨R.val / 256, by omega⟩ ⟨R.val % 256, by omega⟩ k))
              (Ideal.ofBits .f32 1166016512#32) + Ideal.ofBits .f32 897988541#32)
          * x1 (ix1 C) * (1 + x2 (ix2 (row R) ⟨4096 + C.val, by omega⟩)) + x2 (ix2 (row R) ⟨C.val, by omega⟩) := by
  unfold row
  pointwise [val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7,
    val_main_v6, val_main_v5, val_main_v3, val_main_v2, val_main_v1, val_main_v0, val_main_cst, val_main_cst_0, val_main_cst_1, val_main_cst_2]

/-- **The claim of equal values**: the result is the reference's. -/
theorem algebraic : Cert.algebraic_NormPromptIdeal_NormPromptRefIdeal := by
  intro m g m' g' _ hagree
  refine ⟨fun c => (Cert.NormPromptIdeal.Gen.dats m 0 c).arrAt 4 Cert.NormPromptIdeal.cfg0.N, Cert.NormPromptIdeal.Value.run_blocks m g, ?_⟩
  refine (θ_run Cert.NormPromptRefIdeal.defs _ _).mono (fun r h c => ?_) (Cert.NormPromptRefIdeal.Value.run (F := Ideal) m' g')
  obtain ⟨h0, ha⟩ := h c
  obtain ⟨a0, a1, a2⟩ := hagree c
  refine ⟨h0.trans ?_, ha⟩
  rw [Cert.NormPromptRefIdeal.Read.val_main_v25_eq, a0, a1, a2]
  refine Eq.trans ?_ (Cert.NormPromptIdeal.KernelValue.final m c).symm
  funext i
  obtain ⟨R, C, rfl⟩ : ∃ (R : Fin 8192) (C : Fin 4096), i = ix2 R C := ⟨i 0, i 1, eq_ix2 i⟩
  exact (ref_at _ _ _ R C).trans (congrArg (· + _) (mul_assoc _ _ _))

end Cert.NormPromptProof

end
-- ==== Proof.NormSample.lean ====
module

public import proofs.«01_k».proof.Defs
public import proofs.«01_k».proof.Proof.Gen.NormSampleIdeal.Value
public import proofs.«01_k».proof.Proof.Gen.NormSampleRefIdeal.Read
public import proofs.«01_k».proof.Proof.Gen.NormSampleRefIdeal.Run
public import proofs.«01_k».proof.Proof.Pieces
public import Idealize.ShloMosaic.Lib.Pipeline.ValueKit
public import Idealize.ShloMosaic.Lib.Claim

/-! A layer's normalised and modulated tokens of the sample: the kernel goes through a block's rows sixteen at a
time; every row is the reference's. -/

@[expose] public section

set_option maxRecDepth 16384

noncomputable section

namespace Cert.NormSampleIdeal.KernelValue

open Idealize.ShloMosaic Idealize.ShloMosaic.TcCoe Idealize.SL.Sem
open Cert.NormSampleIdeal Cert.NormSampleIdeal.Gen

/-- A row block, normalised and modulated. -/
def normed (x0 : Vec Ideal S512x4096 .f32) (x1 : Vec Ideal S1x4096 .f32) (x2 x3 : Vec Ideal S1x1x4096 .f32) (y : S512x4096.Idx) : EReal :=
  x0 (ix2 (y 0) (y 1)) * Ideal.rsqrt (Ideal.div (∑ k : Fin 4096, x0 (ix2 (y 0) k) * x0 (ix2 (y 0) k)) (Ideal.ofBits .f32 1166016512#32) + Ideal.ofBits .f32 897988541#32) * (x1 (ix2 0 (y 1)) * (1 + x3 (ix3 0 0 (y 1)))) + x2 (ix3 0 0 (y 1))

/-- What a row block's point leaves: its rows, normalised and modulated. -/
theorem out_at (c : Dev nD) (i : grid0.Coords) (arg1 : Memref sig .tc .vmem S512x4096 .f32) (harg1 : arg1.IsWhole) (arg2 : Memref sig .tc .vmem S1x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S512x4096 .bf16) (harg5 : arg5.IsWhole) (arg6 : Memref sig .tc .vmem S16x4096 .f32) (harg6 : arg6.IsWhole) (arg7 : Memref sig .tc .vmem S16x4096 .f32) (harg7 : arg7.IsWhole)
    (x0 : Vec Ideal S512x4096 .f32) (x1 : Vec Ideal S1x4096 .f32) (x2 : Vec Ideal S1x1x4096 .f32) (x3 : Vec Ideal S1x1x4096 .f32) (r : Fin 512) (e : Fin 4096) : out0_A_4 (F := Ideal) c i arg1 harg1 arg2 harg2 arg3 harg3 arg4 harg4 arg5 harg5 arg6 harg6 arg7 harg7 x0 x1 x2 x3 (ix2 r e) = normed x0 x1 x2 x3 (ix2 r e) := by
  frame_out
  refine Cert.Pieces.canon_trips (fun n => pb_k0_t1 (F := Ideal) Variants.none c none i arg1 harg1 arg2 harg2 arg3 harg3 arg4 harg4 arg5 harg5 arg6 harg6 arg7 harg7 _ _ _ n) _ rfl (fun k => pb_k0_t1_succ (F := Ideal) Variants.none c none i arg1 harg1 arg2 harg2 arg3 harg3 arg4 harg4 arg5 harg5 arg6 harg6 arg7 harg7 _ _ _ k) (normed x0 x1 x2 x3) (fun k p hp x => ?_) (ix2 r e) ?_
  · unfold tripL_k0_t1 trip_k0_t1 at hp
    dsimp only at hp
    obtain rfl := List.mem_singleton.mp hp
    have hk := k0_off1_eq k
    simp (disch := decide) only [View.readAt_eq_ld, Memref.IsWhole.read_unread, View.ld_unit_lit', View.read_writes_junk_eq_canon, View.canon_cons_unit_lit']
    idx_vars x
    have h0 : k0_off1 k 0 = 16 * k.val := by rw [hk]; rfl
    have h1 : k0_off1 k 1 = 0 := by rw [hk]; rfl
    have hK : k.val < 32 := Nat.lt_of_lt_of_le k.isLt k0_t1_abs.2.1
    have he : (Rect.unit (s := S512x4096) (k0_off1 k) ![16, 4096] (k0_off1_inb k)).emb (ix2 x0 x1)
        = ix2 (n0 := 512) ⟨16 * k.val + x0.val, by omega⟩ x1 := by
      funext a
      refine Fin.ext ?_
      rw [Rect.emb_apply]
      match a with
      | ⟨0, _⟩ => show k0_off1 k 0 + 1 * x0.val = 16 * k.val + x0.val; omega
      | ⟨1, _⟩ => show k0_off1 k 1 + 1 * x1.val = x1.val; omega
    rw [he]
    unfold normed
    pointwise [k0_pay3, k0_pay1, k0_pay2]
    simp only [h0, h1, Nat.zero_add]
  · refine ⟨⟨r.val / 16, ?_⟩, ?_⟩
    · show r.val / 16 < 32
      omega
    · unfold tripL_k0_t1 trip_k0_t1
      dsimp only
      refine ⟨_, List.mem_singleton_self _, ?_⟩
      dsimp only
      rw [Rect.mem_set_unit, k0_off1_eq]
      intro a
      match a with
      | ⟨0, _⟩ => show 16 * (r.val / 16) ≤ r.val ∧ r.val < 16 * (r.val / 16) + 16; omega
      | ⟨1, _⟩ => show 0 ≤ e.val ∧ e.val < 0 + 4096; omega

variable (m : (ℓ : Loc nD τ sig) → Buf (Elt Ideal) ℓ)

/-- The block indices of the windows at a grid point. -/
theorem idx : ∀ t : Fin cfg0.N, win0_0.index t = ![t.val, 0] ∧ win0_1.index t = ![0, 0] ∧ win0_2.index t = ![t.val / 4 + 1, 0, 0]
    ∧ win0_3.index t = ![t.val / 4 + 1, 0, 1] ∧ win0_4.index t = ![t.val, 0] :=
  (by decide +kernel : ∀ t : Fin grid0.N, _)

/-- The tokens as launched, by row of all sequences and column. -/
def X (c : Dev nD) : Fin 8192 → Fin 4096 → EReal :=
  fun R C => (show FVec Ideal S4x2048x4096 .f32 from m ((c : Thread nD τ).loc main_arg0)) (ix3 ⟨R.val / 2048, by omega⟩ ⟨R.val % 2048, by omega⟩ C)

/-- The gains as launched. -/
def Gn (c : Dev nD) : Fin 4096 → EReal :=
  fun C => (show FVec Ideal S4096 .f32 from m ((c : Thread nD τ).loc main_arg1)) (ix1 C)

/-- The modulations as launched. -/
def Mod (c : Dev nD) : Fin 8 → Fin 12288 → EReal :=
  fun R C => (show FVec Ideal S8x12288 .f32 from m ((c : Thread nD τ).loc main_arg2)) (ix2 R C)

/-- A row block, read in the tokens. -/
theorem blk0 (c : Dev nD) (t : Fin cfg0.N) (r : Fin 512) (k : Fin 4096) (R : Fin 8192) (hR : R.val = t.val * 512 + r.val) :
    (show Vec Ideal S512x4096 .f32 from iblk m c 0 t) (ix2 r k) = X m c R k := by
  have h : ∀ (R : Fin 8192) (C : Fin 4096), (show FVec Ideal S8192x4096 .f32 from V m c main_v0) (ix2 R C) = X m c R C := by
    intro R C
    unfold X
    entry_read
    pointwise
  rw [← h]
  blk_ext [iblk, idx t]

/-- The gains' block. -/
theorem blk1 (c : Dev nD) (t : Fin cfg0.N) (k : Fin 4096) :
    (show Vec Ideal S1x4096 .f32 from iblk m c 1 t) (ix2 0 k) = Gn m c k := by
  have h : ∀ (C : Fin 4096), (show FVec Ideal S1x4096 .f32 from V m c main_v2) (ix2 0 C) = Gn m c C := by
    intro C
    unfold Gn
    entry_read
    pointwise
  rw [← h]
  blk_ext [iblk, idx t]

/-- The modulations when the kernel starts. -/
theorem mod_at (c : Dev nD) (R : Fin 8) (C : Fin 12288) :
    (show FVec Ideal S8x1x12288 .f32 from V m c main_v1) (ix3 R 0 C) = Mod m c R C := by
  unfold Mod
  entry_read
  pointwise

/-- The shifts' block. -/
theorem blk2 (c : Dev nD) (t : Fin cfg0.N) (k : Fin 4096) (R : Fin 8) (C : Fin 12288) (hR : R.val = t.val / 4 + 1) (hC : C.val = k.val) :
    (show Vec Ideal S1x1x4096 .f32 from iblk m c 2 t) (ix3 0 0 k) = Mod m c R C := by
  rw [← mod_at]
  blk_ext [iblk, idx t]

/-- The scales' block. -/
theorem blk3 (c : Dev nD) (t : Fin cfg0.N) (k : Fin 4096) (R : Fin 8) (C : Fin 12288) (hR : R.val = t.val / 4 + 1) (hC : C.val = 4096 + k.val) :
    (show Vec Ideal S1x1x4096 .f32 from iblk m c 3 t) (ix3 0 0 k) = Mod m c R C := by
  rw [← mod_at]
  blk_ext [iblk, idx t]

/-- The row of modulations a row of tokens takes. -/
def row (R : Fin 8192) : Fin 8 := ⟨1 + R.val / 2048, by omega⟩

/-- A row of tokens, normalised and modulated. -/
def res (c : Dev nD) (R : Fin 8192) (C : Fin 4096) : EReal :=
  X m c R C * Ideal.rsqrt (Ideal.div (∑ k : Fin 4096, X m c R k * X m c R k) (Ideal.ofBits .f32 1166016512#32) + Ideal.ofBits .f32 897988541#32)
    * (Gn m c C * (1 + Mod m c (row R) ⟨4096 + C.val, by omega⟩)) + Mod m c (row R) ⟨C.val, by omega⟩

/-- A row block's point, at an index, is the result at the row's place. -/
theorem point (c : Dev nD) (t : Fin cfg0.N) (r : Fin 512) (e : Fin 4096) (R : Fin 8192) (C : Fin 4096) (hR : R.val = t.val * 512 + r.val)
    (hC : C = e) : normed (iblk m c 0 t) (iblk m c 1 t) (iblk m c 2 t) (iblk m c 3 t) (ix2 r e) = res m c R C := by
  subst hC
  have hrow : (row R).val = t.val / 4 + 1 := by show 1 + R.val / 2048 = t.val / 4 + 1; omega
  unfold normed res
  exact congrArg₂ (· + ·) (congrArg₂ (· * ·) (congrArg₂ (· * ·) (blk0 m c t r C R hR)
    (congrArg Ideal.rsqrt (congrArg (· + Ideal.ofBits .f32 897988541#32) (congrArg (Ideal.div · (Ideal.ofBits .f32 1166016512#32))
      (Finset.sum_congr rfl fun k _ => congrArg₂ (· * ·) (blk0 m c t r k R hR) (blk0 m c t r k R hR))))))
    (congrArg₂ (· * ·) (blk1 m c t C) (congrArg (1 + ·) (blk3 m c t C _ _ hrow rfl)))) (blk2 m c t C _ _ hrow rfl)

/-- **The kernel's result.** -/
theorem final (c : Dev nD) : (dats m 0 c).arrAt 4 (cfgs 0).N = fun i : S8192x4096.Idx => res m c (i 0) (i 1) := by
  refine (dats m 0 c).arrAt_eq_of_covers 4 _ (by decide +kernel) fun t _ y => ?_
  blk_simp
  rw [after0_4]
  unfold outsAt0
  idx_vars y
  refine (out_at _ _ _ _ _ _ _ _ _ _ _ _ _ _ _ _ _ _ _ _ _ _).trans (point m c t _ _ _ _ ?_ (Fin.ext ?_))
  all_goals (try blk_simp [idx t]) <;> (try dsimp only) <;> first | rfl | omega

end Cert.NormSampleIdeal.KernelValue

namespace Cert.NormSampleProof

open Idealize.ShloMosaic Idealize.ShloMosaic.TcCoe Idealize.SL.Sem
open Cert.NormSampleRefIdeal Cert.NormSampleRefIdeal.Read Cert.NormSampleIdeal.KernelValue

/-- The reference's result at an index. -/
theorem ref_at (x0 : FVec Ideal S4x2048x4096 .f32) (x1 : FVec Ideal S4096 .f32) (x2 : FVec Ideal S8x12288 .f32) (R : Fin 8192) (C : Fin 4096) :
    val_main_v25 (F := Ideal) x0 x1 x2 (ix2 R C)
      = x0 (ix3 ⟨R.val / 2048, by omega⟩ ⟨R.val % 2048, by omega⟩ C)
          * Ideal.rsqrt (Ideal.div (∑ k : Fin 4096, x0 (ix3 ⟨R.val / 2048, by omega⟩ ⟨R.val % 2048, by omega⟩ k) * x0 (ix3 ⟨R.val / 2048, by omega⟩ ⟨R.val % 2048, by omega⟩ k))
              (Ideal.ofBits .f32 1166016512#32) + Ideal.ofBits .f32 897988541#32)
          * x1 (ix1 C) * (1 + x2 (ix2 (row R) ⟨4096 + C.val, by omega⟩)) + x2 (ix2 (row R) ⟨C.val, by omega⟩) := by
  unfold row
  pointwise [val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7,
    val_main_v6, val_main_v5, val_main_v3, val_main_v2, val_main_v1, val_main_v0, val_main_cst, val_main_cst_0, val_main_cst_1, val_main_cst_2]

/-- **The claim of equal values**: the result is the reference's. -/
theorem algebraic : Cert.algebraic_NormSampleIdeal_NormSampleRefIdeal := by
  intro m g m' g' _ hagree
  refine ⟨fun c => (Cert.NormSampleIdeal.Gen.dats m 0 c).arrAt 4 Cert.NormSampleIdeal.cfg0.N, Cert.NormSampleIdeal.Value.run_blocks m g, ?_⟩
  refine (θ_run Cert.NormSampleRefIdeal.defs _ _).mono (fun r h c => ?_) (Cert.NormSampleRefIdeal.Value.run (F := Ideal) m' g')
  obtain ⟨h0, ha⟩ := h c
  obtain ⟨a0, a1, a2⟩ := hagree c
  refine ⟨h0.trans ?_, ha⟩
  rw [Cert.NormSampleRefIdeal.Read.val_main_v25_eq, a0, a1, a2]
  refine Eq.trans ?_ (Cert.NormSampleIdeal.KernelValue.final m c).symm
  funext i
  obtain ⟨R, C, rfl⟩ : ∃ (R : Fin 8192) (C : Fin 4096), i = ix2 R C := ⟨i 0, i 1, eq_ix2 i⟩
  exact (ref_at _ _ _ R C).trans (congrArg (· + _) (mul_assoc _ _ _))

end Cert.NormSampleProof

end
-- ==== Proof.ConvTaps.lean ====
module

public import proofs.«01_k».proof.Defs
public import proofs.«01_k».proof.Proof.Gen.ConvIdeal.Value
public import proofs.«01_k».proof.Proof.Pieces
public import Idealize.ShloMosaic.Lib.Pipeline.ValueKit
public import Idealize.ShloMosaic.Lib.Claim

/-! The convolution module's loop: what its sixteen trips leave in the buffer of convolved channels. -/

@[expose] public section

set_option maxRecDepth 16384

noncomputable section

namespace Cert.ConvIdeal.KernelValue

open Idealize.ShloMosaic Idealize.ShloMosaic.TcCoe Idealize.SL.Sem
open Cert.ConvIdeal Cert.ConvIdeal.Gen

/-- The 31 taps and the bias, over rows with a halo of sixteen on either side. -/
def conv (d : Vec Ideal S16x32x128 .f32) (b : Vec Ideal S16x1x128 .f32) (h : Vec Ideal S16x288x128 .f32) (y : S16x256x128.Idx) : EReal :=
  d (ix3 (y 0) 0 (y 2)) * h (ix3 (y 0) ⟨(y 1).val + 1, by have := (y 1).isLt; change _ < 256 at this; omega⟩ (y 2)) + d (ix3 (y 0) 1 (y 2)) * h (ix3 (y 0) ⟨(y 1).val + 2, by have := (y 1).isLt; change _ < 256 at this; omega⟩ (y 2)) + d (ix3 (y 0) 2 (y 2)) * h (ix3 (y 0) ⟨(y 1).val + 3, by have := (y 1).isLt; change _ < 256 at this; omega⟩ (y 2)) + d (ix3 (y 0) 3 (y 2)) * h (ix3 (y 0) ⟨(y 1).val + 4, by have := (y 1).isLt; change _ < 256 at this; omega⟩ (y 2)) + d (ix3 (y 0) 4 (y 2)) * h (ix3 (y 0) ⟨(y 1).val + 5, by have := (y 1).isLt; change _ < 256 at this; omega⟩ (y 2)) + d (ix3 (y 0) 5 (y 2)) * h (ix3 (y 0) ⟨(y 1).val + 6, by have := (y 1).isLt; change _ < 256 at this; omega⟩ (y 2)) + d (ix3 (y 0) 6 (y 2)) * h (ix3 (y 0) ⟨(y 1).val + 7, by have := (y 1).isLt; change _ < 256 at this; omega⟩ (y 2)) + d (ix3 (y 0) 7 (y 2)) * h (ix3 (y 0) ⟨(y 1).val + 8, by have := (y 1).isLt; change _ < 256 at this; omega⟩ (y 2)) + d (ix3 (y 0) 8 (y 2)) * h (ix3 (y 0) ⟨(y 1).val + 9, by have := (y 1).isLt; change _ < 256 at this; omega⟩ (y 2)) + d (ix3 (y 0) 9 (y 2)) * h (ix3 (y 0) ⟨(y 1).val + 10, by have := (y 1).isLt; change _ < 256 at this; omega⟩ (y 2)) + d (ix3 (y 0) 10 (y 2)) * h (ix3 (y 0) ⟨(y 1).val + 11, by have := (y 1).isLt; change _ < 256 at this; omega⟩ (y 2)) + d (ix3 (y 0) 11 (y 2)) * h (ix3 (y 0) ⟨(y 1).val + 12, by have := (y 1).isLt; change _ < 256 at this; omega⟩ (y 2)) + d (ix3 (y 0) 12 (y 2)) * h (ix3 (y 0) ⟨(y 1).val + 13, by have := (y 1).isLt; change _ < 256 at this; omega⟩ (y 2)) + d (ix3 (y 0) 13 (y 2)) * h (ix3 (y 0) ⟨(y 1).val + 14, by have := (y 1).isLt; change _ < 256 at this; omega⟩ (y 2)) + d (ix3 (y 0) 14 (y 2)) * h (ix3 (y 0) ⟨(y 1).val + 15, by have := (y 1).isLt; change _ < 256 at this; omega⟩ (y 2)) + d (ix3 (y 0) 15 (y 2)) * h (ix3 (y 0) ⟨(y 1).val + 16, by have := (y 1).isLt; change _ < 256 at this; omega⟩ (y 2)) + d (ix3 (y 0) 16 (y 2)) * h (ix3 (y 0) ⟨(y 1).val + 17, by have := (y 1).isLt; change _ < 256 at this; omega⟩ (y 2)) + d (ix3 (y 0) 17 (y 2)) * h (ix3 (y 0) ⟨(y 1).val + 18, by have := (y 1).isLt; change _ < 256 at this; omega⟩ (y 2)) + d (ix3 (y 0) 18 (y 2)) * h (ix3 (y 0) ⟨(y 1).val + 19, by have := (y 1).isLt; change _ < 256 at this; omega⟩ (y 2)) + d (ix3 (y 0) 19 (y 2)) * h (ix3 (y 0) ⟨(y 1).val + 20, by have := (y 1).isLt; change _ < 256 at this; omega⟩ (y 2)) + d (ix3 (y 0) 20 (y 2)) * h (ix3 (y 0) ⟨(y 1).val + 21, by have := (y 1).isLt; change _ < 256 at this; omega⟩ (y 2)) + d (ix3 (y 0) 21 (y 2)) * h (ix3 (y 0) ⟨(y 1).val + 22, by have := (y 1).isLt; change _ < 256 at this; omega⟩ (y 2)) + d (ix3 (y 0) 22 (y 2)) * h (ix3 (y 0) ⟨(y 1).val + 23, by have := (y 1).isLt; change _ < 256 at this; omega⟩ (y 2)) + d (ix3 (y 0) 23 (y 2)) * h (ix3 (y 0) ⟨(y 1).val + 24, by have := (y 1).isLt; change _ < 256 at this; omega⟩ (y 2)) + d (ix3 (y 0) 24 (y 2)) * h (ix3 (y 0) ⟨(y 1).val + 25, by have := (y 1).isLt; change _ < 256 at this; omega⟩ (y 2)) + d (ix3 (y 0) 25 (y 2)) * h (ix3 (y 0) ⟨(y 1).val + 26, by have := (y 1).isLt; change _ < 256 at this; omega⟩ (y 2)) + d (ix3 (y 0) 26 (y 2)) * h (ix3 (y 0) ⟨(y 1).val + 27, by have := (y 1).isLt; change _ < 256 at this; omega⟩ (y 2)) + d (ix3 (y 0) 27 (y 2)) * h (ix3 (y 0) ⟨(y 1).val + 28, by have := (y 1).isLt; change _ < 256 at this; omega⟩ (y 2)) + d (ix3 (y 0) 28 (y 2)) * h (ix3 (y 0) ⟨(y 1).val + 29, by have := (y 1).isLt; change _ < 256 at this; omega⟩ (y 2)) + d (ix3 (y 0) 29 (y 2)) * h (ix3 (y 0) ⟨(y 1).val + 30, by have := (y 1).isLt; change _ < 256 at this; omega⟩ (y 2)) + d (ix3 (y 0) 30 (y 2)) * h (ix3 (y 0) ⟨(y 1).val + 31, by have := (y 1).isLt; change _ < 256 at this; omega⟩ (y 2)) + b (ix3 (y 0) 0 (y 2))

/-- A read at a trip's place, with one row. -/
theorem leaf_row {n : ℕ} (d : (⟨3, ![16, n, 128]⟩ : Shape).Idx → EReal) {off : Fin 3 → ℕ} {k t : ℕ} (ho : off = ![k, t, 0]) (e : Fin 128) (hk : k < 16) (ht : t < n)
    (p0 : off 0 < 16) (p1 : off 1 < n) (p2 : off 2 + e.val < 128) :
    d (ix3 ⟨off 0, p0⟩ ⟨off 1, p1⟩ ⟨off 2 + e.val, p2⟩) = d (ix3 ⟨k, hk⟩ ⟨t, ht⟩ e) := by
  subst ho
  refine congrArg d (congrArg (ix3 _ _) (Fin.ext ?_))
  exact Nat.zero_add _

/-- A read at a trip's place, at a row of a block. -/
theorem leaf_block (h : Vec Ideal S16x288x128 .f32) {off : Fin 3 → ℕ} {k o : ℕ} (ho : off = ![k, o, 0]) (x e q : ℕ) (hk : k < 16) (he : e < 128) (hq : o + x = q) (hq' : q < 288)
    (p0 : off 0 < 16) (p1 : off 1 + x < 288) (p2 : off 2 + e < 128) :
    h (ix3 ⟨off 0, p0⟩ ⟨off 1 + x, p1⟩ ⟨off 2 + e, p2⟩) = h (ix3 ⟨k, hk⟩ ⟨q, hq'⟩ ⟨e, he⟩) := by
  subst ho
  subst hq
  refine congrArg h (congrArg (ix3 _ _) (Fin.ext ?_))
  exact Nat.zero_add _

set_option maxHeartbeats 4000000 in
/-- What the loop leaves in the buffer of convolved channels. -/
theorem conv_canon  (c : Dev nD)  (i : grid0.Coords) (arg1 : Memref sig .tc .vmem S256x2048 .bf16) (harg1 : arg1.IsWhole) (arg2 : Memref sig .tc .vmem S256x2048 .bf16) (harg2 : arg2.IsWhole) (arg3 : Memref sig .tc .vmem S16x2048 .bf16) (harg3 : arg3.IsWhole) (arg4 : Memref sig .tc .vmem S16x2048 .bf16) (harg4 : arg4.IsWhole) (arg5 : Memref sig .tc .vmem S16x2048 .bf16) (harg5 : arg5.IsWhole) (arg6 : Memref sig .tc .vmem S16x2048 .bf16) (harg6 : arg6.IsWhole) (arg7 : Memref sig .tc .vmem S256x2048 .bf16) (harg7 : arg7.IsWhole) (arg8 : Memref sig .tc .vmem S16x32x128 .f32) (harg8 : arg8.IsWhole) (arg9 : Memref sig .tc .vmem S16x1x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S256x2048 .bf16) (harg13 : arg13.IsWhole) (arg14 : Memref sig .tc .vmem S16x288x128 .f32) (harg14 : arg14.IsWhole) (arg15 : Memref sig .tc .vmem S16x256x128 .f32) (harg15 : arg15.IsWhole) (arg16 : Memref sig .tc .vmem S256x2048 .bf16) (harg16 : arg16.IsWhole) (v15 : Ideal .f32) (v784 : FVec Ideal S16x128 .f32) (v788 : FVec Ideal S16x128 .f32) (X_arg8 : BufTy.Contents (Elt Ideal) arg8.view.ty) (X_arg9 : BufTy.Contents (Elt Ideal) arg9.view.ty) (X_arg14 : BufTy.Contents (Elt Ideal) arg14.view.ty) (y : S16x256x128.Idx) :
    View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v784 v788 X_arg8 X_arg9 X_arg14 k0_t1_loop.trips) y
      = conv (arg8.view.read (Elt Ideal) X_arg8) (arg9.view.read (Elt Ideal) X_arg9) (arg14.view.read (Elt Ideal) X_arg14) y := by
  refine Cert.Pieces.canon_trips (fun n => pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v784 v788 X_arg8 X_arg9 X_arg14 n) _ rfl (fun k => pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v784 v788 X_arg8 X_arg9 X_arg14 k) (conv (arg8.view.read (Elt Ideal) X_arg8) (arg9.view.read (Elt Ideal) X_arg9) (arg14.view.read (Elt Ideal) X_arg14)) (fun k p hp x => ?_) y ?_
  · unfold tripL_k0_t1 trip_k0_t1 at hp
    dsimp only at hp
    have hK : k.val < 16 := Nat.lt_of_lt_of_le k.isLt k0_t1_abs.2.1
    generalize hd : arg8.view.read (Elt Ideal) X_arg8 = d
    generalize hb : arg9.view.read (Elt Ideal) X_arg9 = b
    generalize hh : arg14.view.read (Elt Ideal) X_arg14 = h
    simp only [trip_k0_t1.sl.arg17, trip_k0_t1.sl.cst_971, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, View.readAt_eq_ld, hd, hb, hh] at hp
    simp only [List.mem_cons, List.not_mem_nil, or_false] at hp
    rcases hp with rfl | rfl | rfl | rfl
    · idx_vars x
      obtain rfl : x0 = 0 := Subsingleton.elim _ _
      have he : (Rect.unit (s := S16x256x128) (k0_off160 k) ![1, 64, 128] (k0_off160_inb k)).emb (ix3 0 x1 x2)
          = ix3 (n0 := 16) (n1 := 256) ⟨k.val, hK⟩ ⟨192 + x1.val, by omega⟩ x2 := by
        have ho := k0_off160_eq k
        have h0 : k0_off160 k 0 = k.val := by rw [ho]; rfl
        have h1 : k0_off160 k 1 = 192 := by rw [ho]; rfl
        have h2 : k0_off160 k 2 = 0 := by rw [ho]; rfl
        funext a
        refine Fin.ext ?_
        rw [Rect.emb_apply]
        match a with
        | ⟨0, _⟩ => show k0_off160 k 0 + 1 * 0 = k.val; omega
        | ⟨1, _⟩ => show k0_off160 k 1 + 1 * x1.val = 192 + x1.val; omega
        | ⟨2, _⟩ => show k0_off160 k 2 + 1 * x2.val = x2.val; omega
      rw [he]
      unfold conv
      pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay129]
      exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· * ·) (leaf_row d (k0_off1_eq k) _ hK _ _ _ _) (leaf_block h (k0_off129_eq k) _ _ _ hK x2.isLt (by omega) _ _ _ _)) (congrArg₂ (· * ·) (leaf_row d (k0_off3_eq k) _ hK _ _ _ _) (leaf_block h (k0_off130_eq k) _ _ _ hK x2.isLt (by omega) _ _ _ _))) (congrArg₂ (· * ·) (leaf_row d (k0_off5_eq k) _ hK _ _ _ _) (leaf_block h (k0_off131_eq k) _ _ _ hK x2.isLt (by omega) _ _ _ _))) (congrArg₂ (· * ·) (leaf_row d (k0_off7_eq k) _ hK _ _ _ _) (leaf_block h (k0_off132_eq k) _ _ _ hK x2.isLt (by omega) _ _ _ _))) (congrArg₂ (· * ·) (leaf_row d (k0_off9_eq k) _ hK _ _ _ _) (leaf_block h (k0_off133_eq k) _ _ _ hK x2.isLt (by omega) _ _ _ _))) (congrArg₂ (· * ·) (leaf_row d (k0_off11_eq k) _ hK _ _ _ _) (leaf_block h (k0_off134_eq k) _ _ _ hK x2.isLt (by omega) _ _ _ _))) (congrArg₂ (· * ·) (leaf_row d (k0_off13_eq k) _ hK _ _ _ _) (leaf_block h (k0_off135_eq k) _ _ _ hK x2.isLt (by omega) _ _ _ _))) (congrArg₂ (· * ·) (leaf_row d (k0_off15_eq k) _ hK _ _ _ _) (leaf_block h (k0_off136_eq k) _ _ _ hK x2.isLt (by omega) _ _ _ _))) (congrArg₂ (· * ·) (leaf_row d (k0_off17_eq k) _ hK _ _ _ _) (leaf_block h (k0_off137_eq k) _ _ _ hK x2.isLt (by omega) _ _ _ _))) (congrArg₂ (· * ·) (leaf_row d (k0_off19_eq k) _ hK _ _ _ _) (leaf_block h (k0_off138_eq k) _ _ _ hK x2.isLt (by omega) _ _ _ _))) (congrArg₂ (· * ·) (leaf_row d (k0_off21_eq k) _ hK _ _ _ _) (leaf_block h (k0_off139_eq k) _ _ _ hK x2.isLt (by omega) _ _ _ _))) (congrArg₂ (· * ·) (leaf_row d (k0_off23_eq k) _ hK _ _ _ _) (leaf_block h (k0_off140_eq k) _ _ _ hK x2.isLt (by omega) _ _ _ _))) (congrArg₂ (· * ·) (leaf_row d (k0_off25_eq k) _ hK _ _ _ _) (leaf_block h (k0_off141_eq k) _ _ _ hK x2.isLt (by omega) _ _ _ _))) (congrArg₂ (· * ·) (leaf_row d (k0_off27_eq k) _ hK _ _ _ _) (leaf_block h (k0_off142_eq k) _ _ _ hK x2.isLt (by omega) _ _ _ _))) (congrArg₂ (· * ·) (leaf_row d (k0_off29_eq k) _ hK _ _ _ _) (leaf_block h (k0_off143_eq k) _ _ _ hK x2.isLt (by omega) _ _ _ _))) (congrArg₂ (· * ·) (leaf_row d (k0_off31_eq k) _ hK _ _ _ _) (leaf_block h (k0_off144_eq k) _ _ _ hK x2.isLt (by omega) _ _ _ _))) (congrArg₂ (· * ·) (leaf_row d (k0_off33_eq k) _ hK _ _ _ _) (leaf_block h (k0_off145_eq k) _ _ _ hK x2.isLt (by omega) _ _ _ _))) (congrArg₂ (· * ·) (leaf_row d (k0_off35_eq k) _ hK _ _ _ _) (leaf_block h (k0_off146_eq k) _ _ _ hK x2.isLt (by omega) _ _ _ _))) (congrArg₂ (· * ·) (leaf_row d (k0_off37_eq k) _ hK _ _ _ _) (leaf_block h (k0_off147_eq k) _ _ _ hK x2.isLt (by omega) _ _ _ _))) (congrArg₂ (· * ·) (leaf_row d (k0_off39_eq k) _ hK _ _ _ _) (leaf_block h (k0_off148_eq k) _ _ _ hK x2.isLt (by omega) _ _ _ _))) (congrArg₂ (· * ·) (leaf_row d (k0_off41_eq k) _ hK _ _ _ _) (leaf_block h (k0_off149_eq k) _ _ _ hK x2.isLt (by omega) _ _ _ _))) (congrArg₂ (· * ·) (leaf_row d (k0_off43_eq k) _ hK _ _ _ _) (leaf_block h (k0_off150_eq k) _ _ _ hK x2.isLt (by omega) _ _ _ _))) (congrArg₂ (· * ·) (leaf_row d (k0_off45_eq k) _ hK _ _ _ _) (leaf_block h (k0_off151_eq k) _ _ _ hK x2.isLt (by omega) _ _ _ _))) (congrArg₂ (· * ·) (leaf_row d (k0_off47_eq k) _ hK _ _ _ _) (leaf_block h (k0_off152_eq k) _ _ _ hK x2.isLt (by omega) _ _ _ _))) (congrArg₂ (· * ·) (leaf_row d (k0_off49_eq k) _ hK _ _ _ _) (leaf_block h (k0_off153_eq k) _ _ _ hK x2.isLt (by omega) _ _ _ _))) (congrArg₂ (· * ·) (leaf_row d (k0_off51_eq k) _ hK _ _ _ _) (leaf_block h (k0_off154_eq k) _ _ _ hK x2.isLt (by omega) _ _ _ _))) (congrArg₂ (· * ·) (leaf_row d (k0_off53_eq k) _ hK _ _ _ _) (leaf_block h (k0_off155_eq k) _ _ _ hK x2.isLt (by omega) _ _ _ _))) (congrArg₂ (· * ·) (leaf_row d (k0_off55_eq k) _ hK _ _ _ _) (leaf_block h (k0_off156_eq k) _ _ _ hK x2.isLt (by omega) _ _ _ _))) (congrArg₂ (· * ·) (leaf_row d (k0_off57_eq k) _ hK _ _ _ _) (leaf_block h (k0_off157_eq k) _ _ _ hK x2.isLt (by omega) _ _ _ _))) (congrArg₂ (· * ·) (leaf_row d (k0_off59_eq k) _ hK _ _ _ _) (leaf_block h (k0_off158_eq k) _ _ _ hK x2.isLt (by omega) _ _ _ _))) (congrArg₂ (· * ·) (leaf_row d (k0_off61_eq k) _ hK _ _ _ _) (leaf_block h (k0_off159_eq k) _ _ _ hK x2.isLt (by omega) _ _ _ _))) (leaf_row b (k0_off63_eq k) _ hK _ _ _ _)
    · idx_vars x
      obtain rfl : x0 = 0 := Subsingleton.elim _ _
      have he : (Rect.unit (s := S16x256x128) (k0_off128 k) ![1, 64, 128] (k0_off128_inb k)).emb (ix3 0 x1 x2)
          = ix3 (n0 := 16) (n1 := 256) ⟨k.val, hK⟩ ⟨128 + x1.val, by omega⟩ x2 := by
        have ho := k0_off128_eq k
        have h0 : k0_off128 k 0 = k.val := by rw [ho]; rfl
        have h1 : k0_off128 k 1 = 128 := by rw [ho]; rfl
        have h2 : k0_off128 k 2 = 0 := by rw [ho]; rfl
        funext a
        refine Fin.ext ?_
        rw [Rect.emb_apply]
        match a with
        | ⟨0, _⟩ => show k0_off128 k 0 + 1 * 0 = k.val; omega
        | ⟨1, _⟩ => show k0_off128 k 1 + 1 * x1.val = 128 + x1.val; omega
        | ⟨2, _⟩ => show k0_off128 k 2 + 1 * x2.val = x2.val; omega
      rw [he]
      unfold conv
      pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay129]
      exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· * ·) (leaf_row d (k0_off1_eq k) _ hK _ _ _ _) (leaf_block h (k0_off97_eq k) _ _ _ hK x2.isLt (by omega) _ _ _ _)) (congrArg₂ (· * ·) (leaf_row d (k0_off3_eq k) _ hK _ _ _ _) (leaf_block h (k0_off98_eq k) _ _ _ hK x2.isLt (by omega) _ _ _ _))) (congrArg₂ (· * ·) (leaf_row d (k0_off5_eq k) _ hK _ _ _ _) (leaf_block h (k0_off99_eq k) _ _ _ hK x2.isLt (by omega) _ _ _ _))) (congrArg₂ (· * ·) (leaf_row d (k0_off7_eq k) _ hK _ _ _ _) (leaf_block h (k0_off100_eq k) _ _ _ hK x2.isLt (by omega) _ _ _ _))) (congrArg₂ (· * ·) (leaf_row d (k0_off9_eq k) _ hK _ _ _ _) (leaf_block h (k0_off101_eq k) _ _ _ hK x2.isLt (by omega) _ _ _ _))) (congrArg₂ (· * ·) (leaf_row d (k0_off11_eq k) _ hK _ _ _ _) (leaf_block h (k0_off102_eq k) _ _ _ hK x2.isLt (by omega) _ _ _ _))) (congrArg₂ (· * ·) (leaf_row d (k0_off13_eq k) _ hK _ _ _ _) (leaf_block h (k0_off103_eq k) _ _ _ hK x2.isLt (by omega) _ _ _ _))) (congrArg₂ (· * ·) (leaf_row d (k0_off15_eq k) _ hK _ _ _ _) (leaf_block h (k0_off104_eq k) _ _ _ hK x2.isLt (by omega) _ _ _ _))) (congrArg₂ (· * ·) (leaf_row d (k0_off17_eq k) _ hK _ _ _ _) (leaf_block h (k0_off105_eq k) _ _ _ hK x2.isLt (by omega) _ _ _ _))) (congrArg₂ (· * ·) (leaf_row d (k0_off19_eq k) _ hK _ _ _ _) (leaf_block h (k0_off106_eq k) _ _ _ hK x2.isLt (by omega) _ _ _ _))) (congrArg₂ (· * ·) (leaf_row d (k0_off21_eq k) _ hK _ _ _ _) (leaf_block h (k0_off107_eq k) _ _ _ hK x2.isLt (by omega) _ _ _ _))) (congrArg₂ (· * ·) (leaf_row d (k0_off23_eq k) _ hK _ _ _ _) (leaf_block h (k0_off108_eq k) _ _ _ hK x2.isLt (by omega) _ _ _ _))) (congrArg₂ (· * ·) (leaf_row d (k0_off25_eq k) _ hK _ _ _ _) (leaf_block h (k0_off109_eq k) _ _ _ hK x2.isLt (by omega) _ _ _ _))) (congrArg₂ (· * ·) (leaf_row d (k0_off27_eq k) _ hK _ _ _ _) (leaf_block h (k0_off110_eq k) _ _ _ hK x2.isLt (by omega) _ _ _ _))) (congrArg₂ (· * ·) (leaf_row d (k0_off29_eq k) _ hK _ _ _ _) (leaf_block h (k0_off111_eq k) _ _ _ hK x2.isLt (by omega) _ _ _ _))) (congrArg₂ (· * ·) (leaf_row d (k0_off31_eq k) _ hK _ _ _ _) (leaf_block h (k0_off112_eq k) _ _ _ hK x2.isLt (by omega) _ _ _ _))) (congrArg₂ (· * ·) (leaf_row d (k0_off33_eq k) _ hK _ _ _ _) (leaf_block h (k0_off113_eq k) _ _ _ hK x2.isLt (by omega) _ _ _ _))) (congrArg₂ (· * ·) (leaf_row d (k0_off35_eq k) _ hK _ _ _ _) (leaf_block h (k0_off114_eq k) _ _ _ hK x2.isLt (by omega) _ _ _ _))) (congrArg₂ (· * ·) (leaf_row d (k0_off37_eq k) _ hK _ _ _ _) (leaf_block h (k0_off115_eq k) _ _ _ hK x2.isLt (by omega) _ _ _ _))) (congrArg₂ (· * ·) (leaf_row d (k0_off39_eq k) _ hK _ _ _ _) (leaf_block h (k0_off116_eq k) _ _ _ hK x2.isLt (by omega) _ _ _ _))) (congrArg₂ (· * ·) (leaf_row d (k0_off41_eq k) _ hK _ _ _ _) (leaf_block h (k0_off117_eq k) _ _ _ hK x2.isLt (by omega) _ _ _ _))) (congrArg₂ (· * ·) (leaf_row d (k0_off43_eq k) _ hK _ _ _ _) (leaf_block h (k0_off118_eq k) _ _ _ hK x2.isLt (by omega) _ _ _ _))) (congrArg₂ (· * ·) (leaf_row d (k0_off45_eq k) _ hK _ _ _ _) (leaf_block h (k0_off119_eq k) _ _ _ hK x2.isLt (by omega) _ _ _ _))) (congrArg₂ (· * ·) (leaf_row d (k0_off47_eq k) _ hK _ _ _ _) (leaf_block h (k0_off120_eq k) _ _ _ hK x2.isLt (by omega) _ _ _ _))) (congrArg₂ (· * ·) (leaf_row d (k0_off49_eq k) _ hK _ _ _ _) (leaf_block h (k0_off121_eq k) _ _ _ hK x2.isLt (by omega) _ _ _ _))) (congrArg₂ (· * ·) (leaf_row d (k0_off51_eq k) _ hK _ _ _ _) (leaf_block h (k0_off122_eq k) _ _ _ hK x2.isLt (by omega) _ _ _ _))) (congrArg₂ (· * ·) (leaf_row d (k0_off53_eq k) _ hK _ _ _ _) (leaf_block h (k0_off123_eq k) _ _ _ hK x2.isLt (by omega) _ _ _ _))) (congrArg₂ (· * ·) (leaf_row d (k0_off55_eq k) _ hK _ _ _ _) (leaf_block h (k0_off124_eq k) _ _ _ hK x2.isLt (by omega) _ _ _ _))) (congrArg₂ (· * ·) (leaf_row d (k0_off57_eq k) _ hK _ _ _ _) (leaf_block h (k0_off125_eq k) _ _ _ hK x2.isLt (by omega) _ _ _ _))) (congrArg₂ (· * ·) (leaf_row d (k0_off59_eq k) _ hK _ _ _ _) (leaf_block h (k0_off126_eq k) _ _ _ hK x2.isLt (by omega) _ _ _ _))) (congrArg₂ (· * ·) (leaf_row d (k0_off61_eq k) _ hK _ _ _ _) (leaf_block h (k0_off127_eq k) _ _ _ hK x2.isLt (by omega) _ _ _ _))) (leaf_row b (k0_off63_eq k) _ hK _ _ _ _)
    · idx_vars x
      obtain rfl : x0 = 0 := Subsingleton.elim _ _
      have he : (Rect.unit (s := S16x256x128) (k0_off96 k) ![1, 64, 128] (k0_off96_inb k)).emb (ix3 0 x1 x2)
          = ix3 (n0 := 16) (n1 := 256) ⟨k.val, hK⟩ ⟨64 + x1.val, by omega⟩ x2 := by
        have ho := k0_off96_eq k
        have h0 : k0_off96 k 0 = k.val := by rw [ho]; rfl
        have h1 : k0_off96 k 1 = 64 := by rw [ho]; rfl
        have h2 : k0_off96 k 2 = 0 := by rw [ho]; rfl
        funext a
        refine Fin.ext ?_
        rw [Rect.emb_apply]
        match a with
        | ⟨0, _⟩ => show k0_off96 k 0 + 1 * 0 = k.val; omega
        | ⟨1, _⟩ => show k0_off96 k 1 + 1 * x1.val = 64 + x1.val; omega
        | ⟨2, _⟩ => show k0_off96 k 2 + 1 * x2.val = x2.val; omega
      rw [he]
      unfold conv
      pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay129]
      exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· * ·) (leaf_row d (k0_off1_eq k) _ hK _ _ _ _) (leaf_block h (k0_off65_eq k) _ _ _ hK x2.isLt (by omega) _ _ _ _)) (congrArg₂ (· * ·) (leaf_row d (k0_off3_eq k) _ hK _ _ _ _) (leaf_block h (k0_off66_eq k) _ _ _ hK x2.isLt (by omega) _ _ _ _))) (congrArg₂ (· * ·) (leaf_row d (k0_off5_eq k) _ hK _ _ _ _) (leaf_block h (k0_off67_eq k) _ _ _ hK x2.isLt (by omega) _ _ _ _))) (congrArg₂ (· * ·) (leaf_row d (k0_off7_eq k) _ hK _ _ _ _) (leaf_block h (k0_off68_eq k) _ _ _ hK x2.isLt (by omega) _ _ _ _))) (congrArg₂ (· * ·) (leaf_row d (k0_off9_eq k) _ hK _ _ _ _) (leaf_block h (k0_off69_eq k) _ _ _ hK x2.isLt (by omega) _ _ _ _))) (congrArg₂ (· * ·) (leaf_row d (k0_off11_eq k) _ hK _ _ _ _) (leaf_block h (k0_off70_eq k) _ _ _ hK x2.isLt (by omega) _ _ _ _))) (congrArg₂ (· * ·) (leaf_row d (k0_off13_eq k) _ hK _ _ _ _) (leaf_block h (k0_off71_eq k) _ _ _ hK x2.isLt (by omega) _ _ _ _))) (congrArg₂ (· * ·) (leaf_row d (k0_off15_eq k) _ hK _ _ _ _) (leaf_block h (k0_off72_eq k) _ _ _ hK x2.isLt (by omega) _ _ _ _))) (congrArg₂ (· * ·) (leaf_row d (k0_off17_eq k) _ hK _ _ _ _) (leaf_block h (k0_off73_eq k) _ _ _ hK x2.isLt (by omega) _ _ _ _))) (congrArg₂ (· * ·) (leaf_row d (k0_off19_eq k) _ hK _ _ _ _) (leaf_block h (k0_off74_eq k) _ _ _ hK x2.isLt (by omega) _ _ _ _))) (congrArg₂ (· * ·) (leaf_row d (k0_off21_eq k) _ hK _ _ _ _) (leaf_block h (k0_off75_eq k) _ _ _ hK x2.isLt (by omega) _ _ _ _))) (congrArg₂ (· * ·) (leaf_row d (k0_off23_eq k) _ hK _ _ _ _) (leaf_block h (k0_off76_eq k) _ _ _ hK x2.isLt (by omega) _ _ _ _))) (congrArg₂ (· * ·) (leaf_row d (k0_off25_eq k) _ hK _ _ _ _) (leaf_block h (k0_off77_eq k) _ _ _ hK x2.isLt (by omega) _ _ _ _))) (congrArg₂ (· * ·) (leaf_row d (k0_off27_eq k) _ hK _ _ _ _) (leaf_block h (k0_off78_eq k) _ _ _ hK x2.isLt (by omega) _ _ _ _))) (congrArg₂ (· * ·) (leaf_row d (k0_off29_eq k) _ hK _ _ _ _) (leaf_block h (k0_off79_eq k) _ _ _ hK x2.isLt (by omega) _ _ _ _))) (congrArg₂ (· * ·) (leaf_row d (k0_off31_eq k) _ hK _ _ _ _) (leaf_block h (k0_off80_eq k) _ _ _ hK x2.isLt (by omega) _ _ _ _))) (congrArg₂ (· * ·) (leaf_row d (k0_off33_eq k) _ hK _ _ _ _) (leaf_block h (k0_off81_eq k) _ _ _ hK x2.isLt (by omega) _ _ _ _))) (congrArg₂ (· * ·) (leaf_row d (k0_off35_eq k) _ hK _ _ _ _) (leaf_block h (k0_off82_eq k) _ _ _ hK x2.isLt (by omega) _ _ _ _))) (congrArg₂ (· * ·) (leaf_row d (k0_off37_eq k) _ hK _ _ _ _) (leaf_block h (k0_off83_eq k) _ _ _ hK x2.isLt (by omega) _ _ _ _))) (congrArg₂ (· * ·) (leaf_row d (k0_off39_eq k) _ hK _ _ _ _) (leaf_block h (k0_off84_eq k) _ _ _ hK x2.isLt (by omega) _ _ _ _))) (congrArg₂ (· * ·) (leaf_row d (k0_off41_eq k) _ hK _ _ _ _) (leaf_block h (k0_off85_eq k) _ _ _ hK x2.isLt (by omega) _ _ _ _))) (congrArg₂ (· * ·) (leaf_row d (k0_off43_eq k) _ hK _ _ _ _) (leaf_block h (k0_off86_eq k) _ _ _ hK x2.isLt (by omega) _ _ _ _))) (congrArg₂ (· * ·) (leaf_row d (k0_off45_eq k) _ hK _ _ _ _) (leaf_block h (k0_off87_eq k) _ _ _ hK x2.isLt (by omega) _ _ _ _))) (congrArg₂ (· * ·) (leaf_row d (k0_off47_eq k) _ hK _ _ _ _) (leaf_block h (k0_off88_eq k) _ _ _ hK x2.isLt (by omega) _ _ _ _))) (congrArg₂ (· * ·) (leaf_row d (k0_off49_eq k) _ hK _ _ _ _) (leaf_block h (k0_off89_eq k) _ _ _ hK x2.isLt (by omega) _ _ _ _))) (congrArg₂ (· * ·) (leaf_row d (k0_off51_eq k) _ hK _ _ _ _) (leaf_block h (k0_off90_eq k) _ _ _ hK x2.isLt (by omega) _ _ _ _))) (congrArg₂ (· * ·) (leaf_row d (k0_off53_eq k) _ hK _ _ _ _) (leaf_block h (k0_off91_eq k) _ _ _ hK x2.isLt (by omega) _ _ _ _))) (congrArg₂ (· * ·) (leaf_row d (k0_off55_eq k) _ hK _ _ _ _) (leaf_block h (k0_off92_eq k) _ _ _ hK x2.isLt (by omega) _ _ _ _))) (congrArg₂ (· * ·) (leaf_row d (k0_off57_eq k) _ hK _ _ _ _) (leaf_block h (k0_off93_eq k) _ _ _ hK x2.isLt (by omega) _ _ _ _))) (congrArg₂ (· * ·) (leaf_row d (k0_off59_eq k) _ hK _ _ _ _) (leaf_block h (k0_off94_eq k) _ _ _ hK x2.isLt (by omega) _ _ _ _))) (congrArg₂ (· * ·) (leaf_row d (k0_off61_eq k) _ hK _ _ _ _) (leaf_block h (k0_off95_eq k) _ _ _ hK x2.isLt (by omega) _ _ _ _))) (leaf_row b (k0_off63_eq k) _ hK _ _ _ _)
    · idx_vars x
      obtain rfl : x0 = 0 := Subsingleton.elim _ _
      have he : (Rect.unit (s := S16x256x128) (k0_off64 k) ![1, 64, 128] (k0_off64_inb k)).emb (ix3 0 x1 x2)
          = ix3 (n0 := 16) (n1 := 256) ⟨k.val, hK⟩ ⟨0 + x1.val, by omega⟩ x2 := by
        have ho := k0_off64_eq k
        have h0 : k0_off64 k 0 = k.val := by rw [ho]; rfl
        have h1 : k0_off64 k 1 = 0 := by rw [ho]; rfl
        have h2 : k0_off64 k 2 = 0 := by rw [ho]; rfl
        funext a
        refine Fin.ext ?_
        rw [Rect.emb_apply]
        match a with
        | ⟨0, _⟩ => show k0_off64 k 0 + 1 * 0 = k.val; omega
        | ⟨1, _⟩ => show k0_off64 k 1 + 1 * x1.val = 0 + x1.val; omega
        | ⟨2, _⟩ => show k0_off64 k 2 + 1 * x2.val = x2.val; omega
      rw [he]
      unfold conv
      pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay129]
      exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· * ·) (leaf_row d (k0_off1_eq k) _ hK _ _ _ _) (leaf_block h (k0_off2_eq k) _ _ _ hK x2.isLt (by omega) _ _ _ _)) (congrArg₂ (· * ·) (leaf_row d (k0_off3_eq k) _ hK _ _ _ _) (leaf_block h (k0_off4_eq k) _ _ _ hK x2.isLt (by omega) _ _ _ _))) (congrArg₂ (· * ·) (leaf_row d (k0_off5_eq k) _ hK _ _ _ _) (leaf_block h (k0_off6_eq k) _ _ _ hK x2.isLt (by omega) _ _ _ _))) (congrArg₂ (· * ·) (leaf_row d (k0_off7_eq k) _ hK _ _ _ _) (leaf_block h (k0_off8_eq k) _ _ _ hK x2.isLt (by omega) _ _ _ _))) (congrArg₂ (· * ·) (leaf_row d (k0_off9_eq k) _ hK _ _ _ _) (leaf_block h (k0_off10_eq k) _ _ _ hK x2.isLt (by omega) _ _ _ _))) (congrArg₂ (· * ·) (leaf_row d (k0_off11_eq k) _ hK _ _ _ _) (leaf_block h (k0_off12_eq k) _ _ _ hK x2.isLt (by omega) _ _ _ _))) (congrArg₂ (· * ·) (leaf_row d (k0_off13_eq k) _ hK _ _ _ _) (leaf_block h (k0_off14_eq k) _ _ _ hK x2.isLt (by omega) _ _ _ _))) (congrArg₂ (· * ·) (leaf_row d (k0_off15_eq k) _ hK _ _ _ _) (leaf_block h (k0_off16_eq k) _ _ _ hK x2.isLt (by omega) _ _ _ _))) (congrArg₂ (· * ·) (leaf_row d (k0_off17_eq k) _ hK _ _ _ _) (leaf_block h (k0_off18_eq k) _ _ _ hK x2.isLt (by omega) _ _ _ _))) (congrArg₂ (· * ·) (leaf_row d (k0_off19_eq k) _ hK _ _ _ _) (leaf_block h (k0_off20_eq k) _ _ _ hK x2.isLt (by omega) _ _ _ _))) (congrArg₂ (· * ·) (leaf_row d (k0_off21_eq k) _ hK _ _ _ _) (leaf_block h (k0_off22_eq k) _ _ _ hK x2.isLt (by omega) _ _ _ _))) (congrArg₂ (· * ·) (leaf_row d (k0_off23_eq k) _ hK _ _ _ _) (leaf_block h (k0_off24_eq k) _ _ _ hK x2.isLt (by omega) _ _ _ _))) (congrArg₂ (· * ·) (leaf_row d (k0_off25_eq k) _ hK _ _ _ _) (leaf_block h (k0_off26_eq k) _ _ _ hK x2.isLt (by omega) _ _ _ _))) (congrArg₂ (· * ·) (leaf_row d (k0_off27_eq k) _ hK _ _ _ _) (leaf_block h (k0_off28_eq k) _ _ _ hK x2.isLt (by omega) _ _ _ _))) (congrArg₂ (· * ·) (leaf_row d (k0_off29_eq k) _ hK _ _ _ _) (leaf_block h (k0_off30_eq k) _ _ _ hK x2.isLt (by omega) _ _ _ _))) (congrArg₂ (· * ·) (leaf_row d (k0_off31_eq k) _ hK _ _ _ _) (leaf_block h (k0_off32_eq k) _ _ _ hK x2.isLt (by omega) _ _ _ _))) (congrArg₂ (· * ·) (leaf_row d (k0_off33_eq k) _ hK _ _ _ _) (leaf_block h (k0_off34_eq k) _ _ _ hK x2.isLt (by omega) _ _ _ _))) (congrArg₂ (· * ·) (leaf_row d (k0_off35_eq k) _ hK _ _ _ _) (leaf_block h (k0_off36_eq k) _ _ _ hK x2.isLt (by omega) _ _ _ _))) (congrArg₂ (· * ·) (leaf_row d (k0_off37_eq k) _ hK _ _ _ _) (leaf_block h (k0_off38_eq k) _ _ _ hK x2.isLt (by omega) _ _ _ _))) (congrArg₂ (· * ·) (leaf_row d (k0_off39_eq k) _ hK _ _ _ _) (leaf_block h (k0_off40_eq k) _ _ _ hK x2.isLt (by omega) _ _ _ _))) (congrArg₂ (· * ·) (leaf_row d (k0_off41_eq k) _ hK _ _ _ _) (leaf_block h (k0_off42_eq k) _ _ _ hK x2.isLt (by omega) _ _ _ _))) (congrArg₂ (· * ·) (leaf_row d (k0_off43_eq k) _ hK _ _ _ _) (leaf_block h (k0_off44_eq k) _ _ _ hK x2.isLt (by omega) _ _ _ _))) (congrArg₂ (· * ·) (leaf_row d (k0_off45_eq k) _ hK _ _ _ _) (leaf_block h (k0_off46_eq k) _ _ _ hK x2.isLt (by omega) _ _ _ _))) (congrArg₂ (· * ·) (leaf_row d (k0_off47_eq k) _ hK _ _ _ _) (leaf_block h (k0_off48_eq k) _ _ _ hK x2.isLt (by omega) _ _ _ _))) (congrArg₂ (· * ·) (leaf_row d (k0_off49_eq k) _ hK _ _ _ _) (leaf_block h (k0_off50_eq k) _ _ _ hK x2.isLt (by omega) _ _ _ _))) (congrArg₂ (· * ·) (leaf_row d (k0_off51_eq k) _ hK _ _ _ _) (leaf_block h (k0_off52_eq k) _ _ _ hK x2.isLt (by omega) _ _ _ _))) (congrArg₂ (· * ·) (leaf_row d (k0_off53_eq k) _ hK _ _ _ _) (leaf_block h (k0_off54_eq k) _ _ _ hK x2.isLt (by omega) _ _ _ _))) (congrArg₂ (· * ·) (leaf_row d (k0_off55_eq k) _ hK _ _ _ _) (leaf_block h (k0_off56_eq k) _ _ _ hK x2.isLt (by omega) _ _ _ _))) (congrArg₂ (· * ·) (leaf_row d (k0_off57_eq k) _ hK _ _ _ _) (leaf_block h (k0_off58_eq k) _ _ _ hK x2.isLt (by omega) _ _ _ _))) (congrArg₂ (· * ·) (leaf_row d (k0_off59_eq k) _ hK _ _ _ _) (leaf_block h (k0_off60_eq k) _ _ _ hK x2.isLt (by omega) _ _ _ _))) (congrArg₂ (· * ·) (leaf_row d (k0_off61_eq k) _ hK _ _ _ _) (leaf_block h (k0_off62_eq k) _ _ _ hK x2.isLt (by omega) _ _ _ _))) (leaf_row b (k0_off63_eq k) _ hK _ _ _ _)
  · idx_vars y
    refine ⟨⟨y0.val, y0.isLt⟩, ?_⟩
    unfold tripL_k0_t1 trip_k0_t1
    dsimp only
    simp only [List.mem_cons, List.not_mem_nil, or_false, exists_eq_or_imp, exists_eq_left]
    rw [Rect.mem_set_unit, Rect.mem_set_unit, Rect.mem_set_unit, Rect.mem_set_unit, k0_off64_eq, k0_off96_eq, k0_off128_eq, k0_off160_eq]
    have hy := y1.isLt
    have hc : ∀ o : ℕ, o ≤ y1.val → y1.val < o + 64 → ∀ a : Fin 3, (![y0.val, o, 0] : Fin 3 → ℕ) a ≤ ((ix3 y0 y1 y2 : S16x256x128.Idx) a).val
        ∧ ((ix3 y0 y1 y2 : S16x256x128.Idx) a).val < (![y0.val, o, 0] : Fin 3 → ℕ) a + (![1, 64, 128] : Fin 3 → ℕ) a := by
      intro o h1 h2 a
      match a with
      | ⟨0, _⟩ => show y0.val ≤ y0.val ∧ y0.val < y0.val + 1; omega
      | ⟨1, _⟩ => exact ⟨h1, h2⟩
      | ⟨2, _⟩ => show 0 ≤ y2.val ∧ y2.val < 0 + 128; omega
    rcases (show 192 ≤ y1.val ∨ 128 ≤ y1.val ∧ y1.val < 192 ∨ 64 ≤ y1.val ∧ y1.val < 128 ∨ y1.val < 64 by omega) with h | ⟨h, h'⟩ | ⟨h, h'⟩ | h
    · exact Or.inl (hc 192 h (by omega))
    · exact Or.inr (Or.inl (hc 128 h h'))
    · exact Or.inr (Or.inr (Or.inl (hc 64 h h')))
    · exact Or.inr (Or.inr (Or.inr (hc 0 (Nat.zero_le _) (by omega))))

end Cert.ConvIdeal.KernelValue

end
-- ==== Proof.ConvHalo.lean ====
module

public import proofs.«01_k».proof.Defs
public import proofs.«01_k».proof.Proof.Gen.ConvIdeal.Value
public import proofs.«01_k».proof.Proof.Pieces
public import Idealize.ShloMosaic.Lib.Pipeline.ValueKit
public import Idealize.ShloMosaic.Lib.Claim

/-! The convolution module's gated rows with their halo, as the kernel lays them out. -/

@[expose] public section

set_option maxRecDepth 16384

noncomputable section

namespace Cert.ConvIdeal.KernelValue

open Idealize.ShloMosaic Idealize.ShloMosaic.TcCoe Idealize.SL.Sem
open Cert.ConvIdeal Cert.ConvIdeal.Gen

/-- The logistic function by the hyperbolic tangent. -/
def sg (b : EReal) : EReal := Ideal.ofBits .f32 0x3F000000#32 * Ideal.tanh (Ideal.ofBits .f32 0x3F000000#32 * b) + Ideal.ofBits .f32 0x3F000000#32

/-- The channel of a chunk and a lane. -/
def chan (c : Fin 16) (l : Fin 128) : Fin 2048 := ⟨c.val * 128 + l.val, by omega⟩

/-- Gated rows, with the halo's rows above and below times one or zero. -/
def halo (kp kn : EReal) (x0 x1 : Vec Ideal S256x2048 .bf16) (x2 x3 x4 x5 : Vec Ideal S16x2048 .bf16) (y : S16x288x128.Idx) : EReal :=
  if h : (y 1).val < 16 then kp * (x2 (ix2 ⟨(y 1).val, h⟩ (chan (y 0) (y 2))) * sg (x3 (ix2 ⟨(y 1).val, h⟩ (chan (y 0) (y 2)))))
  else if h' : (y 1).val < 272 then x0 (ix2 ⟨(y 1).val - 16, by omega⟩ (chan (y 0) (y 2))) * sg (x1 (ix2 ⟨(y 1).val - 16, by omega⟩ (chan (y 0) (y 2))))
  else kn * (x4 (ix2 ⟨(y 1).val - 272, by have := (y 1).isLt; change _ < 288 at this; omega⟩ (chan (y 0) (y 2))) * sg (x5 (ix2 ⟨(y 1).val - 272, by have := (y 1).isLt; change _ < 288 at this; omega⟩ (chan (y 0) (y 2)))))

/-- The rows above the block. -/
theorem halo_top (kp kn : EReal) (x0 x1 : Vec Ideal S256x2048 .bf16) (x2 x3 x4 x5 : Vec Ideal S16x2048 .bf16) (a : Fin 16) (r : Fin 16) (q : Fin 288) (hq : q.val = 0 + r.val) (l : Fin 128) :
    halo kp kn x0 x1 x2 x3 x4 x5 (ix3 a q l) = kp * (x2 (ix2 r (chan a l)) * sg (x3 (ix2 r (chan a l)))) := by
  obtain ⟨q, hq'⟩ := q
  obtain rfl : q = r.val := by simpa using hq
  exact dif_pos r.isLt

/-- The block's rows. -/
theorem halo_mid (kp kn : EReal) (x0 x1 : Vec Ideal S256x2048 .bf16) (x2 x3 x4 x5 : Vec Ideal S16x2048 .bf16) (a : Fin 16) (r : Fin 256) (q : Fin 288) (hq : q.val = 16 + r.val) (l : Fin 128) :
    halo kp kn x0 x1 x2 x3 x4 x5 (ix3 a q l) = x0 (ix2 r (chan a l)) * sg (x1 (ix2 r (chan a l))) := by
  have h1 : ¬ q.val < 16 := by omega
  have h2 : q.val < 272 := by omega
  have hr : (⟨q.val - 16, by omega⟩ : Fin 256) = r := Fin.ext (by show q.val - 16 = r.val; omega)
  refine (dif_neg h1).trans ((dif_pos h2).trans ?_)
  show x0 (ix2 ⟨q.val - 16, _⟩ _) * sg (x1 (ix2 ⟨q.val - 16, _⟩ _)) = _
  rw [hr]
  rfl

/-- The rows below the block. -/
theorem halo_bot (kp kn : EReal) (x0 x1 : Vec Ideal S256x2048 .bf16) (x2 x3 x4 x5 : Vec Ideal S16x2048 .bf16) (a : Fin 16) (r : Fin 16) (q : Fin 288) (hq : q.val = 272 + r.val) (l : Fin 128) :
    halo kp kn x0 x1 x2 x3 x4 x5 (ix3 a q l) = kn * (x4 (ix2 r (chan a l)) * sg (x5 (ix2 r (chan a l)))) := by
  have h1 : ¬ q.val < 16 := by omega
  have h2 : ¬ q.val < 272 := by omega
  have hr : (⟨q.val - 272, by omega⟩ : Fin 16) = r := Fin.ext (by show q.val - 272 = r.val; omega)
  refine (dif_neg h1).trans ((dif_neg h2).trans ?_)
  show kn * (x4 (ix2 ⟨q.val - 272, _⟩ _) * sg (x5 (ix2 ⟨q.val - 272, _⟩ _))) = _
  rw [hr]
  rfl

/-- Where a stored block's index lies. -/
theorem emb_at {n : ℕ} (cc o : ℕ) (inb : ∀ a, (![cc, o, 0] : Fin 3 → ℕ) a + (![1, n, 128] : Fin 3 → ℕ) a ≤ S16x288x128.size a) (a : Fin n) (l : Fin 128) (hc : cc < 16) (ho : o + a.val < 288) :
    (Rect.unit (s := S16x288x128) ![cc, o, 0] ![1, n, 128] inb).emb (ix3 0 a l) = ix3 (n0 := 16) (n1 := 288) ⟨cc, hc⟩ ⟨o + a.val, ho⟩ l := by
  funext b
  refine Fin.ext ?_
  rw [Rect.emb_apply]
  match b with
  | ⟨0, _⟩ => show cc + 1 * 0 = cc; omega
  | ⟨1, _⟩ => show o + 1 * a.val = o + a.val; omega
  | ⟨2, _⟩ => show 0 + 1 * l.val = l.val; omega

/-- Which indices a stored block covers. -/
theorem cover_at {n : ℕ} (cc o : ℕ) (inb : ∀ a, (![cc, o, 0] : Fin 3 → ℕ) a + (![1, n, 128] : Fin 3 → ℕ) a ≤ S16x288x128.size a) (q : Fin 288) (l : Fin 128) (hc : cc < 16) (h1 : o ≤ q.val) (h2 : q.val < o + n) :
    (ix3 (n0 := 16) (n1 := 288) ⟨cc, hc⟩ q l : S16x288x128.Idx) ∈ (Rect.unit (s := S16x288x128) ![cc, o, 0] ![1, n, 128] inb).set := by
  rw [Rect.mem_set_unit]
  intro b
  match b with
  | ⟨0, _⟩ => show cc ≤ cc ∧ cc < cc + 1; omega
  | ⟨1, _⟩ => exact ⟨h1, h2⟩
  | ⟨2, _⟩ => show 0 ≤ l.val ∧ l.val < 0 + 128; omega

set_option maxHeartbeats 40000000 in
/-- **What the kernel lays out**: the gated rows with their halo. -/
theorem halo_canon (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S16x2048 .bf16) (harg3 : arg3.IsWhole) (arg4 : Memref sig .tc .vmem S16x2048 .bf16) (harg4 : arg4.IsWhole) (arg5 : Memref sig .tc .vmem S16x2048 .bf16) (harg5 : arg5.IsWhole) (arg6 : Memref sig .tc .vmem S16x2048 .bf16) (harg6 : arg6.IsWhole) (x0 : Vec Ideal S256x2048 .bf16) (x1 : Vec Ideal S256x2048 .bf16) (x2 : Vec Ideal S16x2048 .bf16) (x3 : Vec Ideal S16x2048 .bf16) (x4 : Vec Ideal S16x2048 .bf16) (x5 : Vec Ideal S16x2048 .bf16) : View.canon (kernelRun0_A.sl.HS0_48 (F := Ideal) c i arg1 harg1 arg2 harg2 arg3 harg3 arg4 harg4 arg5 harg5 arg6 harg6 x0 x1 x2 x3 x4 x5) = halo (k0_pay50 (F := Ideal) i) (k0_pay51 (F := Ideal) i) x0 x1 x2 x3 x4 x5 := by
  funext y
  refine View.canon_apply_of_pieces (Val := Elt Ideal) (e := .f32) (halo (k0_pay50 (F := Ideal) i) (k0_pay51 (F := Ideal) i) x0 x1 x2 x3 x4 x5) _ ?_ y ?_
  · unfold kernelRun0_A.sl.HS0_48
    generalize h50 : k0_pay50 (F := Ideal) i = kp
    generalize h51 : k0_pay51 (F := Ideal) i = kn
    simp only [List.forall_mem_cons, List.not_mem_nil, false_imp_iff, implies_true, and_true]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
    · intro y
      idx_vars y
      obtain rfl : y0 = 0 := Subsingleton.elim _ _
      rw [emb_at 15 272 _ y1 y2 (by omega) (by omega), halo_bot _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 15 16 _ y1 y2 (by omega) (by omega), halo_mid _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 15 0 _ y1 y2 (by omega) (by omega), halo_top _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 14 272 _ y1 y2 (by omega) (by omega), halo_bot _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 14 16 _ y1 y2 (by omega) (by omega), halo_mid _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 14 0 _ y1 y2 (by omega) (by omega), halo_top _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 13 272 _ y1 y2 (by omega) (by omega), halo_bot _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 13 16 _ y1 y2 (by omega) (by omega), halo_mid _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 13 0 _ y1 y2 (by omega) (by omega), halo_top _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 12 272 _ y1 y2 (by omega) (by omega), halo_bot _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 12 16 _ y1 y2 (by omega) (by omega), halo_mid _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 12 0 _ y1 y2 (by omega) (by omega), halo_top _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 11 272 _ y1 y2 (by omega) (by omega), halo_bot _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 11 16 _ y1 y2 (by omega) (by omega), halo_mid _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 11 0 _ y1 y2 (by omega) (by omega), halo_top _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 10 272 _ y1 y2 (by omega) (by omega), halo_bot _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 10 16 _ y1 y2 (by omega) (by omega), halo_mid _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 10 0 _ y1 y2 (by omega) (by omega), halo_top _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 9 272 _ y1 y2 (by omega) (by omega), halo_bot _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 9 16 _ y1 y2 (by omega) (by omega), halo_mid _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 9 0 _ y1 y2 (by omega) (by omega), halo_top _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 8 272 _ y1 y2 (by omega) (by omega), halo_bot _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 8 16 _ y1 y2 (by omega) (by omega), halo_mid _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 8 0 _ y1 y2 (by omega) (by omega), halo_top _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 7 272 _ y1 y2 (by omega) (by omega), halo_bot _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 7 16 _ y1 y2 (by omega) (by omega), halo_mid _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 7 0 _ y1 y2 (by omega) (by omega), halo_top _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 6 272 _ y1 y2 (by omega) (by omega), halo_bot _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 6 16 _ y1 y2 (by omega) (by omega), halo_mid _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 6 0 _ y1 y2 (by omega) (by omega), halo_top _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 5 272 _ y1 y2 (by omega) (by omega), halo_bot _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 5 16 _ y1 y2 (by omega) (by omega), halo_mid _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 5 0 _ y1 y2 (by omega) (by omega), halo_top _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 4 272 _ y1 y2 (by omega) (by omega), halo_bot _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 4 16 _ y1 y2 (by omega) (by omega), halo_mid _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 4 0 _ y1 y2 (by omega) (by omega), halo_top _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 3 272 _ y1 y2 (by omega) (by omega), halo_bot _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 3 16 _ y1 y2 (by omega) (by omega), halo_mid _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 3 0 _ y1 y2 (by omega) (by omega), halo_top _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 2 272 _ y1 y2 (by omega) (by omega), halo_bot _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 2 16 _ y1 y2 (by omega) (by omega), halo_mid _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 2 0 _ y1 y2 (by omega) (by omega), halo_top _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 1 272 _ y1 y2 (by omega) (by omega), halo_bot _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 1 16 _ y1 y2 (by omega) (by omega), halo_mid _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 1 0 _ y1 y2 (by omega) (by omega), halo_top _ _ _ _ _ _ _ _ _ y1 _ rfl]
      skip
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 0 272 _ y1 y2 (by omega) (by omega), halo_bot _ _ _ _ _ _ _ _ _ y1 _ rfl]
      rw [show chan ⟨0, by omega⟩ y2 = (⟨y2.val, by omega⟩ : Fin 2048) from Fin.ext (by show 0 * 128 + y2.val = y2.val; omega)]
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 0 16 _ y1 y2 (by omega) (by omega), halo_mid _ _ _ _ _ _ _ _ _ y1 _ rfl]
      rw [show chan ⟨0, by omega⟩ y2 = (⟨y2.val, by omega⟩ : Fin 2048) from Fin.ext (by show 0 * 128 + y2.val = y2.val; omega)]
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
    · intro y
      idx_vars y
      obtain rfl : y0 = 0 := Subsingleton.elim _ _
      rw [emb_at 0 0 _ y1 y2 (by omega) (by omega), halo_top _ _ _ _ _ _ _ _ _ y1 _ rfl]
      rw [show chan ⟨0, by omega⟩ y2 = (⟨y2.val, by omega⟩ : Fin 2048) from Fin.ext (by show 0 * 128 + y2.val = y2.val; omega)]
      simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_34, kernelRun0_A.sl.r_28, kernelRun0_A.sl.r_29, View.readAt_eq_ld, Memref.IsWhole.read_unread]
      unfold sg
      pointwise [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, h50, h51]
      try rfl
  · idx_vars y
    unfold kernelRun0_A.sl.HS0_48
    simp only [List.mem_cons, List.not_mem_nil, or_false, exists_eq_or_imp, exists_eq_left]
    obtain ⟨a, ha⟩ := y0
    have hy := y1.isLt
    rcases (show y1.val < 16 ∨ 16 ≤ y1.val ∧ y1.val < 272 ∨ 272 ≤ y1.val by omega) with h | ⟨h, h'⟩ | h
    · interval_cases a
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (cover_at 0 0 _ y1 y2 ha (Nat.zero_le _) (by omega))))))))))))))))))))))))))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 1 0 _ y1 y2 ha (Nat.zero_le _) (by omega))))))))))))))))))))))))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 2 0 _ y1 y2 ha (Nat.zero_le _) (by omega)))))))))))))))))))))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 3 0 _ y1 y2 ha (Nat.zero_le _) (by omega))))))))))))))))))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 4 0 _ y1 y2 ha (Nat.zero_le _) (by omega)))))))))))))))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 5 0 _ y1 y2 ha (Nat.zero_le _) (by omega))))))))))))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 6 0 _ y1 y2 ha (Nat.zero_le _) (by omega)))))))))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 7 0 _ y1 y2 ha (Nat.zero_le _) (by omega))))))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 8 0 _ y1 y2 ha (Nat.zero_le _) (by omega)))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 9 0 _ y1 y2 ha (Nat.zero_le _) (by omega))))))))))))))))))))))
      · exact Or.inr (Or.inr (Or.inr (Or.inr (Or.inr (Or.inr (Or.inr (Or.inr (Or.inr (Or.inr (Or.inr (Or.inr (Or.inr (Or.inr (Or.inr (Or.inr (Or.inr (Or.inl (cover_at 10 0 _ y1 y2 ha (Nat.zero_le _) (by omega)))))))))))))))))))
      · exact Or.inr (Or.inr (Or.inr (Or.inr (Or.inr (Or.inr (Or.inr (Or.inr (Or.inr (Or.inr (Or.inr (Or.inr (Or.inr (Or.inr (Or.inl (cover_at 11 0 _ y1 y2 ha (Nat.zero_le _) (by omega))))))))))))))))
      · exact Or.inr (Or.inr (Or.inr (Or.inr (Or.inr (Or.inr (Or.inr (Or.inr (Or.inr (Or.inr (Or.inr (Or.inl (cover_at 12 0 _ y1 y2 ha (Nat.zero_le _) (by omega)))))))))))))
      · exact Or.inr (Or.inr (Or.inr (Or.inr (Or.inr (Or.inr (Or.inr (Or.inr (Or.inl (cover_at 13 0 _ y1 y2 ha (Nat.zero_le _) (by omega))))))))))
      · exact Or.inr (Or.inr (Or.inr (Or.inr (Or.inr (Or.inl (cover_at 14 0 _ y1 y2 ha (Nat.zero_le _) (by omega)))))))
      · exact Or.inr (Or.inr (Or.inl (cover_at 15 0 _ y1 y2 ha (Nat.zero_le _) (by omega))))
    · interval_cases a
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 0 16 _ y1 y2 ha h (by omega))))))))))))))))))))))))))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 1 16 _ y1 y2 ha h (by omega)))))))))))))))))))))))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 2 16 _ y1 y2 ha h (by omega))))))))))))))))))))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 3 16 _ y1 y2 ha h (by omega)))))))))))))))))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 4 16 _ y1 y2 ha h (by omega))))))))))))))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 5 16 _ y1 y2 ha h (by omega)))))))))))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 6 16 _ y1 y2 ha h (by omega))))))))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 7 16 _ y1 y2 ha h (by omega)))))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 8 16 _ y1 y2 ha h (by omega))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 9 16 _ y1 y2 ha h (by omega)))))))))))))))))))))
      · exact Or.inr (Or.inr (Or.inr (Or.inr (Or.inr (Or.inr (Or.inr (Or.inr (Or.inr (Or.inr (Or.inr (Or.inr (Or.inr (Or.inr (Or.inr (Or.inr (Or.inl (cover_at 10 16 _ y1 y2 ha h (by omega))))))))))))))))))
      · exact Or.inr (Or.inr (Or.inr (Or.inr (Or.inr (Or.inr (Or.inr (Or.inr (Or.inr (Or.inr (Or.inr (Or.inr (Or.inr (Or.inl (cover_at 11 16 _ y1 y2 ha h (by omega)))))))))))))))
      · exact Or.inr (Or.inr (Or.inr (Or.inr (Or.inr (Or.inr (Or.inr (Or.inr (Or.inr (Or.inr (Or.inl (cover_at 12 16 _ y1 y2 ha h (by omega))))))))))))
      · exact Or.inr (Or.inr (Or.inr (Or.inr (Or.inr (Or.inr (Or.inr (Or.inl (cover_at 13 16 _ y1 y2 ha h (by omega)))))))))
      · exact Or.inr (Or.inr (Or.inr (Or.inr (Or.inl (cover_at 14 16 _ y1 y2 ha h (by omega))))))
      · exact Or.inr (Or.inl (cover_at 15 16 _ y1 y2 ha h (by omega)))
    · interval_cases a
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 0 272 _ y1 y2 ha h (by omega)))))))))))))))))))))))))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 1 272 _ y1 y2 ha h (by omega))))))))))))))))))))))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 2 272 _ y1 y2 ha h (by omega)))))))))))))))))))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 3 272 _ y1 y2 ha h (by omega))))))))))))))))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 4 272 _ y1 y2 ha h (by omega)))))))))))))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 5 272 _ y1 y2 ha h (by omega))))))))))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 6 272 _ y1 y2 ha h (by omega)))))))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 7 272 _ y1 y2 ha h (by omega))))))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl (cover_at 8 272 _ y1 y2 ha h (by omega)))))))))))))))))))))))
      · exact Or.inr (Or.inr (Or.inr (Or.inr (Or.inr (Or.inr (Or.inr (Or.inr (Or.inr (Or.inr (Or.inr (Or.inr (Or.inr (Or.inr (Or.inr (Or.inr (Or.inr (Or.inr (Or.inl (cover_at 9 272 _ y1 y2 ha h (by omega))))))))))))))))))))
      · exact Or.inr (Or.inr (Or.inr (Or.inr (Or.inr (Or.inr (Or.inr (Or.inr (Or.inr (Or.inr (Or.inr (Or.inr (Or.inr (Or.inr (Or.inr (Or.inl (cover_at 10 272 _ y1 y2 ha h (by omega)))))))))))))))))
      · exact Or.inr (Or.inr (Or.inr (Or.inr (Or.inr (Or.inr (Or.inr (Or.inr (Or.inr (Or.inr (Or.inr (Or.inr (Or.inl (cover_at 11 272 _ y1 y2 ha h (by omega))))))))))))))
      · exact Or.inr (Or.inr (Or.inr (Or.inr (Or.inr (Or.inr (Or.inr (Or.inr (Or.inr (Or.inl (cover_at 12 272 _ y1 y2 ha h (by omega)))))))))))
      · exact Or.inr (Or.inr (Or.inr (Or.inr (Or.inr (Or.inr (Or.inl (cover_at 13 272 _ y1 y2 ha h (by omega))))))))
      · exact Or.inr (Or.inr (Or.inr (Or.inl (cover_at 14 272 _ y1 y2 ha h (by omega)))))
      · exact Or.inl (cover_at 15 272 _ y1 y2 ha h (by omega))

end Cert.ConvIdeal.KernelValue

end
-- ==== Proof.ConvNorm.lean ====
module

public import proofs.«01_k».proof.Defs
public import proofs.«01_k».proof.Proof.Gen.ConvIdeal.Value
public import proofs.«01_k».proof.Proof.Pieces
public import proofs.«01_k».proof.Proof.ConvTaps
public import Idealize.ShloMosaic.Lib.Pipeline.ValueKit
public import Idealize.ShloMosaic.Lib.Claim

/-! The convolution module's normalisation over channels: mean, root and gate of the convolved rows. -/

@[expose] public section

set_option maxRecDepth 16384

noncomputable section

namespace Cert.ConvIdeal.KernelValue

open Idealize.ShloMosaic Idealize.ShloMosaic.TcCoe Idealize.SL.Sem
open Cert.ConvIdeal Cert.ConvIdeal.Gen

/-- A row's mean over the channels. -/
def mean (C : Vec Ideal S16x256x128 .f32) (r : Fin 256) : EReal :=
  Ideal.div (∑ l : Fin 128, (C (ix3 0 r l) + C (ix3 1 r l) + C (ix3 2 r l) + C (ix3 3 r l) + C (ix3 4 r l) + C (ix3 5 r l) + C (ix3 6 r l) + C (ix3 7 r l) + C (ix3 8 r l) + C (ix3 9 r l) + C (ix3 10 r l) + C (ix3 11 r l) + C (ix3 12 r l) + C (ix3 13 r l) + C (ix3 14 r l) + C (ix3 15 r l))) (Ideal.ofBits .f32 0x45000000#32)

/-- The reciprocal of a row's deviation. -/
def root (C : Vec Ideal S16x256x128 .f32) (r : Fin 256) : EReal :=
  Ideal.rsqrt (Ideal.div (∑ l : Fin 128, ((C (ix3 0 r l) - mean C r) * (C (ix3 0 r l) - mean C r) + (C (ix3 1 r l) - mean C r) * (C (ix3 1 r l) - mean C r) + (C (ix3 2 r l) - mean C r) * (C (ix3 2 r l) - mean C r) + (C (ix3 3 r l) - mean C r) * (C (ix3 3 r l) - mean C r) + (C (ix3 4 r l) - mean C r) * (C (ix3 4 r l) - mean C r) + (C (ix3 5 r l) - mean C r) * (C (ix3 5 r l) - mean C r) + (C (ix3 6 r l) - mean C r) * (C (ix3 6 r l) - mean C r) + (C (ix3 7 r l) - mean C r) * (C (ix3 7 r l) - mean C r) + (C (ix3 8 r l) - mean C r) * (C (ix3 8 r l) - mean C r) + (C (ix3 9 r l) - mean C r) * (C (ix3 9 r l) - mean C r) + (C (ix3 10 r l) - mean C r) * (C (ix3 10 r l) - mean C r) + (C (ix3 11 r l) - mean C r) * (C (ix3 11 r l) - mean C r) + (C (ix3 12 r l) - mean C r) * (C (ix3 12 r l) - mean C r) + (C (ix3 13 r l) - mean C r) * (C (ix3 13 r l) - mean C r) + (C (ix3 14 r l) - mean C r) * (C (ix3 14 r l) - mean C r) + (C (ix3 15 r l) - mean C r) * (C (ix3 15 r l) - mean C r))) (Ideal.ofBits .f32 0x45000000#32) + Ideal.ofBits .f32 0x358637BD#32)

/-- A load of the convolved channels after the loop. -/
theorem chunk (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S16x2048 .bf16) (harg3 : arg3.IsWhole) (arg4 : Memref sig .tc .vmem S16x2048 .bf16) (harg4 : arg4.IsWhole) (arg5 : Memref sig .tc .vmem S16x2048 .bf16) (harg5 : arg5.IsWhole) (arg6 : Memref sig .tc .vmem S16x2048 .bf16) (harg6 : arg6.IsWhole) (arg7 : Memref sig .tc .vmem S256x2048 .bf16) (harg7 : arg7.IsWhole) (arg8 : Memref sig .tc .vmem S16x32x128 .f32) (harg8 : arg8.IsWhole) (arg9 : Memref sig .tc .vmem S16x1x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S256x2048 .bf16) (harg13 : arg13.IsWhole) (arg14 : Memref sig .tc .vmem S16x288x128 .f32) (harg14 : arg14.IsWhole) (arg15 : Memref sig .tc .vmem S16x256x128 .f32) (harg15 : arg15.IsWhole) (arg16 : Memref sig .tc .vmem S256x2048 .bf16) (harg16 : arg16.IsWhole) (v15 : Ideal .f32) (v784 v788 : FVec Ideal S16x128 .f32) (x7 : Vec Ideal S16x32x128 .f32) (x8 : Vec Ideal S16x1x128 .f32) (L : List (View.Piece (Elt Ideal) S16x288x128 .f32)) (q : Rect S16x256x128) :
    arg15.view.readCov (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v784 v788 (harg8.unread x7) (harg9.unread x8) (arg14.view.writes (Elt Ideal) arg14.view.junk L) (Scf.trips k0_t1_loop.lb k0_t1_loop.ub k0_t1_loop.st)) q.toLoadRect
      = View.ld (conv x7 x8 (View.canon L)) q := by
  rw [View.readCov_eq_canon']
  funext j
  refine (conv_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v784 v788 (harg8.unread x7) (harg9.unread x8) (arg14.view.writes (Elt Ideal) arg14.view.junk L) _).trans ?_
  rw [harg8.read_unread, harg9.read_unread, View.read_writes_junk_eq_canon]

set_option maxHeartbeats 4000000 in
/-- The mean the kernel computes. -/
theorem mean_at (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S16x2048 .bf16) (harg3 : arg3.IsWhole) (arg4 : Memref sig .tc .vmem S16x2048 .bf16) (harg4 : arg4.IsWhole) (arg5 : Memref sig .tc .vmem S16x2048 .bf16) (harg5 : arg5.IsWhole) (arg6 : Memref sig .tc .vmem S16x2048 .bf16) (harg6 : arg6.IsWhole) (arg7 : Memref sig .tc .vmem S256x2048 .bf16) (harg7 : arg7.IsWhole) (arg8 : Memref sig .tc .vmem S16x32x128 .f32) (harg8 : arg8.IsWhole) (arg9 : Memref sig .tc .vmem S16x1x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S256x2048 .bf16) (harg13 : arg13.IsWhole) (arg14 : Memref sig .tc .vmem S16x288x128 .f32) (harg14 : arg14.IsWhole) (arg15 : Memref sig .tc .vmem S16x256x128 .f32) (harg15 : arg15.IsWhole) (arg16 : Memref sig .tc .vmem S256x2048 .bf16) (harg16 : arg16.IsWhole) (x0 : Vec Ideal S256x2048 .bf16) (x1 : Vec Ideal S256x2048 .bf16) (x2 : Vec Ideal S16x2048 .bf16) (x3 : Vec Ideal S16x2048 .bf16) (x4 : Vec Ideal S16x2048 .bf16) (x5 : Vec Ideal S16x2048 .bf16) (x7 : Vec Ideal S16x32x128 .f32) (x8 : Vec Ideal S16x1x128 .f32) (r : Fin 256) :
    kernelRun0_A.sl.r_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 (ix2 r 0) = mean (conv x7 x8 (View.canon (kernelRun0_A.sl.HS0_48 (F := Ideal) c i arg1 harg1 arg2 harg2 arg3 harg3 arg4 harg4 arg5 harg5 arg6 harg6 x0 x1 x2 x3 x4 x5))) r := by
  unfold kernelRun0_A.sl.r_34 kernelRun0_A.sl.r_32 kernelRun0_A.sl.r_33 kernelRun0_A.sl.r_30 kernelRun0_A.sl.r_31
  have h := fun q => chunk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay51 i) (kernelRun0_A.sl.r_28 (F := Ideal) c arg5 harg5 x4) (kernelRun0_A.sl.r_29 (F := Ideal) c arg6 harg6 x5) x7 x8 (kernelRun0_A.sl.HS0_48 (F := Ideal) c i arg1 harg1 arg2 harg2 arg3 harg3 arg4 harg4 arg5 harg5 arg6 harg6 x0 x1 x2 x3 x4 x5) q
  repeat rw [h]
  clear h
  generalize conv x7 x8 (View.canon (kernelRun0_A.sl.HS0_48 (F := Ideal) c i arg1 harg1 arg2 harg2 arg3 harg3 arg4 harg4 arg5 harg5 arg6 harg6 x0 x1 x2 x3 x4 x5)) = C
  unfold mean
  pointwise [k0_pay134, k0_pay133, k0_pay132, k0_pay131, k0_pay130]

set_option maxHeartbeats 4000000 in
/-- The reciprocal deviation the kernel computes. -/
theorem root_at (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S16x2048 .bf16) (harg3 : arg3.IsWhole) (arg4 : Memref sig .tc .vmem S16x2048 .bf16) (harg4 : arg4.IsWhole) (arg5 : Memref sig .tc .vmem S16x2048 .bf16) (harg5 : arg5.IsWhole) (arg6 : Memref sig .tc .vmem S16x2048 .bf16) (harg6 : arg6.IsWhole) (arg7 : Memref sig .tc .vmem S256x2048 .bf16) (harg7 : arg7.IsWhole) (arg8 : Memref sig .tc .vmem S16x32x128 .f32) (harg8 : arg8.IsWhole) (arg9 : Memref sig .tc .vmem S16x1x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S256x2048 .bf16) (harg13 : arg13.IsWhole) (arg14 : Memref sig .tc .vmem S16x288x128 .f32) (harg14 : arg14.IsWhole) (arg15 : Memref sig .tc .vmem S16x256x128 .f32) (harg15 : arg15.IsWhole) (arg16 : Memref sig .tc .vmem S256x2048 .bf16) (harg16 : arg16.IsWhole) (x0 : Vec Ideal S256x2048 .bf16) (x1 : Vec Ideal S256x2048 .bf16) (x2 : Vec Ideal S16x2048 .bf16) (x3 : Vec Ideal S16x2048 .bf16) (x4 : Vec Ideal S16x2048 .bf16) (x5 : Vec Ideal S16x2048 .bf16) (x7 : Vec Ideal S16x32x128 .f32) (x8 : Vec Ideal S16x1x128 .f32) (r : Fin 256) :
    kernelRun0_A.sl.r_39 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 (ix2 r 0) = root (conv x7 x8 (View.canon (kernelRun0_A.sl.HS0_48 (F := Ideal) c i arg1 harg1 arg2 harg2 arg3 harg3 arg4 harg4 arg5 harg5 arg6 harg6 x0 x1 x2 x3 x4 x5))) r := by
  have hm := mean_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 r
  unfold kernelRun0_A.sl.r_39 kernelRun0_A.sl.r_38 kernelRun0_A.sl.r_35 kernelRun0_A.sl.r_36 kernelRun0_A.sl.r_37
  change k0_pay139 _ (k0_pay138 _ (k0_pay135 _ _ _ _ _ _ _) _ _ _ _ _ _ _ _) _ _ _ _ (ix2 r 0) = _
  have hm' : k0_pay134 (kernelRun0_A.sl.r_32 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8) (kernelRun0_A.sl.r_33 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8) (ix2 r 0) = mean (conv x7 x8 (View.canon (kernelRun0_A.sl.HS0_48 (F := Ideal) c i arg1 harg1 arg2 harg2 arg3 harg3 arg4 harg4 arg5 harg5 arg6 harg6 x0 x1 x2 x3 x4 x5))) r := hm
  have h := fun q => chunk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay51 i) (kernelRun0_A.sl.r_28 (F := Ideal) c arg5 harg5 x4) (kernelRun0_A.sl.r_29 (F := Ideal) c arg6 harg6 x5) x7 x8 (kernelRun0_A.sl.HS0_48 (F := Ideal) c i arg1 harg1 arg2 harg2 arg3 harg3 arg4 harg4 arg5 harg5 arg6 harg6 x0 x1 x2 x3 x4 x5) q
  repeat rw [h]
  clear h
  generalize conv x7 x8 (View.canon (kernelRun0_A.sl.HS0_48 (F := Ideal) c i arg1 harg1 arg2 harg2 arg3 harg3 arg4 harg4 arg5 harg5 arg6 harg6 x0 x1 x2 x3 x4 x5)) = C at hm hm' ⊢
  unfold root
  pointwise [k0_pay139, k0_pay138, k0_pay137, k0_pay136, k0_pay135]
  simp only [hm, hm']

end Cert.ConvIdeal.KernelValue

end
-- ==== Proof.ConvZ.lean ====
module

public import proofs.«01_k».proof.Defs
public import proofs.«01_k».proof.Proof.Gen.ConvIdeal.Value
public import proofs.«01_k».proof.Proof.Pieces
public import proofs.«01_k».proof.Proof.ConvTaps
public import proofs.«01_k».proof.Proof.ConvHalo
public import proofs.«01_k».proof.Proof.ConvNorm
public import Idealize.ShloMosaic.Lib.Pipeline.ValueKit
public import Idealize.ShloMosaic.Lib.Claim

/-! The convolution module's normalised and gated rows, and a block's result. -/

@[expose] public section

set_option maxRecDepth 16384

noncomputable section

namespace Cert.ConvIdeal.KernelValue

open Idealize.ShloMosaic Idealize.ShloMosaic.TcCoe Idealize.SL.Sem
open Cert.ConvIdeal Cert.ConvIdeal.Gen

/-- A normalised row with gains and offsets, at a channel. -/
def lnv (C : Vec Ideal S16x256x128 .f32) (g b : Vec Ideal S1x2048 .f32) (r : Fin 256) (ch : Fin 2048) : EReal :=
  (C (ix3 ⟨ch.val / 128, by omega⟩ r ⟨ch.val % 128, by omega⟩) - mean C r) * root C r * g (ix2 0 ch) + b (ix2 0 ch)

/-- The same times its logistic function. -/
def zed (C : Vec Ideal S16x256x128 .f32) (g b : Vec Ideal S1x2048 .f32) (y : S256x2048.Idx) : EReal :=
  lnv C g b (y 0) (y 1) * sg (lnv C g b (y 0) (y 1))

/-- A normalised row at a chunk and a lane. -/
theorem lnv_at (C : Vec Ideal S16x256x128 .f32) (g b : Vec Ideal S1x2048 .f32) (r : Fin 256) (ch : Fin 2048) (cc : Fin 16) (l : Fin 128) (h : ch.val = 128 * cc.val + l.val) :
    lnv C g b r ch = (C (ix3 cc r l) - mean C r) * root C r * g (ix2 0 ch) + b (ix2 0 ch) := by
  have h1 : (⟨ch.val / 128, by omega⟩ : Fin 16) = cc := Fin.ext (by show ch.val / 128 = cc.val; omega)
  have h2 : (⟨ch.val % 128, by omega⟩ : Fin 128) = l := Fin.ext (by show ch.val % 128 = l.val; omega)
  unfold lnv
  rw [h1, h2]

/-- Where a stored chunk's index lies. -/
theorem emb2_at (o : ℕ) (inb : ∀ a, (![0, o] : Fin 2 → ℕ) a + (![256, 128] : Fin 2 → ℕ) a ≤ S256x2048.size a) (a : Fin 256) (l : Fin 128) (ho : o + l.val < 2048) :
    (Rect.unit (s := S256x2048) ![0, o] ![256, 128] inb).emb (ix2 a l) = ix2 (n0 := 256) (n1 := 2048) a ⟨o + l.val, ho⟩ := by
  funext b
  refine Fin.ext ?_
  rw [Rect.emb_apply]
  match b with
  | ⟨0, _⟩ => show 0 + 1 * a.val = a.val; omega
  | ⟨1, _⟩ => show o + 1 * l.val = o + l.val; omega

/-- Which indices a stored chunk covers. -/
theorem cover2_at (o : ℕ) (inb : ∀ a, (![0, o] : Fin 2 → ℕ) a + (![256, 128] : Fin 2 → ℕ) a ≤ S256x2048.size a) (a : Fin 256) (ch : Fin 2048) (k : ℕ) (hk : ch.val / 128 = k) (ho : o = 128 * k) :
    (ix2 (n0 := 256) (n1 := 2048) a ch : S256x2048.Idx) ∈ (Rect.unit (s := S256x2048) ![0, o] ![256, 128] inb).set := by
  rw [Rect.mem_set_unit]
  intro b
  match b with
  | ⟨0, _⟩ => show 0 ≤ a.val ∧ a.val < 0 + 256; omega
  | ⟨1, _⟩ => show o ≤ ch.val ∧ ch.val < o + 128; omega

set_option maxHeartbeats 40000000 in
/-- **What the kernel multiplies with the weights**: the normalised and gated rows. -/
theorem zed_canon (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S16x2048 .bf16) (harg3 : arg3.IsWhole) (arg4 : Memref sig .tc .vmem S16x2048 .bf16) (harg4 : arg4.IsWhole) (arg5 : Memref sig .tc .vmem S16x2048 .bf16) (harg5 : arg5.IsWhole) (arg6 : Memref sig .tc .vmem S16x2048 .bf16) (harg6 : arg6.IsWhole) (arg7 : Memref sig .tc .vmem S256x2048 .bf16) (harg7 : arg7.IsWhole) (arg8 : Memref sig .tc .vmem S16x32x128 .f32) (harg8 : arg8.IsWhole) (arg9 : Memref sig .tc .vmem S16x1x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S256x2048 .bf16) (harg13 : arg13.IsWhole) (arg14 : Memref sig .tc .vmem S16x288x128 .f32) (harg14 : arg14.IsWhole) (arg15 : Memref sig .tc .vmem S16x256x128 .f32) (harg15 : arg15.IsWhole) (arg16 : Memref sig .tc .vmem S256x2048 .bf16) (harg16 : arg16.IsWhole) (x0 : Vec Ideal S256x2048 .bf16) (x1 : Vec Ideal S256x2048 .bf16) (x2 : Vec Ideal S16x2048 .bf16) (x3 : Vec Ideal S16x2048 .bf16) (x4 : Vec Ideal S16x2048 .bf16) (x5 : Vec Ideal S16x2048 .bf16) (x7 : Vec Ideal S16x32x128 .f32) (x8 : Vec Ideal S16x1x128 .f32) (x9 : Vec Ideal S1x2048 .f32) (x10 : Vec Ideal S1x2048 .f32) : View.canon (kernelRun0_A.sl.HS2_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 x9 x10) = zed (conv x7 x8 (View.canon (kernelRun0_A.sl.HS0_48 (F := Ideal) c i arg1 harg1 arg2 harg2 arg3 harg3 arg4 harg4 arg5 harg5 arg6 harg6 x0 x1 x2 x3 x4 x5))) x9 x10 := by
  have h := fun q => chunk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay51 i) (kernelRun0_A.sl.r_28 (F := Ideal) c arg5 harg5 x4) (kernelRun0_A.sl.r_29 (F := Ideal) c arg6 harg6 x5) x7 x8 (kernelRun0_A.sl.HS0_48 (F := Ideal) c i arg1 harg1 arg2 harg2 arg3 harg3 arg4 harg4 arg5 harg5 arg6 harg6 x0 x1 x2 x3 x4 x5) q
  have hm := fun r => mean_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 r
  have hr := fun r => root_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 r
  funext y
  refine View.canon_apply_of_pieces (Val := Elt Ideal) (e := .bf16) (zed (conv x7 x8 (View.canon (kernelRun0_A.sl.HS0_48 (F := Ideal) c i arg1 harg1 arg2 harg2 arg3 harg3 arg4 harg4 arg5 harg5 arg6 harg6 x0 x1 x2 x3 x4 x5))) x9 x10) _ ?_ y ?_
  · unfold kernelRun0_A.sl.HS2_16
    simp only [List.forall_mem_cons, List.not_mem_nil, false_imp_iff, implies_true, and_true]
    refine ⟨?_, ?_, ?_, ?_, ?_, ?_, ?_, ?_, ?_, ?_, ?_, ?_, ?_, ?_, ?_, ?_⟩
    · intro y
      idx_vars y
      have hm1 := hm y0
      have hr1 := hr y0
      rw [emb2_at 1920 _ y0 y1 (by omega)]
      unfold zed
      change _ = lnv _ _ _ y0 ⟨1920 + y1.val, _⟩ * sg (lnv _ _ _ y0 ⟨1920 + y1.val, _⟩)
      rw [lnv_at _ _ _ y0 _ 15 y1 rfl]
      unfold sg
      try simp only [kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.cst_672]
      repeat rw [h]
      try simp only [View.readAt_eq_ld, Memref.IsWhole.read_unread]
      generalize conv x7 x8 (View.canon (kernelRun0_A.sl.HS0_48 (F := Ideal) c i arg1 harg1 arg2 harg2 arg3 harg3 arg4 harg4 arg5 harg5 arg6 harg6 x0 x1 x2 x3 x4 x5)) = C at hm1 hr1 ⊢
      generalize kernelRun0_A.sl.r_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Mv at hm1 hr1  ⊢
      generalize kernelRun0_A.sl.r_39 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Rv at hr1 ⊢
      pointwise [k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, hm1, hr1]
      try rfl
    · intro y
      idx_vars y
      have hm1 := hm y0
      have hr1 := hr y0
      rw [emb2_at 1792 _ y0 y1 (by omega)]
      unfold zed
      change _ = lnv _ _ _ y0 ⟨1792 + y1.val, _⟩ * sg (lnv _ _ _ y0 ⟨1792 + y1.val, _⟩)
      rw [lnv_at _ _ _ y0 _ 14 y1 rfl]
      unfold sg
      try simp only [kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.cst_672]
      repeat rw [h]
      try simp only [View.readAt_eq_ld, Memref.IsWhole.read_unread]
      generalize conv x7 x8 (View.canon (kernelRun0_A.sl.HS0_48 (F := Ideal) c i arg1 harg1 arg2 harg2 arg3 harg3 arg4 harg4 arg5 harg5 arg6 harg6 x0 x1 x2 x3 x4 x5)) = C at hm1 hr1 ⊢
      generalize kernelRun0_A.sl.r_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Mv at hm1 hr1  ⊢
      generalize kernelRun0_A.sl.r_39 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Rv at hr1 ⊢
      pointwise [k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, hm1, hr1]
      try rfl
    · intro y
      idx_vars y
      have hm1 := hm y0
      have hr1 := hr y0
      rw [emb2_at 1664 _ y0 y1 (by omega)]
      unfold zed
      change _ = lnv _ _ _ y0 ⟨1664 + y1.val, _⟩ * sg (lnv _ _ _ y0 ⟨1664 + y1.val, _⟩)
      rw [lnv_at _ _ _ y0 _ 13 y1 rfl]
      unfold sg
      try simp only [kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.cst_672]
      repeat rw [h]
      try simp only [View.readAt_eq_ld, Memref.IsWhole.read_unread]
      generalize conv x7 x8 (View.canon (kernelRun0_A.sl.HS0_48 (F := Ideal) c i arg1 harg1 arg2 harg2 arg3 harg3 arg4 harg4 arg5 harg5 arg6 harg6 x0 x1 x2 x3 x4 x5)) = C at hm1 hr1 ⊢
      generalize kernelRun0_A.sl.r_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Mv at hm1 hr1  ⊢
      generalize kernelRun0_A.sl.r_39 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Rv at hr1 ⊢
      pointwise [k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, hm1, hr1]
      try rfl
    · intro y
      idx_vars y
      have hm1 := hm y0
      have hr1 := hr y0
      rw [emb2_at 1536 _ y0 y1 (by omega)]
      unfold zed
      change _ = lnv _ _ _ y0 ⟨1536 + y1.val, _⟩ * sg (lnv _ _ _ y0 ⟨1536 + y1.val, _⟩)
      rw [lnv_at _ _ _ y0 _ 12 y1 rfl]
      unfold sg
      try simp only [kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.cst_672]
      repeat rw [h]
      try simp only [View.readAt_eq_ld, Memref.IsWhole.read_unread]
      generalize conv x7 x8 (View.canon (kernelRun0_A.sl.HS0_48 (F := Ideal) c i arg1 harg1 arg2 harg2 arg3 harg3 arg4 harg4 arg5 harg5 arg6 harg6 x0 x1 x2 x3 x4 x5)) = C at hm1 hr1 ⊢
      generalize kernelRun0_A.sl.r_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Mv at hm1 hr1  ⊢
      generalize kernelRun0_A.sl.r_39 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Rv at hr1 ⊢
      pointwise [k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, hm1, hr1]
      try rfl
    · intro y
      idx_vars y
      have hm1 := hm y0
      have hr1 := hr y0
      rw [emb2_at 1408 _ y0 y1 (by omega)]
      unfold zed
      change _ = lnv _ _ _ y0 ⟨1408 + y1.val, _⟩ * sg (lnv _ _ _ y0 ⟨1408 + y1.val, _⟩)
      rw [lnv_at _ _ _ y0 _ 11 y1 rfl]
      unfold sg
      try simp only [kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.cst_672]
      repeat rw [h]
      try simp only [View.readAt_eq_ld, Memref.IsWhole.read_unread]
      generalize conv x7 x8 (View.canon (kernelRun0_A.sl.HS0_48 (F := Ideal) c i arg1 harg1 arg2 harg2 arg3 harg3 arg4 harg4 arg5 harg5 arg6 harg6 x0 x1 x2 x3 x4 x5)) = C at hm1 hr1 ⊢
      generalize kernelRun0_A.sl.r_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Mv at hm1 hr1  ⊢
      generalize kernelRun0_A.sl.r_39 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Rv at hr1 ⊢
      pointwise [k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, hm1, hr1]
      try rfl
    · intro y
      idx_vars y
      have hm1 := hm y0
      have hr1 := hr y0
      rw [emb2_at 1280 _ y0 y1 (by omega)]
      unfold zed
      change _ = lnv _ _ _ y0 ⟨1280 + y1.val, _⟩ * sg (lnv _ _ _ y0 ⟨1280 + y1.val, _⟩)
      rw [lnv_at _ _ _ y0 _ 10 y1 rfl]
      unfold sg
      try simp only [kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.cst_672]
      repeat rw [h]
      try simp only [View.readAt_eq_ld, Memref.IsWhole.read_unread]
      generalize conv x7 x8 (View.canon (kernelRun0_A.sl.HS0_48 (F := Ideal) c i arg1 harg1 arg2 harg2 arg3 harg3 arg4 harg4 arg5 harg5 arg6 harg6 x0 x1 x2 x3 x4 x5)) = C at hm1 hr1 ⊢
      generalize kernelRun0_A.sl.r_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Mv at hm1 hr1  ⊢
      generalize kernelRun0_A.sl.r_39 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Rv at hr1 ⊢
      pointwise [k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, hm1, hr1]
      try rfl
    · intro y
      idx_vars y
      have hm1 := hm y0
      have hr1 := hr y0
      rw [emb2_at 1152 _ y0 y1 (by omega)]
      unfold zed
      change _ = lnv _ _ _ y0 ⟨1152 + y1.val, _⟩ * sg (lnv _ _ _ y0 ⟨1152 + y1.val, _⟩)
      rw [lnv_at _ _ _ y0 _ 9 y1 rfl]
      unfold sg
      try simp only [kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.cst_672]
      repeat rw [h]
      try simp only [View.readAt_eq_ld, Memref.IsWhole.read_unread]
      generalize conv x7 x8 (View.canon (kernelRun0_A.sl.HS0_48 (F := Ideal) c i arg1 harg1 arg2 harg2 arg3 harg3 arg4 harg4 arg5 harg5 arg6 harg6 x0 x1 x2 x3 x4 x5)) = C at hm1 hr1 ⊢
      generalize kernelRun0_A.sl.r_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Mv at hm1 hr1  ⊢
      generalize kernelRun0_A.sl.r_39 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Rv at hr1 ⊢
      pointwise [k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, hm1, hr1]
      try rfl
    · intro y
      idx_vars y
      have hm1 := hm y0
      have hr1 := hr y0
      rw [emb2_at 1024 _ y0 y1 (by omega)]
      unfold zed
      change _ = lnv _ _ _ y0 ⟨1024 + y1.val, _⟩ * sg (lnv _ _ _ y0 ⟨1024 + y1.val, _⟩)
      rw [lnv_at _ _ _ y0 _ 8 y1 rfl]
      unfold sg
      try simp only [kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.cst_672]
      repeat rw [h]
      try simp only [View.readAt_eq_ld, Memref.IsWhole.read_unread]
      generalize conv x7 x8 (View.canon (kernelRun0_A.sl.HS0_48 (F := Ideal) c i arg1 harg1 arg2 harg2 arg3 harg3 arg4 harg4 arg5 harg5 arg6 harg6 x0 x1 x2 x3 x4 x5)) = C at hm1 hr1 ⊢
      generalize kernelRun0_A.sl.r_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Mv at hm1 hr1  ⊢
      generalize kernelRun0_A.sl.r_39 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Rv at hr1 ⊢
      pointwise [k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, hm1, hr1]
      try rfl
    · intro y
      idx_vars y
      have hm1 := hm y0
      have hr1 := hr y0
      rw [emb2_at 896 _ y0 y1 (by omega)]
      unfold zed
      change _ = lnv _ _ _ y0 ⟨896 + y1.val, _⟩ * sg (lnv _ _ _ y0 ⟨896 + y1.val, _⟩)
      rw [lnv_at _ _ _ y0 _ 7 y1 rfl]
      unfold sg
      try simp only [kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.cst_672]
      repeat rw [h]
      try simp only [View.readAt_eq_ld, Memref.IsWhole.read_unread]
      generalize conv x7 x8 (View.canon (kernelRun0_A.sl.HS0_48 (F := Ideal) c i arg1 harg1 arg2 harg2 arg3 harg3 arg4 harg4 arg5 harg5 arg6 harg6 x0 x1 x2 x3 x4 x5)) = C at hm1 hr1 ⊢
      generalize kernelRun0_A.sl.r_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Mv at hm1 hr1  ⊢
      generalize kernelRun0_A.sl.r_39 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Rv at hr1 ⊢
      pointwise [k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, hm1, hr1]
      try rfl
    · intro y
      idx_vars y
      have hm1 := hm y0
      have hr1 := hr y0
      rw [emb2_at 768 _ y0 y1 (by omega)]
      unfold zed
      change _ = lnv _ _ _ y0 ⟨768 + y1.val, _⟩ * sg (lnv _ _ _ y0 ⟨768 + y1.val, _⟩)
      rw [lnv_at _ _ _ y0 _ 6 y1 rfl]
      unfold sg
      try simp only [kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.cst_672]
      repeat rw [h]
      try simp only [View.readAt_eq_ld, Memref.IsWhole.read_unread]
      generalize conv x7 x8 (View.canon (kernelRun0_A.sl.HS0_48 (F := Ideal) c i arg1 harg1 arg2 harg2 arg3 harg3 arg4 harg4 arg5 harg5 arg6 harg6 x0 x1 x2 x3 x4 x5)) = C at hm1 hr1 ⊢
      generalize kernelRun0_A.sl.r_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Mv at hm1 hr1  ⊢
      generalize kernelRun0_A.sl.r_39 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Rv at hr1 ⊢
      pointwise [k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, hm1, hr1]
      try rfl
    · intro y
      idx_vars y
      have hm1 := hm y0
      have hr1 := hr y0
      rw [emb2_at 640 _ y0 y1 (by omega)]
      unfold zed
      change _ = lnv _ _ _ y0 ⟨640 + y1.val, _⟩ * sg (lnv _ _ _ y0 ⟨640 + y1.val, _⟩)
      rw [lnv_at _ _ _ y0 _ 5 y1 rfl]
      unfold sg
      try simp only [kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.cst_672]
      repeat rw [h]
      try simp only [View.readAt_eq_ld, Memref.IsWhole.read_unread]
      generalize conv x7 x8 (View.canon (kernelRun0_A.sl.HS0_48 (F := Ideal) c i arg1 harg1 arg2 harg2 arg3 harg3 arg4 harg4 arg5 harg5 arg6 harg6 x0 x1 x2 x3 x4 x5)) = C at hm1 hr1 ⊢
      generalize kernelRun0_A.sl.r_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Mv at hm1 hr1  ⊢
      generalize kernelRun0_A.sl.r_39 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Rv at hr1 ⊢
      pointwise [k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, hm1, hr1]
      try rfl
    · intro y
      idx_vars y
      have hm1 := hm y0
      have hr1 := hr y0
      rw [emb2_at 512 _ y0 y1 (by omega)]
      unfold zed
      change _ = lnv _ _ _ y0 ⟨512 + y1.val, _⟩ * sg (lnv _ _ _ y0 ⟨512 + y1.val, _⟩)
      rw [lnv_at _ _ _ y0 _ 4 y1 rfl]
      unfold sg
      try simp only [kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.cst_672]
      repeat rw [h]
      try simp only [View.readAt_eq_ld, Memref.IsWhole.read_unread]
      generalize conv x7 x8 (View.canon (kernelRun0_A.sl.HS0_48 (F := Ideal) c i arg1 harg1 arg2 harg2 arg3 harg3 arg4 harg4 arg5 harg5 arg6 harg6 x0 x1 x2 x3 x4 x5)) = C at hm1 hr1 ⊢
      generalize kernelRun0_A.sl.r_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Mv at hm1 hr1  ⊢
      generalize kernelRun0_A.sl.r_39 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Rv at hr1 ⊢
      pointwise [k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, hm1, hr1]
      try rfl
    · intro y
      idx_vars y
      have hm1 := hm y0
      have hr1 := hr y0
      rw [emb2_at 384 _ y0 y1 (by omega)]
      unfold zed
      change _ = lnv _ _ _ y0 ⟨384 + y1.val, _⟩ * sg (lnv _ _ _ y0 ⟨384 + y1.val, _⟩)
      rw [lnv_at _ _ _ y0 _ 3 y1 rfl]
      unfold sg
      try simp only [kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.cst_672]
      repeat rw [h]
      try simp only [View.readAt_eq_ld, Memref.IsWhole.read_unread]
      generalize conv x7 x8 (View.canon (kernelRun0_A.sl.HS0_48 (F := Ideal) c i arg1 harg1 arg2 harg2 arg3 harg3 arg4 harg4 arg5 harg5 arg6 harg6 x0 x1 x2 x3 x4 x5)) = C at hm1 hr1 ⊢
      generalize kernelRun0_A.sl.r_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Mv at hm1 hr1  ⊢
      generalize kernelRun0_A.sl.r_39 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Rv at hr1 ⊢
      pointwise [k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, hm1, hr1]
      try rfl
    · intro y
      idx_vars y
      have hm1 := hm y0
      have hr1 := hr y0
      rw [emb2_at 256 _ y0 y1 (by omega)]
      unfold zed
      change _ = lnv _ _ _ y0 ⟨256 + y1.val, _⟩ * sg (lnv _ _ _ y0 ⟨256 + y1.val, _⟩)
      rw [lnv_at _ _ _ y0 _ 2 y1 rfl]
      unfold sg
      try simp only [kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.cst_672]
      repeat rw [h]
      try simp only [View.readAt_eq_ld, Memref.IsWhole.read_unread]
      generalize conv x7 x8 (View.canon (kernelRun0_A.sl.HS0_48 (F := Ideal) c i arg1 harg1 arg2 harg2 arg3 harg3 arg4 harg4 arg5 harg5 arg6 harg6 x0 x1 x2 x3 x4 x5)) = C at hm1 hr1 ⊢
      generalize kernelRun0_A.sl.r_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Mv at hm1 hr1  ⊢
      generalize kernelRun0_A.sl.r_39 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Rv at hr1 ⊢
      pointwise [k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, hm1, hr1]
      try rfl
    · intro y
      idx_vars y
      have hm1 := hm y0
      have hr1 := hr y0
      rw [emb2_at 128 _ y0 y1 (by omega)]
      unfold zed
      change _ = lnv _ _ _ y0 ⟨128 + y1.val, _⟩ * sg (lnv _ _ _ y0 ⟨128 + y1.val, _⟩)
      rw [lnv_at _ _ _ y0 _ 1 y1 rfl]
      unfold sg
      try simp only [kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.cst_672]
      repeat rw [h]
      try simp only [View.readAt_eq_ld, Memref.IsWhole.read_unread]
      generalize conv x7 x8 (View.canon (kernelRun0_A.sl.HS0_48 (F := Ideal) c i arg1 harg1 arg2 harg2 arg3 harg3 arg4 harg4 arg5 harg5 arg6 harg6 x0 x1 x2 x3 x4 x5)) = C at hm1 hr1 ⊢
      generalize kernelRun0_A.sl.r_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Mv at hm1 hr1  ⊢
      generalize kernelRun0_A.sl.r_39 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Rv at hr1 ⊢
      pointwise [k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, hm1, hr1]
      try rfl
    · intro y
      idx_vars y
      have hm1 := hm y0
      have hr1 := hr y0
      have hr0 := hr y0
      unfold kernelRun0_A.sl.r_39 at hr0
      repeat rw [h] at hr0
      rw [emb2_at 0 _ y0 y1 (by omega)]
      unfold zed
      change _ = lnv _ _ _ y0 ⟨0 + y1.val, _⟩ * sg (lnv _ _ _ y0 ⟨0 + y1.val, _⟩)
      rw [lnv_at _ _ _ y0 _ 0 y1 rfl]
      unfold sg
      try simp only [kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.cst_672]
      repeat rw [h]
      try simp only [View.readAt_eq_ld, Memref.IsWhole.read_unread]
      generalize conv x7 x8 (View.canon (kernelRun0_A.sl.HS0_48 (F := Ideal) c i arg1 harg1 arg2 harg2 arg3 harg3 arg4 harg4 arg5 harg5 arg6 harg6 x0 x1 x2 x3 x4 x5)) = C at hm1 hr1 hr0⊢
      have e0 : (⟨0 + y1.val, by omega⟩ : Fin 2048) = ⟨y1.val, by omega⟩ := Fin.ext (Nat.zero_add _)
      rw [e0]
      generalize kernelRun0_A.sl.r_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Mv at hm1 hr1 hr0 ⊢
      generalize kernelRun0_A.sl.r_39 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 = Rv at hr1 ⊢
      pointwise [k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay140, hm1, hr1, hr0]
      try rfl
  · idx_vars y
    unfold kernelRun0_A.sl.HS2_16
    simp only [List.mem_cons, List.not_mem_nil, or_false, exists_eq_or_imp, exists_eq_left]
    have hy := y1.isLt
    have hk : y1.val / 128 < 16 := by omega
    generalize hv : y1.val / 128 = k at hk
    interval_cases k
    · exact Or.inr (Or.inr (Or.inr (Or.inr (Or.inr (Or.inr (Or.inr (Or.inr (Or.inr (Or.inr (Or.inr (Or.inr (Or.inr (Or.inr (Or.inr (cover2_at 0 _ y0 y1 0 hv rfl)))))))))))))))
    · exact Or.inr (Or.inr (Or.inr (Or.inr (Or.inr (Or.inr (Or.inr (Or.inr (Or.inr (Or.inr (Or.inr (Or.inr (Or.inr (Or.inr (Or.inl (cover2_at 128 _ y0 y1 1 hv rfl)))))))))))))))
    · exact Or.inr (Or.inr (Or.inr (Or.inr (Or.inr (Or.inr (Or.inr (Or.inr (Or.inr (Or.inr (Or.inr (Or.inr (Or.inr (Or.inl (cover2_at 256 _ y0 y1 2 hv rfl))))))))))))))
    · exact Or.inr (Or.inr (Or.inr (Or.inr (Or.inr (Or.inr (Or.inr (Or.inr (Or.inr (Or.inr (Or.inr (Or.inr (Or.inl (cover2_at 384 _ y0 y1 3 hv rfl)))))))))))))
    · exact Or.inr (Or.inr (Or.inr (Or.inr (Or.inr (Or.inr (Or.inr (Or.inr (Or.inr (Or.inr (Or.inr (Or.inl (cover2_at 512 _ y0 y1 4 hv rfl))))))))))))
    · exact Or.inr (Or.inr (Or.inr (Or.inr (Or.inr (Or.inr (Or.inr (Or.inr (Or.inr (Or.inr (Or.inl (cover2_at 640 _ y0 y1 5 hv rfl)))))))))))
    · exact Or.inr (Or.inr (Or.inr (Or.inr (Or.inr (Or.inr (Or.inr (Or.inr (Or.inr (Or.inl (cover2_at 768 _ y0 y1 6 hv rfl))))))))))
    · exact Or.inr (Or.inr (Or.inr (Or.inr (Or.inr (Or.inr (Or.inr (Or.inr (Or.inl (cover2_at 896 _ y0 y1 7 hv rfl)))))))))
    · exact Or.inr (Or.inr (Or.inr (Or.inr (Or.inr (Or.inr (Or.inr (Or.inl (cover2_at 1024 _ y0 y1 8 hv rfl))))))))
    · exact Or.inr (Or.inr (Or.inr (Or.inr (Or.inr (Or.inr (Or.inl (cover2_at 1152 _ y0 y1 9 hv rfl)))))))
    · exact Or.inr (Or.inr (Or.inr (Or.inr (Or.inr (Or.inl (cover2_at 1280 _ y0 y1 10 hv rfl))))))
    · exact Or.inr (Or.inr (Or.inr (Or.inr (Or.inl (cover2_at 1408 _ y0 y1 11 hv rfl)))))
    · exact Or.inr (Or.inr (Or.inr (Or.inl (cover2_at 1536 _ y0 y1 12 hv rfl))))
    · exact Or.inr (Or.inr (Or.inl (cover2_at 1664 _ y0 y1 13 hv rfl)))
    · exact Or.inr (Or.inl (cover2_at 1792 _ y0 y1 14 hv rfl))
    · exact Or.inl (cover2_at 1920 _ y0 y1 15 hv rfl)

/-- A block's result: the gated rows times the weights, times the gate and its logistic function. -/
def outv (C : Vec Ideal S16x256x128 .f32) (g b : Vec Ideal S1x2048 .f32) (w : Vec Ideal S2048x2048 .bf16) (gp : Vec Ideal S256x2048 .bf16) (r : Fin 256) (e : Fin 2048) : EReal :=
  (∑ k : Fin 2048, zed C g b (ix2 r k) * w (ix2 k e)) * (gp (ix2 r e) * sg (gp (ix2 r e)))

set_option maxHeartbeats 4000000 in
/-- **What a row block's point leaves.** -/
theorem out_at (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S16x2048 .bf16) (harg3 : arg3.IsWhole) (arg4 : Memref sig .tc .vmem S16x2048 .bf16) (harg4 : arg4.IsWhole) (arg5 : Memref sig .tc .vmem S16x2048 .bf16) (harg5 : arg5.IsWhole) (arg6 : Memref sig .tc .vmem S16x2048 .bf16) (harg6 : arg6.IsWhole) (arg7 : Memref sig .tc .vmem S256x2048 .bf16) (harg7 : arg7.IsWhole) (arg8 : Memref sig .tc .vmem S16x32x128 .f32) (harg8 : arg8.IsWhole) (arg9 : Memref sig .tc .vmem S16x1x128 .f32) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S256x2048 .bf16) (harg13 : arg13.IsWhole) (arg14 : Memref sig .tc .vmem S16x288x128 .f32) (harg14 : arg14.IsWhole) (arg15 : Memref sig .tc .vmem S16x256x128 .f32) (harg15 : arg15.IsWhole) (arg16 : Memref sig .tc .vmem S256x2048 .bf16) (harg16 : arg16.IsWhole)
    (x0 : Vec Ideal S256x2048 .bf16) (x1 : Vec Ideal S256x2048 .bf16) (x2 : Vec Ideal S16x2048 .bf16) (x3 : Vec Ideal S16x2048 .bf16) (x4 : Vec Ideal S16x2048 .bf16) (x5 : Vec Ideal S16x2048 .bf16) (x6 : Vec Ideal S256x2048 .bf16) (x7 : Vec Ideal S16x32x128 .f32) (x8 : Vec Ideal S16x1x128 .f32) (x9 : Vec Ideal S1x2048 .f32) (x10 : Vec Ideal S1x2048 .f32) (x11 : Vec Ideal S2048x2048 .bf16) (r : Fin 256) (e : Fin 2048) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 (ix2 r e) = outv (conv x7 x8 (halo (k0_pay50 (F := Ideal) i) (k0_pay51 (F := Ideal) i) x0 x1 x2 x3 x4 x5)) x9 x10 x11 x6 r e := by
  have hz := zed_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x7 x8 x9 x10
  rw [halo_canon] at hz
  unfold out0_A_12 kernelRun0_A
  dsimp only
  simp (disch := decide) only [View.read_writes_junk_eq_canon, View.canon_cons_unit_lit']
  unfold kernelRun0_A.sl.r_54 kernelRun0_A.sl.r_55 kernelRun0_A.sl.r_56 kernelRun0_A.sl.v1374
  rw [View.readCov_eq_canon', hz]
  unfold outv sg
  generalize conv x7 x8 _ = C
  simp only [View.readAt_eq_ld, Memref.IsWhole.read_unread]
  pointwise [k0_pay1, k0_pay170, k0_pay171, k0_pay172]

end Cert.ConvIdeal.KernelValue

end
-- ==== Proof.ConvRef.lean ====
module

public import proofs.«01_k».proof.Defs
public import proofs.«01_k».proof.Proof.Gen.ConvRefIdeal.Read
public import Idealize.ShloMosaic.Lib.Pipeline.ValueKit
public import Idealize.ShloMosaic.Lib.Claim
public import Idealize.ShloMosaic.Lib.KernelVsHost

/-! The convolution module as the reference defines it, read at an index. -/

@[expose] public section

set_option maxRecDepth 16384

noncomputable section

namespace Cert.ConvProof

open Idealize.ShloMosaic Idealize.ShloMosaic.TcCoe Idealize.SL.Sem
open Cert.ConvRefIdeal Cert.ConvRefIdeal.Read

/-- A row of a sequence among all rows. -/
def rowOf (n : Fin 4) (t : Fin 2048) : Fin 8192 := ⟨n.val * 2048 + t.val, by omega⟩

/-- A gated token: the first half times the logistic function of the second. -/
def glu (u : FVec Ideal S8192x14336 .bf16) (n : Fin 4) (t : Fin 2048) (ch : Fin 2048) : EReal :=
  u (ix2 (rowOf n t) ⟨6144 + ch.val, by omega⟩) * Ideal.div 1 (1 + Ideal.exp (-u (ix2 (rowOf n t) ⟨6144 + (2048 + ch.val), by omega⟩)))

/-- A sequence of gated tokens between fifteen zeros on either side. -/
def padded (u : FVec Ideal S8192x14336 .bf16) (n : Fin 4) (p : Fin 2078) (ch : Fin 2048) : EReal :=
  if h : 15 ≤ p.val ∧ p.val < 2063 then glu u n ⟨p.val - 15, by omega⟩ ch else 0

/-- The thirty-one taps of a channel and its bias. -/
def taps (u : FVec Ideal S8192x14336 .bf16) (dw : FVec Ideal S1x31x2048 .f32) (b : FVec Ideal S1x2048 .f32) (n : Fin 4) (t : Fin 2048) (ch : Fin 2048) : EReal :=
  padded u n ⟨t.val, by omega⟩ ch * dw (ix3 0 0 ch) + padded u n ⟨1 + t.val, by omega⟩ ch * dw (ix3 0 1 ch) + padded u n ⟨2 + t.val, by omega⟩ ch * dw (ix3 0 2 ch) + padded u n ⟨3 + t.val, by omega⟩ ch * dw (ix3 0 3 ch) + padded u n ⟨4 + t.val, by omega⟩ ch * dw (ix3 0 4 ch) + padded u n ⟨5 + t.val, by omega⟩ ch * dw (ix3 0 5 ch) + padded u n ⟨6 + t.val, by omega⟩ ch * dw (ix3 0 6 ch) + padded u n ⟨7 + t.val, by omega⟩ ch * dw (ix3 0 7 ch) + padded u n ⟨8 + t.val, by omega⟩ ch * dw (ix3 0 8 ch) + padded u n ⟨9 + t.val, by omega⟩ ch * dw (ix3 0 9 ch) + padded u n ⟨10 + t.val, by omega⟩ ch * dw (ix3 0 10 ch) + padded u n ⟨11 + t.val, by omega⟩ ch * dw (ix3 0 11 ch) + padded u n ⟨12 + t.val, by omega⟩ ch * dw (ix3 0 12 ch) + padded u n ⟨13 + t.val, by omega⟩ ch * dw (ix3 0 13 ch) + padded u n ⟨14 + t.val, by omega⟩ ch * dw (ix3 0 14 ch) + padded u n ⟨15 + t.val, by omega⟩ ch * dw (ix3 0 15 ch) + padded u n ⟨16 + t.val, by omega⟩ ch * dw (ix3 0 16 ch) + padded u n ⟨17 + t.val, by omega⟩ ch * dw (ix3 0 17 ch) + padded u n ⟨18 + t.val, by omega⟩ ch * dw (ix3 0 18 ch) + padded u n ⟨19 + t.val, by omega⟩ ch * dw (ix3 0 19 ch) + padded u n ⟨20 + t.val, by omega⟩ ch * dw (ix3 0 20 ch) + padded u n ⟨21 + t.val, by omega⟩ ch * dw (ix3 0 21 ch) + padded u n ⟨22 + t.val, by omega⟩ ch * dw (ix3 0 22 ch) + padded u n ⟨23 + t.val, by omega⟩ ch * dw (ix3 0 23 ch) + padded u n ⟨24 + t.val, by omega⟩ ch * dw (ix3 0 24 ch) + padded u n ⟨25 + t.val, by omega⟩ ch * dw (ix3 0 25 ch) + padded u n ⟨26 + t.val, by omega⟩ ch * dw (ix3 0 26 ch) + padded u n ⟨27 + t.val, by omega⟩ ch * dw (ix3 0 27 ch) + padded u n ⟨28 + t.val, by omega⟩ ch * dw (ix3 0 28 ch) + padded u n ⟨29 + t.val, by omega⟩ ch * dw (ix3 0 29 ch) + padded u n ⟨30 + t.val, by omega⟩ ch * dw (ix3 0 30 ch) + b (ix2 0 ch)

/-- The mean over the channels. -/
def mu (f : Fin 2048 → EReal) : EReal := Ideal.div (∑ k : Fin 2048, f k) (Ideal.ofBits .f32 0x45000000#32)

/-- A row normalised over its channels, with gains and offsets. -/
def lnr (f g b : Fin 2048 → EReal) (ch : Fin 2048) : EReal :=
  (f ch - mu f) * Ideal.rsqrt (Ideal.div (∑ k : Fin 2048, (f k - mu f) * (f k - mu f)) (Ideal.ofBits .f32 0x45000000#32) + Ideal.ofBits .f32 0x358637BD#32) * g ch + b ch

/-- A number times its logistic function. -/
def sl (x : EReal) : EReal := x * Ideal.div 1 (1 + Ideal.exp (-x))

/-- One entry of the convolution module's result. -/
def resv (u : FVec Ideal S8192x14336 .bf16) (dw : FVec Ideal S1x31x2048 .f32) (b g o : FVec Ideal S1x2048 .f32) (w : FVec Ideal S2048x2048 .bf16) (n : Fin 4) (t : Fin 2048) (e : Fin 2048) : EReal :=
  (∑ k : Fin 2048, sl (lnr (taps u dw b n t) (fun k => g (ix2 0 k)) (fun k => o (ix2 0 k)) k) * w (ix2 k e)) * sl (u (ix2 (rowOf n t) ⟨10240 + (2048 + e.val), by omega⟩))

/-- The gated tokens. -/
theorem v15_at (x0 : FVec Ideal S8192x14336 .bf16) (n : Fin 4) (t ch : Fin 2048) : val_main_v15 (F := Ideal) x0 (ix3 n t ch) = glu x0 n t ch := by
  unfold glu rowOf
  pointwise [val_main_v15, val_main_v14, val_main_v13, val_main_v12, val_main_v11, val_main_v10, val_main_v9, val_main_v8, val_main_v7, val_main_v5, val_main_v1, val_main_v0, val_main_cst, val_main_cst_0]

/-- The padded tokens. -/
theorem v16_at (x0 : FVec Ideal S8192x14336 .bf16) (n : Fin 4) (p : Fin 2078) (ch : Fin 2048) : val_main_v16 (F := Ideal) x0 (ix3 n p ch) = padded x0 n p ch := by
  unfold padded val_main_v16
  by_cases h : 15 ≤ p.val ∧ p.val < 2063
  · rw [dif_pos h, ← v15_at]
    refine pad_apply_of_inside _ _ _ _ _ _ _ _ _ fun a => ?_
    match a with
    | ⟨0, _⟩ => show n.val = 0 + n.val * (0 + 1); omega
    | ⟨1, _⟩ => show p.val = 15 + (p.val - 15) * (0 + 1); omega
    | ⟨2, _⟩ => show ch.val = 0 + ch.val * (0 + 1); omega
  · rw [dif_neg h]
    refine (pad_apply_of_not_inside _ _ _ _ _ _ _ _ ⟨1, by decide⟩ ?_).trans ?_
    · rintro ⟨h1, _, h3⟩
      have h1' : 15 ≤ p.val := h1
      have h3' : (p.val - 15) / (0 + 1) < 2048 := h3
      omega
    · pointwise [val_main_call0_v0, val_main_c]
      show (((0#32 : BitVec 32).toInt : ℝ) : EReal) = 0
      norm_num

set_option maxHeartbeats 40000000 in
/-- The convolved channels. -/
theorem v238_at (x0 : FVec Ideal S8192x14336 .bf16) (x1 : FVec Ideal S1x31x2048 .f32) (x2 : FVec Ideal S1x2048 .f32) (n : Fin 4) (t ch : Fin 2048) :
    val_main_v238 (F := Ideal) x0 x1 x2 (ix3 n t ch) = taps x0 x1 x2 n t ch := by
  unfold taps
  pointwise [val_main_v238, val_main_v237, val_main_v236, val_main_v235, val_main_v234, val_main_v233, val_main_v232, val_main_v231, val_main_v230, val_main_v229, val_main_v228, val_main_v227, val_main_v226, val_main_v225, val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_cst_1, v16_at]

set_option maxHeartbeats 4000000 in
/-- The normalised channels. -/
theorem v262_at (x0 : FVec Ideal S8192x14336 .bf16) (x1 : FVec Ideal S1x31x2048 .f32) (x2 x3 x4 : FVec Ideal S1x2048 .f32) (n : Fin 4) (t ch : Fin 2048) :
    val_main_v262 (F := Ideal) x0 x1 x2 x3 x4 (ix3 n t ch) = lnr (taps x0 x1 x2 n t) (fun k => x3 (ix2 0 k)) (fun k => x4 (ix2 0 k)) ch := by
  unfold lnr mu
  pointwise [val_main_call2_cst_0, val_main_call2_cst, val_main_call1_cst_0, val_main_call1_cst, val_main_cst_6, val_main_cst_5, val_main_cst_4, val_main_cst_3, val_main_cst_2, val_main_cst_1, val_main_cst_0, val_main_cst, val_main_v262, val_main_v261, val_main_v260, val_main_v259, val_main_v258, val_main_v257, val_main_v256, val_main_v255, val_main_v254, val_main_v253, val_main_v252, val_main_v251, val_main_v250, val_main_v249, val_main_v248, val_main_v247, val_main_v246, val_main_v245, val_main_v244, val_main_v243, val_main_v242, val_main_v241, val_main_v240, val_main_v239, v238_at]

set_option maxHeartbeats 4000000 in
/-- **The reference's result at an index.** -/
theorem ref_at (x0 : FVec Ideal S8192x14336 .bf16) (x1 : FVec Ideal S1x31x2048 .f32) (x2 x3 x4 : FVec Ideal S1x2048 .f32) (x5 : FVec Ideal S2048x2048 .bf16) (R : Fin 8192) (e : Fin 2048) :
    val_main_v270 (F := Ideal) x0 x1 x2 x3 x4 x5 (ix2 R e) = resv x0 x1 x2 x3 x4 x5 ⟨R.val / 2048, by omega⟩ ⟨R.val % 2048, by omega⟩ e := by
  unfold resv sl
  have hR : rowOf ⟨R.val / 2048, by omega⟩ ⟨R.val % 2048, by omega⟩ = R := Fin.ext (by show R.val / 2048 * 2048 + R.val % 2048 = R.val; omega)
  rw [hR]
  pointwise [val_main_call2_cst_0, val_main_call2_cst, val_main_call1_cst_0, val_main_call1_cst, val_main_cst_6, val_main_cst_5, val_main_cst_4, val_main_cst_3, val_main_cst_2, val_main_cst_1, val_main_cst_0, val_main_cst, val_main_v0, val_main_v1, val_main_v6, val_main_v270, val_main_v269, val_main_v268, val_main_v267, val_main_call2_v5, val_main_call2_v4, val_main_call2_v3, val_main_call2_v2, val_main_call2_v1, val_main_call2_v0, val_main_v266, val_main_v265, val_main_v264, val_main_v263, val_main_call1_v5, val_main_call1_v4, val_main_call1_v3, val_main_call1_v2, val_main_call1_v1, val_main_call1_v0, v262_at]

end Cert.ConvProof

end
-- ==== Proof.ConvEq.lean ====
module

public import proofs.«01_k».proof.Defs
public import proofs.«01_k».proof.Proof.Softmax
public import proofs.«01_k».proof.Proof.ConvZ
public import proofs.«01_k».proof.Proof.ConvRef

/-! The convolution module's two computations compared, with no program in sight: a block's rows with their halo are a
part of the padded sequence, and sixteen sums over lanes are one sum over channels. -/

@[expose] public section

set_option maxRecDepth 16384

noncomputable section

namespace Cert.ConvProof

open Idealize.ShloMosaic Idealize.ShloMosaic.TcCoe Idealize.SL.Sem
open Cert.ConvIdeal Cert.ConvIdeal.KernelValue

/-- Half a hyperbolic tangent of half the argument plus a half is the logistic function. -/
theorem sg_eq (g : EReal) : sg g = Ideal.div 1 (1 + Ideal.exp (-g)) := by
  unfold sg
  rw [Cert.Core.bits_half]
  induction g using EReal.rec with
  | bot =>
    rw [EReal.coe_mul_bot_of_pos (by norm_num), Ideal.tanh_bot, EReal.neg_bot, Ideal.exp_top, ← EReal.coe_one,
      ← EReal.coe_neg, ← EReal.coe_mul, ← EReal.coe_add, EReal.coe_add_top, EReal.coe_one]
    norm_num [Ideal.div]
  | coe r =>
    rw [← EReal.coe_mul, Ideal.tanh_coe, ← EReal.coe_neg, Ideal.exp_coe, ← EReal.coe_one, ← EReal.coe_add,
      Ideal.div_coe (by positivity), ← EReal.coe_mul, ← EReal.coe_add, ← EReal.coe_mul]
    congr 1
    have h1 : Real.exp (-r) = Real.exp (-(1 / 2 * r)) * Real.exp (-(1 / 2 * r)) := by rw [← Real.exp_add]; ring_nf
    have h2 : Real.exp (1 / 2 * r) * Real.exp (-(1 / 2 * r)) = 1 := by rw [← Real.exp_add]; simp
    rw [Real.tanh_eq_sinh_div_cosh, Real.sinh_eq, Real.cosh_eq, h1]
    have p2 := Real.exp_pos (-(1 / 2 * r))
    have e : Real.exp (1 / 2 * r) = (Real.exp (-(1 / 2 * r)))⁻¹ := eq_inv_of_mul_eq_one_left h2
    rw [e]
    generalize Real.exp (-(1 / 2 * r)) = t at p2 ⊢
    field_simp
    ring
  | top =>
    rw [EReal.coe_mul_top_of_pos (by norm_num), Ideal.tanh_top, EReal.neg_top, Ideal.exp_bot, add_zero,
      ← EReal.coe_one, Ideal.div_coe one_ne_zero, ← EReal.coe_mul, ← EReal.coe_add, ← EReal.coe_mul]
    norm_num

/-- A number times its logistic function, written either way. -/
theorem sl_eq (x : EReal) : x * sg x = sl x := congrArg (x * ·) (sg_eq x)

/-- One sum over the channels is a sum over the lanes of the sixteen chunks' sum. -/
theorem sum_chan (f : Fin 2048 → EReal) : ∑ k : Fin 2048, f k = ∑ l : Fin 128, (f (chan 0 l) + f (chan 1 l) + f (chan 2 l) + f (chan 3 l) + f (chan 4 l) + f (chan 5 l) + f (chan 6 l) + f (chan 7 l) + f (chan 8 l) + f (chan 9 l) + f (chan 10 l) + f (chan 11 l) + f (chan 12 l) + f (chan 13 l) + f (chan 14 l) + f (chan 15 l)) := by
  have h : ∑ k : Fin 2048, f k = ∑ p : Fin 16 × Fin 128, f (chan p.1 p.2) := by
    symm
    refine Fintype.sum_equiv (finProdFinEquiv (m := 16) (n := 128)) _ _ fun p => congrArg f (Fin.ext ?_)
    show p.1.val * 128 + p.2.val = p.2.val + 128 * p.1.val
    omega
  rw [h, Fintype.sum_prod_type_right]
  refine Finset.sum_congr rfl fun l _ => ?_
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_eight]
  rfl

/-- Normalisation by chunks is normalisation. -/
theorem lnv_eq (C : Vec Ideal S16x256x128 .f32) (g b : Vec Ideal S1x2048 .f32) (r : Fin 256) (f G B : Fin 2048 → EReal)
    (hC : ∀ cc l, C (ix3 cc r l) = f (chan cc l)) (hg : ∀ k, g (ix2 0 k) = G k) (hb : ∀ k, b (ix2 0 k) = B k) (ch : Fin 2048) :
    lnv C g b r ch = lnr f G B ch := by
  have hm : mean C r = mu f := by
    unfold mean mu
    rw [sum_chan]
    simp only [hC]
  have hr : root C r = Ideal.rsqrt (Ideal.div (∑ k : Fin 2048, (f k - mu f) * (f k - mu f)) (Ideal.ofBits .f32 0x45000000#32) + Ideal.ofBits .f32 0x358637BD#32) := by
    unfold root
    rw [sum_chan fun k => (f k - mu f) * (f k - mu f)]
    simp only [hC, hm]
  unfold lnv lnr
  rw [hC, hm, hr, hg, hb]
  have e : chan ⟨ch.val / 128, by omega⟩ ⟨ch.val % 128, by omega⟩ = ch := Fin.ext (by show ch.val / 128 * 128 + ch.val % 128 = ch.val; omega)
  rw [e]

/-- **A block's rows with their halo** are a part of the padded sequence. -/
theorem halo_eq (u : FVec Ideal S8192x14336 .bf16) (T : Fin 32) (kp kn : EReal) (x0 x1 : Vec Ideal S256x2048 .bf16) (x2 x3 x4 x5 : Vec Ideal S16x2048 .bf16)
    (hp : kp = if T.val % 8 = 0 then 0 else 1) (hn : kn = if T.val % 8 = 7 then 0 else 1)
    (h0 : ∀ (r : Fin 256) (ch : Fin 2048) (R : Fin 8192) (C : Fin 14336), R.val = T.val * 256 + r.val → C.val = 6144 + ch.val → x0 (ix2 r ch) = u (ix2 R C))
    (h1 : ∀ (r : Fin 256) (ch : Fin 2048) (R : Fin 8192) (C : Fin 14336), R.val = T.val * 256 + r.val → C.val = 8192 + ch.val → x1 (ix2 r ch) = u (ix2 R C))
    (h2 : ∀ (r : Fin 16) (ch : Fin 2048) (R : Fin 8192) (C : Fin 14336), R.val = (T.val * 16 - 1) * 16 + r.val → C.val = 6144 + ch.val → x2 (ix2 r ch) = u (ix2 R C))
    (h3 : ∀ (r : Fin 16) (ch : Fin 2048) (R : Fin 8192) (C : Fin 14336), R.val = (T.val * 16 - 1) * 16 + r.val → C.val = 8192 + ch.val → x3 (ix2 r ch) = u (ix2 R C))
    (h4 : ∀ (r : Fin 16) (ch : Fin 2048) (R : Fin 8192) (C : Fin 14336), R.val = (min ((T.val + 1) * 16) 511) * 16 + r.val → C.val = 6144 + ch.val → x4 (ix2 r ch) = u (ix2 R C))
    (h5 : ∀ (r : Fin 16) (ch : Fin 2048) (R : Fin 8192) (C : Fin 14336), R.val = (min ((T.val + 1) * 16) 511) * 16 + r.val → C.val = 8192 + ch.val → x5 (ix2 r ch) = u (ix2 R C))
    (cc : Fin 16) (q : Fin 288) (l : Fin 128) (n : Fin 4) (p : Fin 2078) (hn4 : n.val = T.val / 8) (hq : p.val + 1 = T.val % 8 * 256 + q.val) :
    halo kp kn x0 x1 x2 x3 x4 x5 (ix3 cc q l) = padded u n p (chan cc l) := by
  have hT := T.isLt
  have hqq := q.isLt
  by_cases c1 : q.val < 16
  · refine (halo_top kp kn x0 x1 x2 x3 x4 x5 cc ⟨q.val, c1⟩ q (Nat.zero_add _).symm l).trans ?_
    rw [hp]
    unfold padded
    by_cases c2 : T.val % 8 = 0
    · rw [if_pos c2, zero_mul, dif_neg (by omega)]
    · have c3 : 15 ≤ p.val ∧ p.val < 2063 := by omega
      rw [if_neg c2, one_mul, dif_pos c3, sg_eq]
      unfold glu
      rw [h2 ⟨q.val, c1⟩ (chan cc l) (rowOf n ⟨p.val - 15, by omega⟩) ⟨6144 + (chan cc l).val, by omega⟩ (by show n.val * 2048 + (p.val - 15) = (T.val * 16 - 1) * 16 + q.val; omega) rfl,
        h3 ⟨q.val, c1⟩ (chan cc l) (rowOf n ⟨p.val - 15, by omega⟩) ⟨6144 + (2048 + (chan cc l).val), by omega⟩ (by show n.val * 2048 + (p.val - 15) = (T.val * 16 - 1) * 16 + q.val; omega) (by show 6144 + (2048 + (chan cc l).val) = 8192 + (chan cc l).val; omega)]
  · by_cases c2 : q.val < 272
    · have c3 : 15 ≤ p.val ∧ p.val < 2063 := by omega
      refine (halo_mid kp kn x0 x1 x2 x3 x4 x5 cc ⟨q.val - 16, by omega⟩ q (by show q.val = 16 + (q.val - 16); omega) l).trans ?_
      unfold padded
      rw [dif_pos c3, sg_eq]
      unfold glu
      rw [h0 ⟨q.val - 16, by omega⟩ (chan cc l) (rowOf n ⟨p.val - 15, by omega⟩) ⟨6144 + (chan cc l).val, by omega⟩ (by show n.val * 2048 + (p.val - 15) = T.val * 256 + (q.val - 16); omega) rfl,
        h1 ⟨q.val - 16, by omega⟩ (chan cc l) (rowOf n ⟨p.val - 15, by omega⟩) ⟨6144 + (2048 + (chan cc l).val), by omega⟩ (by show n.val * 2048 + (p.val - 15) = T.val * 256 + (q.val - 16); omega) (by show 6144 + (2048 + (chan cc l).val) = 8192 + (chan cc l).val; omega)]
    · refine (halo_bot kp kn x0 x1 x2 x3 x4 x5 cc ⟨q.val - 272, by omega⟩ q (by show q.val = 272 + (q.val - 272); omega) l).trans ?_
      rw [hn]
      unfold padded
      by_cases c4 : T.val % 8 = 7
      · rw [if_pos c4, zero_mul, dif_neg (by omega)]
      · have c3 : 15 ≤ p.val ∧ p.val < 2063 := by omega
        have c5 : n.val * 2048 + (p.val - 15) = (min ((T.val + 1) * 16) 511) * 16 + (q.val - 272) := by
          have : min ((T.val + 1) * 16) 511 = (T.val + 1) * 16 := by omega
          omega
        rw [if_neg c4, one_mul, dif_pos c3, sg_eq]
        unfold glu
        rw [h4 ⟨q.val - 272, by omega⟩ (chan cc l) (rowOf n ⟨p.val - 15, by omega⟩) ⟨6144 + (chan cc l).val, by omega⟩ c5 rfl,
          h5 ⟨q.val - 272, by omega⟩ (chan cc l) (rowOf n ⟨p.val - 15, by omega⟩) ⟨6144 + (2048 + (chan cc l).val), by omega⟩ c5 (by show 6144 + (2048 + (chan cc l).val) = 8192 + (chan cc l).val; omega)]

/-- **The taps over a block** are the reference's taps. -/
theorem conv_eq (u : FVec Ideal S8192x14336 .bf16) (dw : FVec Ideal S1x31x2048 .f32) (b : FVec Ideal S1x2048 .f32) (d : Vec Ideal S16x32x128 .f32) (x8 : Vec Ideal S16x1x128 .f32)
    (H : Vec Ideal S16x288x128 .f32) (n : Fin 4) (t : Fin 2048) (r : Fin 256) (cc : Fin 16) (l : Fin 128)
    (hd : ∀ (k : Fin 32) (k' : Fin 31), k.val = k'.val → d (ix3 cc k l) = dw (ix3 0 k' (chan cc l)))
    (h8 : x8 (ix3 cc 0 l) = b (ix2 0 (chan cc l)))
    (hH : ∀ (k : ℕ) (q : Fin 288) (p : Fin 2078), q.val = r.val + (k + 1) → p.val = k + t.val → H (ix3 cc q l) = padded u n p (chan cc l)) :
    conv d x8 H (ix3 cc r l) = taps u dw b n t (chan cc l) := by
  have tap : ∀ (k : ℕ) (kk : Fin 32) (k' : Fin 31) (q : Fin 288) (p : Fin 2078), kk.val = k'.val → q.val = r.val + (k + 1) → p.val = k + t.val →
      d (ix3 cc kk l) * H (ix3 cc q l) = padded u n p (chan cc l) * dw (ix3 0 k' (chan cc l)) := fun k kk k' q p e1 e2 e3 => by
    rw [hd kk k' e1, hH k q p e2 e3, mul_comm]
  unfold conv taps
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (tap 0 _ _ _ _ rfl rfl (Nat.zero_add _).symm) (tap 1 _ _ _ _ rfl rfl rfl)) (tap 2 _ _ _ _ rfl rfl rfl)) (tap 3 _ _ _ _ rfl rfl rfl)) (tap 4 _ _ _ _ rfl rfl rfl)) (tap 5 _ _ _ _ rfl rfl rfl)) (tap 6 _ _ _ _ rfl rfl rfl)) (tap 7 _ _ _ _ rfl rfl rfl)) (tap 8 _ _ _ _ rfl rfl rfl)) (tap 9 _ _ _ _ rfl rfl rfl)) (tap 10 _ _ _ _ rfl rfl rfl)) (tap 11 _ _ _ _ rfl rfl rfl)) (tap 12 _ _ _ _ rfl rfl rfl)) (tap 13 _ _ _ _ rfl rfl rfl)) (tap 14 _ _ _ _ rfl rfl rfl)) (tap 15 _ _ _ _ rfl rfl rfl)) (tap 16 _ _ _ _ rfl rfl rfl)) (tap 17 _ _ _ _ rfl rfl rfl)) (tap 18 _ _ _ _ rfl rfl rfl)) (tap 19 _ _ _ _ rfl rfl rfl)) (tap 20 _ _ _ _ rfl rfl rfl)) (tap 21 _ _ _ _ rfl rfl rfl)) (tap 22 _ _ _ _ rfl rfl rfl)) (tap 23 _ _ _ _ rfl rfl rfl)) (tap 24 _ _ _ _ rfl rfl rfl)) (tap 25 _ _ _ _ rfl rfl rfl)) (tap 26 _ _ _ _ rfl rfl rfl)) (tap 27 _ _ _ _ rfl rfl rfl)) (tap 28 _ _ _ _ rfl rfl rfl)) (tap 29 _ _ _ _ rfl rfl rfl)) (tap 30 _ _ _ _ rfl rfl rfl)) h8

/-- **A block's result** is the reference's, entry by entry. -/
theorem outv_eq (u : FVec Ideal S8192x14336 .bf16) (dw : FVec Ideal S1x31x2048 .f32) (b g o : FVec Ideal S1x2048 .f32) (w : FVec Ideal S2048x2048 .bf16)
    (C : Vec Ideal S16x256x128 .f32) (x9 x10 : Vec Ideal S1x2048 .f32) (x11 : Vec Ideal S2048x2048 .bf16) (x6 : Vec Ideal S256x2048 .bf16)
    (n : Fin 4) (t : Fin 2048) (r : Fin 256) (e : Fin 2048)
    (hC : ∀ cc l, C (ix3 cc r l) = taps u dw b n t (chan cc l)) (h9 : ∀ k, x9 (ix2 0 k) = g (ix2 0 k)) (h10 : ∀ k, x10 (ix2 0 k) = o (ix2 0 k))
    (h11 : ∀ k, x11 (ix2 k e) = w (ix2 k e)) (h6 : x6 (ix2 r e) = u (ix2 (rowOf n t) ⟨10240 + (2048 + e.val), by omega⟩)) :
    outv C x9 x10 x11 x6 r e = resv u dw b g o w n t e := by
  unfold outv resv
  rw [sl_eq, h6]
  refine congrArg (· * _) (Finset.sum_congr rfl fun k _ => ?_)
  rw [h11]
  refine congrArg (· * _) ?_
  show lnv C x9 x10 r k * sg (lnv C x9 x10 r k) = _
  rw [sl_eq, lnv_eq C x9 x10 r (taps u dw b n t) (fun k => g (ix2 0 k)) (fun k => o (ix2 0 k)) hC h9 h10 k]

end Cert.ConvProof

end
-- ==== Proof.Conv.lean ====
module

public import proofs.«01_k».proof.Defs
public import proofs.«01_k».proof.Proof.Gen.ConvIdeal.Value
public import proofs.«01_k».proof.Proof.Gen.ConvRefIdeal.Read
public import proofs.«01_k».proof.Proof.Gen.ConvRefIdeal.Run
public import proofs.«01_k».proof.Proof.ConvEq
public import Idealize.ShloMosaic.Lib.Pipeline.ValueKit
public import Idealize.ShloMosaic.Lib.Claim
public import Idealize.ShloMosaic.Lib.KernelVsHost

/-! The sample's convolution module with its gate: every row block of the kernel's result is the reference's. -/

@[expose] public section

set_option maxRecDepth 16384

noncomputable section

namespace Cert.ConvIdeal.KernelValue

open Idealize.ShloMosaic Idealize.ShloMosaic.TcCoe Idealize.SL.Sem
open Cert.ConvIdeal Cert.ConvIdeal.Gen Cert.ConvProof

variable (m : (ℓ : Loc nD τ sig) → Buf (Elt Ideal) ℓ)

/-- The block indices of the windows at a grid point. -/
theorem idx : ∀ t : Fin cfg0.N, win0_0.index t = ![t.val, 3] ∧ win0_1.index t = ![t.val, 4] ∧ win0_2.index t = ![t.val * 16 - 1, 3]
    ∧ win0_3.index t = ![t.val * 16 - 1, 4] ∧ win0_4.index t = ![min ((t.val + 1) * 16) 511, 3] ∧ win0_5.index t = ![min ((t.val + 1) * 16) 511, 4]
    ∧ win0_6.index t = ![t.val, 6] ∧ win0_7.index t = ![0, 0, 0] ∧ win0_8.index t = ![0, 0, 0] ∧ win0_9.index t = ![0, 0] ∧ win0_10.index t = ![0, 0]
    ∧ win0_11.index t = ![0, 0] ∧ win0_12.index t = ![t.val, 0] :=
  (by decide +kernel : ∀ t : Fin grid0.N, _)

/-- The word that says a block is not its sequence's first. -/
def word50 (i : grid0.Coords) : BitVec 32 :=
  let arg0 : BitVec 32 := BitVec.ofNat 32 (i 0).val
  let v0 : BitVec 1 := Scalar.cmpi .eq 8#32 0#32
  let v1 : BitVec 32 := Scalar.select v0 1#32 8#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  let v10 : BitVec 1 := Scalar.cmpi .sgt v9 0#32
  let v11 : BitVec 32 := Scalar.extui v10
  v11

/-- The word that says a block is not its sequence's last. -/
def word51 (i : grid0.Coords) : BitVec 32 :=
  let arg0 : BitVec 32 := BitVec.ofNat 32 (i 0).val
  let v0 : BitVec 1 := Scalar.cmpi .eq 8#32 0#32
  let v1 : BitVec 32 := Scalar.select v0 1#32 8#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  let v13 : BitVec 1 := Scalar.cmpi .slt v9 7#32
  let v14 : BitVec 32 := Scalar.extui v13
  v14

/-- The two words at a grid point. -/
theorem words : ∀ t : Fin cfg0.N, (word50 (grid0.coords t)).toInt = (if t.val % 8 = 0 then 0 else 1) ∧ (word51 (grid0.coords t)).toInt = (if t.val % 8 = 7 then 0 else 1) :=
  (by decide +kernel : ∀ t : Fin grid0.N, _)

/-- The factor of the rows above is zero at a sequence's first block and one elsewhere. -/
theorem keep_prev (t : Fin cfg0.N) : k0_pay50 (F := Ideal) (grid0.coords t) = if t.val % 8 = 0 then 0 else 1 := by
  have h : k0_pay50 (F := Ideal) (grid0.coords t) = (((word50 (grid0.coords t)).toInt : ℝ) : EReal) := rfl
  rw [h, (words t).1]
  split <;> norm_num

/-- The factor of the rows below is zero at a sequence's last block and one elsewhere. -/
theorem keep_next (t : Fin cfg0.N) : k0_pay51 (F := Ideal) (grid0.coords t) = if t.val % 8 = 7 then 0 else 1 := by
  have h : k0_pay51 (F := Ideal) (grid0.coords t) = (((word51 (grid0.coords t)).toInt : ℝ) : EReal) := rfl
  rw [h, (words t).2]
  split <;> norm_num

/-- The projected tokens as launched. -/
def U (c : Dev nD) : FVec Ideal S8192x14336 .bf16 := m ((c : Thread nD τ).loc main_arg0)

/-- The taps' weights as launched. -/
def Dw (c : Dev nD) : FVec Ideal S1x31x2048 .f32 := m ((c : Thread nD τ).loc main_arg1)

/-- The taps' bias as launched. -/
def Bw (c : Dev nD) : FVec Ideal S1x2048 .f32 := m ((c : Thread nD τ).loc main_arg2)

/-- The gains as launched. -/
def Gw (c : Dev nD) : FVec Ideal S1x2048 .f32 := m ((c : Thread nD τ).loc main_arg3)

/-- The offsets as launched. -/
def Ow (c : Dev nD) : FVec Ideal S1x2048 .f32 := m ((c : Thread nD τ).loc main_arg4)

/-- The pointwise weight as launched. -/
def Wp (c : Dev nD) : FVec Ideal S2048x2048 .bf16 := m ((c : Thread nD τ).loc main_arg5)

/-- The block's rows, first half. -/
theorem blk0 (c : Dev nD) (t : Fin cfg0.N) (r : Fin 256) (k : Fin 2048) (R : Fin 8192) (C : Fin 14336) (hR : R.val = t.val * 256 + r.val) (hC : C.val = 6144 + k.val) :
    (show Vec Ideal S256x2048 .bf16 from iblk m c 0 t) (ix2 r k) = U m c (ix2 R C) := by
  unfold U
  blk_ext [iblk, V_main_arg0, idx t]

/-- The block's rows, second half. -/
theorem blk1 (c : Dev nD) (t : Fin cfg0.N) (r : Fin 256) (k : Fin 2048) (R : Fin 8192) (C : Fin 14336) (hR : R.val = t.val * 256 + r.val) (hC : C.val = 8192 + k.val) :
    (show Vec Ideal S256x2048 .bf16 from iblk m c 1 t) (ix2 r k) = U m c (ix2 R C) := by
  unfold U
  blk_ext [iblk, V_main_arg0, idx t]

/-- The rows above, first half. -/
theorem blk2 (c : Dev nD) (t : Fin cfg0.N) (r : Fin 16) (k : Fin 2048) (R : Fin 8192) (C : Fin 14336) (hR : R.val = (t.val * 16 - 1) * 16 + r.val) (hC : C.val = 6144 + k.val) :
    (show Vec Ideal S16x2048 .bf16 from iblk m c 2 t) (ix2 r k) = U m c (ix2 R C) := by
  unfold U
  blk_ext [iblk, V_main_arg0, idx t]

/-- The rows above, second half. -/
theorem blk3 (c : Dev nD) (t : Fin cfg0.N) (r : Fin 16) (k : Fin 2048) (R : Fin 8192) (C : Fin 14336) (hR : R.val = (t.val * 16 - 1) * 16 + r.val) (hC : C.val = 8192 + k.val) :
    (show Vec Ideal S16x2048 .bf16 from iblk m c 3 t) (ix2 r k) = U m c (ix2 R C) := by
  unfold U
  blk_ext [iblk, V_main_arg0, idx t]

/-- The rows below, first half. -/
theorem blk4 (c : Dev nD) (t : Fin cfg0.N) (r : Fin 16) (k : Fin 2048) (R : Fin 8192) (C : Fin 14336) (hR : R.val = (min ((t.val + 1) * 16) 511) * 16 + r.val) (hC : C.val = 6144 + k.val) :
    (show Vec Ideal S16x2048 .bf16 from iblk m c 4 t) (ix2 r k) = U m c (ix2 R C) := by
  unfold U
  blk_ext [iblk, V_main_arg0, idx t]

/-- The rows below, second half. -/
theorem blk5 (c : Dev nD) (t : Fin cfg0.N) (r : Fin 16) (k : Fin 2048) (R : Fin 8192) (C : Fin 14336) (hR : R.val = (min ((t.val + 1) * 16) 511) * 16 + r.val) (hC : C.val = 8192 + k.val) :
    (show Vec Ideal S16x2048 .bf16 from iblk m c 5 t) (ix2 r k) = U m c (ix2 R C) := by
  unfold U
  blk_ext [iblk, V_main_arg0, idx t]

/-- The gate's block. -/
theorem blk6 (c : Dev nD) (t : Fin cfg0.N) (r : Fin 256) (k : Fin 2048) (R : Fin 8192) (C : Fin 14336) (hR : R.val = t.val * 256 + r.val) (hC : C.val = 12288 + k.val) :
    (show Vec Ideal S256x2048 .bf16 from iblk m c 6 t) (ix2 r k) = U m c (ix2 R C) := by
  unfold U
  blk_ext [iblk, V_main_arg0, idx t]

/-- The taps' weights padded by a row, cut into chunks and turned, at an index. -/
theorem dw_at (x : FVec Ideal S1x31x2048 .f32) (v : FVec Ideal S_ .f32) (cc : Fin 16) (k : Fin 32) (k' : Fin 31) (l : Fin 128) (hk : k.val = k'.val) :
    transpose S16x32x128 [1, 0, 2] (shapeCast S32x16x128 (pad S32x2048 ![0, 0] ![1, 0] ![0, 0] (shapeCast S31x2048 x shapeCasts_S1x31x2048_S31x2048) v pads_S31x2048_S32x2048_010_000 h_S_) shapeCasts_S32x2048_S32x16x128) transposes_S32x16x128_S16x32x128_1_0_2 (ix3 cc k l)
      = x (ix3 0 k' (chan cc l)) := by
  have h : ∀ ch : Fin 2048, pad S32x2048 ![0, 0] ![1, 0] ![0, 0] (shapeCast S31x2048 x shapeCasts_S1x31x2048_S31x2048) v pads_S31x2048_S32x2048_010_000 h_S_ (ix2 k ch) = x (ix3 0 k' ch) := fun ch => by
    have h2 : x (ix3 0 k' ch) = shapeCast S31x2048 x shapeCasts_S1x31x2048_S31x2048 (ix2 k' ch) := by pointwise
    rw [h2]
    refine pad_apply_of_inside _ _ _ _ _ _ _ _ _ fun a => ?_
    match a with
    | ⟨0, _⟩ => show k.val = 0 + k'.val * (0 + 1); omega
    | ⟨1, _⟩ => show ch.val = 0 + ch.val * (0 + 1); omega
  rw [← h (chan cc l)]
  generalize pad S32x2048 ![0, 0] ![1, 0] ![0, 0] (shapeCast S31x2048 x shapeCasts_S1x31x2048_S31x2048) v pads_S31x2048_S32x2048_010_000 h_S_ = P
  unfold chan
  pointwise

/-- The taps' weights by chunk, tap and lane; the last of the thirty-two rows is padding. -/
theorem blk7 (c : Dev nD) (t : Fin cfg0.N) (cc : Fin 16) (k : Fin 32) (k' : Fin 31) (l : Fin 128) (hk : k.val = k'.val) :
    (show Vec Ideal S16x32x128 .f32 from iblk m c 7 t) (ix3 cc k l) = Dw m c (ix3 0 k' (chan cc l)) := by
  have h : (show FVec Ideal S16x32x128 .f32 from V m c main_v6) (ix3 cc k l) = Dw m c (ix3 0 k' (chan cc l)) := by
    unfold Dw
    unfold V
    simp only [hostOps0, hostOps0_1, hostOps0_2, List.flatten_cons, List.flatten_nil, List.append_nil, List.cons_append, List.nil_append]
    entry_read
    exact dw_at _ _ cc k k' l hk
  rw [← h]
  blk_ext [iblk, idx t]

/-- The taps' bias by chunk and lane. -/
theorem blk8 (c : Dev nD) (t : Fin cfg0.N) (cc : Fin 16) (l : Fin 128) :
    (show Vec Ideal S16x1x128 .f32 from iblk m c 8 t) (ix3 cc 0 l) = Bw m c (ix2 0 (chan cc l)) := by
  have h : (show FVec Ideal S16x1x128 .f32 from V m c main_v7) (ix3 cc 0 l) = Bw m c (ix2 0 (chan cc l)) := by
    unfold Bw chan
    unfold V
    simp only [hostOps0, hostOps0_1, hostOps0_2, List.flatten_cons, List.flatten_nil, List.append_nil, List.cons_append, List.nil_append]
    entry_read
    pointwise
  rw [← h]
  blk_ext [iblk, idx t]

/-- The gains' block. -/
theorem blk9 (c : Dev nD) (t : Fin cfg0.N) (k : Fin 2048) : (show Vec Ideal S1x2048 .f32 from iblk m c 9 t) (ix2 0 k) = Gw m c (ix2 0 k) := by
  have h : ∀ k : Fin 2048, (show FVec Ideal S1x2048 .f32 from V m c main_v8) (ix2 0 k) = Gw m c (ix2 0 k) := by
    intro k
    unfold Gw
    unfold V
    simp only [hostOps0, hostOps0_1, hostOps0_2, List.flatten_cons, List.flatten_nil, List.append_nil, List.cons_append, List.nil_append]
    entry_read
    pointwise
  rw [← h]
  blk_ext [iblk, idx t]

/-- The offsets' block. -/
theorem blk10 (c : Dev nD) (t : Fin cfg0.N) (k : Fin 2048) : (show Vec Ideal S1x2048 .f32 from iblk m c 10 t) (ix2 0 k) = Ow m c (ix2 0 k) := by
  have h : ∀ k : Fin 2048, (show FVec Ideal S1x2048 .f32 from V m c main_v9) (ix2 0 k) = Ow m c (ix2 0 k) := by
    intro k
    unfold Ow
    unfold V
    simp only [hostOps0, hostOps0_1, hostOps0_2, List.flatten_cons, List.flatten_nil, List.append_nil, List.cons_append, List.nil_append]
    entry_read
    pointwise
  rw [← h]
  blk_ext [iblk, idx t]

/-- The pointwise weight's block. -/
theorem blk11 (c : Dev nD) (t : Fin cfg0.N) (k e : Fin 2048) : (show Vec Ideal S2048x2048 .bf16 from iblk m c 11 t) (ix2 k e) = Wp m c (ix2 k e) := by
  unfold Wp
  blk_ext [iblk, V_main_arg5, idx t]

/-- The result, by row of all sequences and column. -/
def res (c : Dev nD) (R : Fin 8192) (e : Fin 2048) : EReal :=
  resv (U m c) (Dw m c) (Bw m c) (Gw m c) (Ow m c) (Wp m c) ⟨R.val / 2048, by omega⟩ ⟨R.val % 2048, by omega⟩ e

/-- A row block's point, at an index, is the result at the row's place. -/
theorem point (c : Dev nD) (t : Fin cfg0.N) (r : Fin 256) (e : Fin 2048) (R : Fin 8192) (C : Fin 2048) (hR : R.val = t.val * 256 + r.val) (hC : C = e) :
    outv (conv (iblk m c 7 t) (iblk m c 8 t) (halo (k0_pay50 (F := Ideal) (grid0.coords t)) (k0_pay51 (F := Ideal) (grid0.coords t)) (iblk m c 0 t) (iblk m c 1 t) (iblk m c 2 t) (iblk m c 3 t) (iblk m c 4 t) (iblk m c 5 t)))
      (iblk m c 9 t) (iblk m c 10 t) (iblk m c 11 t) (iblk m c 6 t) r e = res m c R C := by
  subst hC
  have ht : t.val < 32 := t.isLt
  have hr := r.isLt
  unfold res
  refine outv_eq _ _ _ _ _ _ _ _ _ _ _ _ _ r C (fun cc l => ?_) (blk9 m c t) (blk10 m c t) (fun k => blk11 m c t k C)
    (blk6 m c t r C _ _ (by show R.val / 2048 * 2048 + R.val % 2048 = t.val * 256 + r.val; omega) (by show 10240 + (2048 + C.val) = 12288 + C.val; omega))
  refine conv_eq _ _ _ _ _ _ _ _ r cc l (fun k k' hk => blk7 m c t cc k k' l hk) (blk8 m c t cc l) (fun k q p hq hp => ?_)
  refine halo_eq _ ⟨t.val, ht⟩ _ _ _ _ _ _ _ _ (keep_prev t) (keep_next t) (blk0 m c t) (blk1 m c t) (blk2 m c t) (blk3 m c t) (blk4 m c t) (blk5 m c t) cc q l _ p ?_ ?_
  · show R.val / 2048 = t.val / 8
    omega
  · show p.val + 1 = t.val % 8 * 256 + q.val
    have hp' : p.val = k + R.val % 2048 := hp
    omega

/-- **The kernel's result.** -/
theorem final (c : Dev nD) : (dats m 0 c).arrAt 12 (cfgs 0).N = fun i : S8192x2048.Idx => res m c (i 0) (i 1) := by
  refine (dats m 0 c).arrAt_eq_of_covers 12 _ (by decide +kernel) fun t _ y => ?_
  blk_simp
  rw [after0_12]
  unfold outsAt0
  idx_vars y
  refine (out_at _ _ _ _ _ _ _ _ _ _ _ _ _ _ _ _ _ _ _ _ _ _ _ _ _ _ _ _ _ _ _ _ _ _ _ _ _ _ _ _ _ _ _ _ _ _ _ _).trans (point m c t _ _ _ _ ?_ (Fin.ext ?_))
  all_goals (try blk_simp [idx t]) <;> (try dsimp only) <;> first | rfl | omega

end Cert.ConvIdeal.KernelValue

namespace Cert.ConvProof

open Idealize.ShloMosaic Idealize.ShloMosaic.TcCoe Idealize.SL.Sem

/-- **The claim of equal values**: the result is the reference's. -/
theorem algebraic : Cert.algebraic_ConvIdeal_ConvRefIdeal := by
  intro m g m' g' _ hagree
  refine ⟨fun c => (Cert.ConvIdeal.Gen.dats m 0 c).arrAt 12 Cert.ConvIdeal.cfg0.N, Cert.ConvIdeal.Value.run_blocks m g, ?_⟩
  refine (θ_run Cert.ConvRefIdeal.defs _ _).mono (fun r h c => ?_) (Cert.ConvRefIdeal.Value.run (F := Ideal) m' g')
  obtain ⟨h0, ha⟩ := h c
  obtain ⟨a0, a1, a2, a3, a4, a5⟩ := hagree c
  refine ⟨h0.trans ?_, ha⟩
  rw [Cert.ConvRefIdeal.Read.val_main_v270_eq]
  change Cert.ConvRefIdeal.Read.val_main_v270 (F := Ideal) (m' ((c : Thread Cert.ConvRefIdeal.nD Cert.ConvRefIdeal.τ).loc Cert.ConvRefIdeal.main_arg0)) (m' ((c : Thread Cert.ConvRefIdeal.nD Cert.ConvRefIdeal.τ).loc Cert.ConvRefIdeal.main_arg1)) (m' ((c : Thread Cert.ConvRefIdeal.nD Cert.ConvRefIdeal.τ).loc Cert.ConvRefIdeal.main_arg2)) (m' ((c : Thread Cert.ConvRefIdeal.nD Cert.ConvRefIdeal.τ).loc Cert.ConvRefIdeal.main_arg3)) (m' ((c : Thread Cert.ConvRefIdeal.nD Cert.ConvRefIdeal.τ).loc Cert.ConvRefIdeal.main_arg4)) (m' ((c : Thread Cert.ConvRefIdeal.nD Cert.ConvRefIdeal.τ).loc Cert.ConvRefIdeal.main_arg5)) = _
  rw [a0, a1, a2, a3, a4, a5]
  refine Eq.trans ?_ (Cert.ConvIdeal.KernelValue.final m c).symm
  funext i
  obtain ⟨R, C, rfl⟩ : ∃ (R : Fin 8192) (C : Fin 2048), i = ix2 R C := ⟨i 0, i 1, eq_ix2 i⟩
  exact ref_at _ _ _ _ _ _ R C

end Cert.ConvProof

end
-- ==== Proof.lean ====
module

public import proofs.«01_k».proof.Defs
public import proofs.«01_k».proof.Proof.Gen.Pre_gains_finite
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Attn
public import proofs.«01_k».proof.Proof.Gen.InEven
public import proofs.«01_k».proof.Proof.Gen.InEven.Frame
public import proofs.«01_k».proof.Proof.Gen.InEvenIdeal
public import proofs.«01_k».proof.Proof.Gen.InEvenIdeal.Frame
public import proofs.«01_k».proof.Proof.Gen.InEvenIdeal.Value
public import proofs.«01_k».proof.Proof.Gen.InEvenRefIdeal
public import proofs.«01_k».proof.Proof.Gen.InEvenRefIdeal.Run
public import proofs.«01_k».proof.Proof.Gen.InEvenRefIdeal.Read
public import proofs.«01_k».proof.Proof.InEven
public import proofs.«01_k».proof.Proof.Gen.InOdd
public import proofs.«01_k».proof.Proof.Gen.InOdd.Frame
public import proofs.«01_k».proof.Proof.Gen.InOddIdeal
public import proofs.«01_k».proof.Proof.Gen.InOddIdeal.Frame
public import proofs.«01_k».proof.Proof.Gen.InOddIdeal.Value
public import proofs.«01_k».proof.Proof.Gen.InOddRefIdeal
public import proofs.«01_k».proof.Proof.Gen.InOddRefIdeal.Run
public import proofs.«01_k».proof.Proof.Gen.InOddRefIdeal.Read
public import proofs.«01_k».proof.Proof.InOdd
public import proofs.«01_k».proof.Proof.Gen.OutPrompt
public import proofs.«01_k».proof.Proof.Gen.OutPrompt.Frame
public import proofs.«01_k».proof.Proof.Gen.OutPromptIdeal
public import proofs.«01_k».proof.Proof.Gen.OutPromptIdeal.Frame
public import proofs.«01_k».proof.Proof.Gen.OutPromptIdeal.Value
public import proofs.«01_k».proof.Proof.Gen.OutPromptRefIdeal
public import proofs.«01_k».proof.Proof.Gen.OutPromptRefIdeal.Run
public import proofs.«01_k».proof.Proof.Gen.OutPromptRefIdeal.Read
public import proofs.«01_k».proof.Proof.OutPrompt
public import proofs.«01_k».proof.Proof.Gen.OutSample
public import proofs.«01_k».proof.Proof.Gen.OutSample.Frame
public import proofs.«01_k».proof.Proof.Gen.OutSampleIdeal
public import proofs.«01_k».proof.Proof.Gen.OutSampleIdeal.Frame
public import proofs.«01_k».proof.Proof.Gen.OutSampleIdeal.Value
public import proofs.«01_k».proof.Proof.Gen.OutSampleRefIdeal
public import proofs.«01_k».proof.Proof.Gen.OutSampleRefIdeal.Run
public import proofs.«01_k».proof.Proof.Gen.OutSampleRefIdeal.Read
public import proofs.«01_k».proof.Proof.OutSample
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Ada
public import proofs.«01_k».proof.Proof.Gen.NormPrompt
public import proofs.«01_k».proof.Proof.Gen.NormPrompt.Frame
public import proofs.«01_k».proof.Proof.Gen.NormPromptIdeal
public import proofs.«01_k».proof.Proof.Gen.NormPromptIdeal.Frame
public import proofs.«01_k».proof.Proof.Gen.NormPromptIdeal.Value
public import proofs.«01_k».proof.Proof.Gen.NormPromptRefIdeal
public import proofs.«01_k».proof.Proof.Gen.NormPromptRefIdeal.Run
public import proofs.«01_k».proof.Proof.Gen.NormPromptRefIdeal.Read
public import proofs.«01_k».proof.Proof.NormPrompt
public import proofs.«01_k».proof.Proof.Gen.NormSample
public import proofs.«01_k».proof.Proof.Gen.NormSample.Frame
public import proofs.«01_k».proof.Proof.Gen.NormSampleIdeal
public import proofs.«01_k».proof.Proof.Gen.NormSampleIdeal.Frame
public import proofs.«01_k».proof.Proof.Gen.NormSampleIdeal.Value
public import proofs.«01_k».proof.Proof.Gen.NormSampleRefIdeal
public import proofs.«01_k».proof.Proof.Gen.NormSampleRefIdeal.Run
public import proofs.«01_k».proof.Proof.Gen.NormSampleRefIdeal.Read
public import proofs.«01_k».proof.Proof.NormSample
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Conv
public import Idealize.ShloMosaic.Adequacy
public import Idealize.ShloMosaic.Init

/-! The certificate: each program's frame, the named constant, and each program's claim of equal values. -/

@[expose] public section

noncomputable section

namespace Cert.Proof

open Idealize.ShloMosaic Idealize.SL.Sem Cert.Attn

/-- The reference of `Attn` leaves its arguments unchanged and every counter at zero. -/
theorem attnRef_frame : Cert.quiescent_AttnRefIdeal := fun m ρ _ =>
  (θ_run Cert.AttnRefIdeal.defs _ _).mono
    (fun r h => ⟨fun c => (h c).2.2.2, Idealize.ShloMosaic.sem_eq_zero_of_no_sems (by decide) r.2⟩)
    (Cert.AttnRefIdeal.Value.run (F := Ideal) m ρ)

/-- The reference of `InEven` leaves its arguments unchanged and every counter at zero. -/
theorem inEvenRef_frame : Cert.quiescent_InEvenRefIdeal := fun m ρ _ =>
  (θ_run Cert.InEvenRefIdeal.defs _ _).mono
    (fun r h => ⟨fun c => (h c).2.2.2, Idealize.ShloMosaic.sem_eq_zero_of_no_sems (by decide) r.2⟩)
    (Cert.InEvenRefIdeal.Value.run (F := Ideal) m ρ)

/-- The reference of `InOdd` leaves its arguments unchanged and every counter at zero. -/
theorem inOddRef_frame : Cert.quiescent_InOddRefIdeal := fun m ρ _ =>
  (θ_run Cert.InOddRefIdeal.defs _ _).mono
    (fun r h => ⟨fun c => (h c).2.2.2, Idealize.ShloMosaic.sem_eq_zero_of_no_sems (by decide) r.2⟩)
    (Cert.InOddRefIdeal.Value.run (F := Ideal) m ρ)

/-- The reference of `OutPrompt` leaves its arguments unchanged and every counter at zero. -/
theorem outPromptRef_frame : Cert.quiescent_OutPromptRefIdeal := fun m ρ _ =>
  (θ_run Cert.OutPromptRefIdeal.defs _ _).mono
    (fun r h => ⟨fun c => (h c).2, Idealize.ShloMosaic.sem_eq_zero_of_no_sems (by decide) r.2⟩)
    (Cert.OutPromptRefIdeal.Value.run (F := Ideal) m ρ)

/-- The reference of `OutSample` leaves its arguments unchanged and every counter at zero. -/
theorem outSampleRef_frame : Cert.quiescent_OutSampleRefIdeal := fun m ρ _ =>
  (θ_run Cert.OutSampleRefIdeal.defs _ _).mono
    (fun r h => ⟨fun c => (h c).2, Idealize.ShloMosaic.sem_eq_zero_of_no_sems (by decide) r.2⟩)
    (Cert.OutSampleRefIdeal.Value.run (F := Ideal) m ρ)

/-- The reference of `Ada` leaves its arguments unchanged and every counter at zero. -/
theorem adaRef_frame : Cert.quiescent_AdaRefIdeal := fun m ρ _ =>
  (θ_run Cert.AdaRefIdeal.defs _ _).mono
    (fun r h => ⟨fun c => (h c).2, Idealize.ShloMosaic.sem_eq_zero_of_no_sems (by decide) r.2⟩)
    (Cert.AdaRefIdeal.Value.run (F := Ideal) m ρ)

/-- The reference of `NormPrompt` leaves its arguments unchanged and every counter at zero. -/
theorem normPromptRef_frame : Cert.quiescent_NormPromptRefIdeal := fun m ρ _ =>
  (θ_run Cert.NormPromptRefIdeal.defs _ _).mono
    (fun r h => ⟨fun c => (h c).2, Idealize.ShloMosaic.sem_eq_zero_of_no_sems (by decide) r.2⟩)
    (Cert.NormPromptRefIdeal.Value.run (F := Ideal) m ρ)

/-- The reference of `NormSample` leaves its arguments unchanged and every counter at zero. -/
theorem normSampleRef_frame : Cert.quiescent_NormSampleRefIdeal := fun m ρ _ =>
  (θ_run Cert.NormSampleRefIdeal.defs _ _).mono
    (fun r h => ⟨fun c => (h c).2, Idealize.ShloMosaic.sem_eq_zero_of_no_sems (by decide) r.2⟩)
    (Cert.NormSampleRefIdeal.Value.run (F := Ideal) m ρ)

/-- The reference of `Conv` leaves its arguments unchanged and every counter at zero. -/
theorem convRef_frame : Cert.quiescent_ConvRefIdeal := fun m ρ _ =>
  (θ_run Cert.ConvRefIdeal.defs _ _).mono
    (fun r h => ⟨fun c => (h c).2, Idealize.ShloMosaic.sem_eq_zero_of_no_sems (by decide) r.2⟩)
    (Cert.ConvRefIdeal.Value.run (F := Ideal) m ρ)

/-- The certificate's claims. -/
theorem claim : Cert.Claim := ⟨Cert.Attn.Gen.facts,
  Cert.AttnIdeal.Gen.facts,
  Cert.AttnRefIdeal.Gen.facts,
  Cert.InEven.Gen.facts,
  Cert.InEvenIdeal.Gen.facts,
  Cert.InEvenRefIdeal.Gen.facts,
  Cert.InOdd.Gen.facts,
  Cert.InOddIdeal.Gen.facts,
  Cert.InOddRefIdeal.Gen.facts,
  Cert.OutPrompt.Gen.facts,
  Cert.OutPromptIdeal.Gen.facts,
  Cert.OutPromptRefIdeal.Gen.facts,
  Cert.OutSample.Gen.facts,
  Cert.OutSampleIdeal.Gen.facts,
  Cert.OutSampleRefIdeal.Gen.facts,
  Cert.Ada.Gen.facts,
  Cert.AdaIdeal.Gen.facts,
  Cert.AdaRefIdeal.Gen.facts,
  Cert.NormPrompt.Gen.facts,
  Cert.NormPromptIdeal.Gen.facts,
  Cert.NormPromptRefIdeal.Gen.facts,
  Cert.NormSample.Gen.facts,
  Cert.NormSampleIdeal.Gen.facts,
  Cert.NormSampleRefIdeal.Gen.facts,
  Cert.Conv.Gen.facts,
  Cert.ConvIdeal.Gen.facts,
  Cert.ConvRefIdeal.Gen.facts,
  Cert.Pre_gains_finite.Gen.facts,
  fun m ρ _ => Cert.Attn.Gen.frame m ρ,
  fun m ρ _ => Cert.AttnIdeal.Gen.frame m ρ,
  fun m ρ _ => Cert.AttnIdeal.Gen.frame m ρ,
  attnRef_frame,
  fun m ρ _ => attnRef_frame m ρ trivial,
  fun m ρ _ => Cert.InEven.Gen.frame m ρ,
  fun m ρ _ => Cert.InEvenIdeal.Gen.frame m ρ,
  inEvenRef_frame,
  fun m ρ _ => Cert.InOdd.Gen.frame m ρ,
  fun m ρ _ => Cert.InOddIdeal.Gen.frame m ρ,
  inOddRef_frame,
  fun m ρ _ => Cert.OutPrompt.Gen.frame m ρ,
  fun m ρ _ => Cert.OutPromptIdeal.Gen.frame m ρ,
  outPromptRef_frame,
  fun m ρ _ => Cert.OutSample.Gen.frame m ρ,
  fun m ρ _ => Cert.OutSampleIdeal.Gen.frame m ρ,
  outSampleRef_frame,
  fun m ρ _ => Cert.Ada.Gen.frame m ρ,
  fun m ρ _ => Cert.AdaIdeal.Gen.frame m ρ,
  adaRef_frame,
  fun m ρ _ => Cert.NormPrompt.Gen.frame m ρ,
  fun m ρ _ => Cert.NormPromptIdeal.Gen.frame m ρ,
  normPromptRef_frame,
  fun m ρ _ => Cert.NormSample.Gen.frame m ρ,
  fun m ρ _ => Cert.NormSampleIdeal.Gen.frame m ρ,
  normSampleRef_frame,
  fun m ρ _ => Cert.Conv.Gen.frame m ρ,
  fun m ρ _ => Cert.ConvIdeal.Gen.frame m ρ,
  convRef_frame,
  IdealRules.named_const.statement Cert.AttnIdeal.κ "q_scale" .f32 0x3E0293EE#32 _ rfl,
  Cert.AttnProof.algebraic,
  trivial,
  Cert.InEvenProof.algebraic,
  trivial,
  Cert.InOddProof.algebraic,
  trivial,
  Cert.OutPromptProof.algebraic,
  trivial,
  Cert.OutSampleProof.algebraic,
  trivial,
  Cert.AdaProof.algebraic,
  trivial,
  Cert.NormPromptProof.algebraic,
  trivial,
  Cert.NormSampleProof.algebraic,
  trivial,
  Cert.ConvProof.algebraic⟩

end Cert.Proof

end
